-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_above_mask [hPre_scores_above_mask : Cert.Pre_scores_above_mask.Facts] (m : (ℓ : Loc Cert.KernelIdeal.nD Cert.KernelIdeal.τ Cert.KernelIdeal.sig) → Buf (Elt Ideal) ℓ) : Prop :=
  ∀ c : Dev Cert.KernelIdeal.nD,
    (Cert.Pre_scores_above_mask.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_above_mask [hPre_scores_above_mask : Cert.Pre_scores_above_mask.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_above_mask.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_scores_above_mask [hKernelIdeal : Cert.KernelIdeal.Facts] [hPre_scores_above_mask : Cert.Pre_scores_above_mask.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_above_mask m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_scores_above_mask [hReferenceIdeal : Cert.ReferenceIdeal.Facts] [hPre_scores_above_mask : Cert.Pre_scores_above_mask.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_above_mask m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_scores_above_mask [hKernelIdeal : Cert.KernelIdeal.Facts] [hReferenceIdeal : Cert.ReferenceIdeal.Facts] [hPre_scores_above_mask : Cert.Pre_scores_above_mask.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_above_mask m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v209) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_scores_above_mask : Cert.Pre_scores_above_mask.Facts),
    quiescent_Kernel (hKernel := hKernel)
    ∧ quiescent_KernelIdeal (hKernelIdeal := hKernelIdeal)
    ∧ quiescent_KernelIdeal_pre_scores_above_mask (hKernelIdeal := hKernelIdeal) (hPre_scores_above_mask := hPre_scores_above_mask)
    ∧ quiescent_ReferenceIdeal (hReferenceIdeal := hReferenceIdeal)
    ∧ quiescent_ReferenceIdeal_pre_scores_above_mask (hReferenceIdeal := hReferenceIdeal) (hPre_scores_above_mask := hPre_scores_above_mask)
    ∧ preserves_Kernel_KernelIdeal
    ∧ algebraic_KernelIdeal_ReferenceIdeal_pre_scores_above_mask (hKernelIdeal := hKernelIdeal) (hReferenceIdeal := hReferenceIdeal) (hPre_scores_above_mask := hPre_scores_above_mask)
-- ==== Pre_scores_above_mask.lean ====
abbrev S1x50x50x256 : Shape := ⟨4, ![1, 50, 50, 256]⟩
abbrev S3x3x256x256 : Shape := ⟨4, ![3, 3, 256, 256]⟩
abbrev S256 : Shape := ⟨1, ![256]⟩
abbrev S1x1x256x15 : Shape := ⟨4, ![1, 1, 256, 15]⟩
abbrev S15 : Shape := ⟨1, ![15]⟩
abbrev S1x1x256x60 : Shape := ⟨4, ![1, 1, 256, 60]⟩
abbrev S60 : Shape := ⟨1, ![60]⟩
abbrev S_ : Shape := ⟨0, ![]⟩
abbrev S1x52x52x256 : Shape := ⟨4, ![1, 52, 52, 256]⟩
abbrev S1x1x256x256 : Shape := ⟨4, ![1, 1, 256, 256]⟩
abbrev S256x256 : Shape := ⟨2, ![256, 256]⟩
abbrev S1x1x1x256 : Shape := ⟨4, ![1, 1, 1, 256]⟩
abbrev S256x15 : Shape := ⟨2, ![256, 15]⟩
abbrev S1x50x50x15 : Shape := ⟨4, ![1, 50, 50, 15]⟩
abbrev S1x1x1x15 : Shape := ⟨4, ![1, 1, 1, 15]⟩

class Facts : Prop where
  pads_S1x50x50x256_S1x52x52x256_000_110_110_000 : S1x50x50x256.Pads (![0, 1, 1, 0] : Fin 4 → Nat) ![0, 1, 1, 0] ![0, 0, 0, 0] S1x52x52x256
  h_S_ : 0 < S_.numel
  bcast_S_S1x50x50x256 : S_.BroadcastsInDim S1x50x50x256 (![] : Fin 0 → Fin S1x50x50x256.rank)
  slices_S1x52x52x256_S1x50x50x256_0_0_0_0 : S1x52x52x256.Slices ![0, 0, 0, 0] S1x50x50x256
  slices_S3x3x256x256_S1x1x256x256_0_0_0_0 : S3x3x256x256.Slices ![0, 0, 0, 0] S1x1x256x256
  shapeCasts_S1x1x256x256_S256x256 : S1x1x256x256.ShapeCasts S256x256
  slices_S1x52x52x256_S1x50x50x256_0_0_1_0 : S1x52x52x256.Slices ![0, 0, 1, 0] S1x50x50x256
  slices_S3x3x256x256_S1x1x256x256_0_1_0_0 : S3x3x256x256.Slices ![0, 1, 0, 0] S1x1x256x256
  slices_S1x52x52x256_S1x50x50x256_0_0_2_0 : S1x52x52x256.Slices ![0, 0, 2, 0] S1x50x50x256
  slices_S3x3x256x256_S1x1x256x256_0_2_0_0 : S3x3x256x256.Slices ![0, 2, 0, 0] S1x1x256x256
  slices_S1x52x52x256_S1x50x50x256_0_1_0_0 : S1x52x52x256.Slices ![0, 1, 0, 0] S1x50x50x256
  slices_S3x3x256x256_S1x1x256x256_1_0_0_0 : S3x3x256x256.Slices ![1, 0, 0, 0] S1x1x256x256
  slices_S1x52x52x256_S1x50x50x256_0_1_1_0 : S1x52x52x256.Slices ![0, 1, 1, 0] S1x50x50x256
  slices_S3x3x256x256_S1x1x256x256_1_1_0_0 : S3x3x256x256.Slices ![1, 1, 0, 0] S1x1x256x256
  slices_S1x52x52x256_S1x50x50x256_0_1_2_0 : S1x52x52x256.Slices ![0, 1, 2, 0] S1x50x50x256
  slices_S3x3x256x256_S1x1x256x256_1_2_0_0 : S3x3x256x256.Slices ![1, 2, 0, 0] S1x1x256x256
  slices_S1x52x52x256_S1x50x50x256_0_2_0_0 : S1x52x52x256.Slices ![0, 2, 0, 0] S1x50x50x256
  slices_S3x3x256x256_S1x1x256x256_2_0_0_0 : S3x3x256x256.Slices ![2, 0, 0, 0] S1x1x256x256
  slices_S1x52x52x256_S1x50x50x256_0_2_1_0 : S1x52x52x256.Slices ![0, 2, 1, 0] S1x50x50x256
  slices_S3x3x256x256_S1x1x256x256_2_1_0_0 : S3x3x256x256.Slices ![2, 1, 0, 0] S1x1x256x256
  slices_S1x52x52x256_S1x50x50x256_0_2_2_0 : S1x52x52x256.Slices ![0, 2, 2, 0] S1x50x50x256
  slices_S3x3x256x256_S1x1x256x256_2_2_0_0 : S3x3x256x256.Slices ![2, 2, 0, 0] S1x1x256x256
  bcast_S256_S1x1x1x256_3 : S256.BroadcastsInDim S1x1x1x256 (![3] : Fin 1 → Fin S1x1x1x256.rank)
  bcast_S1x1x1x256_S1x50x50x256_0_1_2_3 : S1x1x1x256.BroadcastsInDim S1x50x50x256 (![0, 1, 2, 3] : Fin 4 → Fin S1x50x50x256.rank)
  shapeCasts_S1x1x256x15_S256x15 : S1x1x256x15.ShapeCasts S256x15
  bcast_S15_S1x1x1x15_3 : S15.BroadcastsInDim S1x1x1x15 (![3] : Fin 1 → Fin S1x1x1x15.rank)
  bcast_S1x1x1x15_S1x50x50x15_0_1_2_3 : S1x1x1x15.BroadcastsInDim S1x50x50x15 (![0, 1, 2, 3] : Fin 4 → Fin S1x50x50x15.rank)
  bcast_S_S1x50x50x15 : S_.BroadcastsInDim S1x50x50x15 (![] : Fin 0 → Fin S1x50x50x15.rank)
  reducesTo_S1x50x50x15_S_d0_1_2_3 : S1x50x50x15.ReducesTo [0, 1, 2, 3] S_
  dot_S1x50x50x256_S256x256_S1x50x50x256_3_0_012_1_n_n_wf : DotDims.WF S1x50x50x256 S256x256 S1x50x50x256 [3] [0] [0, 1, 2] [1] [] []
  dot_S1x50x50x256_S256x15_S1x50x50x15_3_0_012_1_n_n_wf : DotDims.WF S1x50x50x256 S256x15 S1x50x50x15 [3] [0] [0, 1, 2] [1] [] []

variable [Facts]

def dot_S1x50x50x256_S256x256_S1x50x50x256_3_0_012_1_n_n : DotDims S1x50x50x256 S256x256 S1x50x50x256 where
  lhsContracting := [3]
  rhsContracting := [0]
  lhsNonContracting := [0, 1, 2]
  rhsNonContracting := [1]
  lhsBatch := []
  rhsBatch := []
  wf := dot_S1x50x50x256_S256x256_S1x50x50x256_3_0_012_1_n_n_wf
def dot_S1x50x50x256_S256x15_S1x50x50x15_3_0_012_1_n_n : DotDims S1x50x50x256 S256x15 S1x50x50x15 where
  lhsContracting := [3]
  rhsContracting := [0]
  lhsNonContracting := [0, 1, 2]
  rhsNonContracting := [1]
  lhsBatch := []
  rhsBatch := []
  wf := dot_S1x50x50x256_S256x15_S1x50x50x15_3_0_012_1_n_n_wf
def fn_pad {F : FTy → Type} [FloatOps F] (arg0 : FVec F S1x50x50x256 .f32) (arg1 : IVec S_ 32) : FVec F S1x52x52x256 .f32 :=
  let v0 : FVec F S_ .f32 := sitofp .f32 arg1
  let v1 : FVec F S1x52x52x256 .f32 := (fun x v => pad S1x52x52x256 ![0, 1, 1, 0] ![0, 1, 1, 0] ![0, 0, 0, 0] x v pads_S1x50x50x256_S1x52x52x256_000_110_110_000 h_S_) arg0 v0
  v1

def fn_relu {F : FTy → Type} [FloatOps F] (arg0 : FVec F S1x50x50x256 .f32) : FVec F S1x50x50x256 .f32 :=
  let cst : FVec F S_ .f32 := constant S_ .f32 0x00000000#32
  let v0 : FVec F S1x50x50x256 .f32 := broadcastInDim S1x50x50x256 ![] bcast_S_S1x50x50x256 cst
  let v1 : FVec F S1x50x50x256 .f32 := maximumf arg0 v0
  v1

def fn_part2 {F : FTy → Type} [FloatOps F] (main_arg2 : FVec F S256 .f32) (main_arg3 : FVec F S1x1x256x15 .f32) (main_arg4 : FVec F S15 .f32) (main_v41 : FVec F S1x50x50x256 .f32) (main_v45 : FVec F S1x50x50x256 .f32) : IVec S_ 1 :=
  let main_v46 : FVec F S1x50x50x256 .f32 := addf main_v41 main_v45
  let main_v47 : FVec F S1x1x1x256 .f32 := broadcastInDim S1x1x1x256 ![3] bcast_S256_S1x1x1x256_3 main_arg2
  let main_v48 : FVec F S1x50x50x256 .f32 := broadcastInDim S1x50x50x256 ![0, 1, 2, 3] bcast_S1x1x1x256_S1x50x50x256_0_1_2_3 main_v47
  let main_v49 : FVec F S1x50x50x256 .f32 := addf main_v46 main_v48
  let main_v50 : FVec F S1x50x50x256 .f32 := fn_relu (F := F) main_v49
  let main_v51 : FVec F S256x15 .f32 := shapeCast S256x15 main_arg3 shapeCasts_S1x1x256x15_S256x15
  let main_v52 : FVec F S1x50x50x15 .f32 := (fun l r => Host.dotGeneral dot_S1x50x50x256_S256x15_S1x50x50x15_3_0_012_1_n_n none l r) main_v50 main_v51
  let main_v53 : FVec F S1x1x1x15 .f32 := broadcastInDim S1x1x1x15 ![3] bcast_S15_S1x1x1x15_3 main_arg4
  let main_v54 : FVec F S1x50x50x15 .f32 := broadcastInDim S1x50x50x15 ![0, 1, 2, 3] bcast_S1x1x1x15_S1x50x50x15_0_1_2_3 main_v53
  let main_v55 : FVec F S1x50x50x15 .f32 := addf main_v52 main_v54
  let main_cst_0 : FVec F S_ .f32 := constant S_ .f32 0xCE6E6B28#32
  let main_v56 : FVec F S1x50x50x15 .f32 := broadcastInDim S1x50x50x15 ![] bcast_S_S1x50x50x15 main_cst_0
  let main_v57 : IVec S1x50x50x15 1 := cmpf .ogt main_v55 main_v56
  let main_c_1 : IVec S_ 1 := constantI S_ 1 1#1
  let main_v58 : IVec S_ 1 := (fun x v => Host.reduce IntOp.andi x v reducesTo_S1x50x50x15_S_d0_1_2_3 h_S_) main_v57 main_c_1
  main_v58

def fn_part1 {F : FTy → Type} [FloatOps F] (main_arg1 : FVec F S3x3x256x256 .f32) (main_arg2 : FVec F S256 .f32) (main_arg3 : FVec F S1x1x256x15 .f32) (main_arg4 : FVec F S15 .f32) (main_v0 : FVec F S1x52x52x256 .f32) (main_v21 : FVec F S1x50x50x256 .f32) : IVec S_ 1 :=
  let main_v22 : FVec F S1x50x50x256 .f32 := (extractStridedSlice S1x50x50x256 ![0, 1, 1, 0] · slices_S1x52x52x256_S1x50x50x256_0_1_1_0) main_v0
  let main_v23 : FVec F S1x1x256x256 .f32 := (extractStridedSlice S1x1x256x256 ![1, 1, 0, 0] · slices_S3x3x256x256_S1x1x256x256_1_1_0_0) main_arg1
  let main_v24 : FVec F S256x256 .f32 := shapeCast S256x256 main_v23 shapeCasts_S1x1x256x256_S256x256
  let main_v25 : FVec F S1x50x50x256 .f32 := (fun l r => Host.dotGeneral dot_S1x50x50x256_S256x256_S1x50x50x256_3_0_012_1_n_n none l r) main_v22 main_v24
  let main_v26 : FVec F S1x50x50x256 .f32 := addf main_v21 main_v25
  let main_v27 : FVec F S1x50x50x256 .f32 := (extractStridedSlice S1x50x50x256 ![0, 1, 2, 0] · slices_S1x52x52x256_S1x50x50x256_0_1_2_0) main_v0
  let main_v28 : FVec F S1x1x256x256 .f32 := (extractStridedSlice S1x1x256x256 ![1, 2, 0, 0] · slices_S3x3x256x256_S1x1x256x256_1_2_0_0) main_arg1
  let main_v29 : FVec F S256x256 .f32 := shapeCast S256x256 main_v28 shapeCasts_S1x1x256x256_S256x256
  let main_v30 : FVec F S1x50x50x256 .f32 := (fun l r => Host.dotGeneral dot_S1x50x50x256_S256x256_S1x50x50x256_3_0_012_1_n_n none l r) main_v27 main_v29
  let main_v31 : FVec F S1x50x50x256 .f32 := addf main_v26 main_v30
  let main_v32 : FVec F S1x50x50x256 .f32 := (extractStridedSlice S1x50x50x256 ![0, 2, 0, 0] · slices_S1x52x52x256_S1x50x50x256_0_2_0_0) main_v0
  let main_v33 : FVec F S1x1x256x256 .f32 := (extractStridedSlice S1x1x256x256 ![2, 0, 0, 0] · slices_S3x3x256x256_S1x1x256x256_2_0_0_0) main_arg1
  let main_v34 : FVec F S256x256 .f32 := shapeCast S256x256 main_v33 shapeCasts_S1x1x256x256_S256x256
  let main_v35 : FVec F S1x50x50x256 .f32 := (fun l r => Host.dotGeneral dot_S1x50x50x256_S256x256_S1x50x50x256_3_0_012_1_n_n none l r) main_v32 main_v34
  let main_v36 : FVec F S1x50x50x256 .f32 := addf main_v31 main_v35
  let main_v37 : FVec F S1x50x50x256 .f32 := (extractStridedSlice S1x50x50x256 ![0, 2, 1, 0] · slices_S1x52x52x256_S1x50x50x256_0_2_1_0) main_v0
  let main_v38 : FVec F S1x1x256x256 .f32 := (extractStridedSlice S1x1x256x256 ![2, 1, 0, 0] · slices_S3x3x256x256_S1x1x256x256_2_1_0_0) main_arg1
  let main_v39 : FVec F S256x256 .f32 := shapeCast S256x256 main_v38 shapeCasts_S1x1x256x256_S256x256
  let main_v40 : FVec F S1x50x50x256 .f32 := (fun l r => Host.dotGeneral dot_S1x50x50x256_S256x256_S1x50x50x256_3_0_012_1_n_n none l r) main_v37 main_v39
  let main_v41 : FVec F S1x50x50x256 .f32 := addf main_v36 main_v40
  let main_v42 : FVec F S1x50x50x256 .f32 := (extractStridedSlice S1x50x50x256 ![0, 2, 2, 0] · slices_S1x52x52x256_S1x50x50x256_0_2_2_0) main_v0
  let main_v43 : FVec F S1x1x256x256 .f32 := (extractStridedSlice S1x1x256x256 ![2, 2, 0, 0] · slices_S3x3x256x256_S1x1x256x256_2_2_0_0) main_arg1
  let main_v44 : FVec F S256x256 .f32 := shapeCast S256x256 main_v43 shapeCasts_S1x1x256x256_S256x256
  let main_v45 : FVec F S1x50x50x256 .f32 := (fun l r => Host.dotGeneral dot_S1x50x50x256_S256x256_S1x50x50x256_3_0_012_1_n_n none l r) main_v42 main_v44
  fn_part2 (F := F) main_arg2 main_arg3 main_arg4 main_v41 main_v45

def fn {F : FTy → Type} [FloatOps F] (main_arg0 : FVec F S1x50x50x256 .f32) (main_arg1 : FVec F S3x3x256x256 .f32) (main_arg2 : FVec F S256 .f32) (main_arg3 : FVec F S1x1x256x15 .f32) (main_arg4 : FVec F S15 .f32) (main_arg5 : FVec F S1x1x256x60 .f32) (main_arg6 : FVec F S60 .f32) : IVec S_ 1 :=
  let main_c : IVec S_ 32 := constantI S_ 32 0#32
  let main_v0 : FVec F S1x52x52x256 .f32 := fn_pad (F := F) main_arg0 main_c
  let main_cst : FVec F S_ .f32 := constant S_ .f32 0x00000000#32
  let main_v1 : FVec F S1x50x50x256 .f32 := broadcastInDim S1x50x50x256 ![] bcast_S_S1x50x50x256 main_cst
  let main_v2 : FVec F S1x50x50x256 .f32 := (extractStridedSlice S1x50x50x256 ![0, 0, 0, 0] · slices_S1x52x52x256_S1x50x50x256_0_0_0_0) main_v0
  let main_v3 : FVec F S1x1x256x256 .f32 := (extractStridedSlice S1x1x256x256 ![0, 0, 0, 0] · slices_S3x3x256x256_S1x1x256x256_0_0_0_0) main_arg1
  let main_v4 : FVec F S256x256 .f32 := shapeCast S256x256 main_v3 shapeCasts_S1x1x256x256_S256x256
  let main_v5 : FVec F S1x50x50x256 .f32 := (fun l r => Host.dotGeneral dot_S1x50x50x256_S256x256_S1x50x50x256_3_0_012_1_n_n none l r) main_v2 main_v4
  let main_v6 : FVec F S1x50x50x256 .f32 := addf main_v1 main_v5
  let main_v7 : FVec F S1x50x50x256 .f32 := (extractStridedSlice S1x50x50x256 ![0, 0, 1, 0] · slices_S1x52x52x256_S1x50x50x256_0_0_1_0) main_v0
  let main_v8 : FVec F S1x1x256x256 .f32 := (extractStridedSlice S1x1x256x256 ![0, 1, 0, 0] · slices_S3x3x256x256_S1x1x256x256_0_1_0_0) main_arg1
  let main_v9 : FVec F S256x256 .f32 := shapeCast S256x256 main_v8 shapeCasts_S1x1x256x256_S256x256
  let main_v10 : FVec F S1x50x50x256 .f32 := (fun l r => Host.dotGeneral dot_S1x50x50x256_S256x256_S1x50x50x256_3_0_012_1_n_n none l r) main_v7 main_v9
  let main_v11 : FVec F S1x50x50x256 .f32 := addf main_v6 main_v10
  let main_v12 : FVec F S1x50x50x256 .f32 := (extractStridedSlice S1x50x50x256 ![0, 0, 2, 0] · slices_S1x52x52x256_S1x50x50x256_0_0_2_0) main_v0
  let main_v13 : FVec F S1x1x256x256 .f32 := (extractStridedSlice S1x1x256x256 ![0, 2, 0, 0] · slices_S3x3x256x256_S1x1x256x256_0_2_0_0) main_arg1
  let main_v14 : FVec F S256x256 .f32 := shapeCast S256x256 main_v13 shapeCasts_S1x1x256x256_S256x256
  let main_v15 : FVec F S1x50x50x256 .f32 := (fun l r => Host.dotGeneral dot_S1x50x50x256_S256x256_S1x50x50x256_3_0_012_1_n_n none l r) main_v12 main_v14
  let main_v16 : FVec F S1x50x50x256 .f32 := addf main_v11 main_v15
  let main_v17 : FVec F S1x50x50x256 .f32 := (extractStridedSlice S1x50x50x256 ![0, 1, 0, 0] · slices_S1x52x52x256_S1x50x50x256_0_1_0_0) main_v0
  let main_v18 : FVec F S1x1x256x256 .f32 := (extractStridedSlice S1x1x256x256 ![1, 0, 0, 0] · slices_S3x3x256x256_S1x1x256x256_1_0_0_0) main_arg1
  let main_v19 : FVec F S256x256 .f32 := shapeCast S256x256 main_v18 shapeCasts_S1x1x256x256_S256x256
  let main_v20 : FVec F S1x50x50x256 .f32 := (fun l r => Host.dotGeneral dot_S1x50x50x256_S256x256_S1x50x50x256_3_0_012_1_n_n none l r) main_v17 main_v19
  let main_v21 : FVec F S1x50x50x256 .f32 := addf main_v16 main_v20
  fn_part1 (F := F) main_arg1 main_arg2 main_arg3 main_arg4 main_v0 main_v21
-- ==== Kernel.lean ====
abbrev S1x50x50x256 : Shape := ⟨4, ![1, 50, 50, 256]⟩
abbrev S3x3x256x256 : Shape := ⟨4, ![3, 3, 256, 256]⟩
abbrev S256 : Shape := ⟨1, ![256]⟩
abbrev S1x1x256x15 : Shape := ⟨4, ![1, 1, 256, 15]⟩
abbrev S15 : Shape := ⟨1, ![15]⟩
abbrev S1x1x256x60 : Shape := ⟨4, ![1, 1, 256, 60]⟩
abbrev S60 : Shape := ⟨1, ![60]⟩
abbrev S1x16 : Shape := ⟨2, ![1, 16]⟩
abbrev S50x50x256 : Shape := ⟨3, ![50, 50, 256]⟩
abbrev S_ : Shape := ⟨0, ![]⟩
abbrev S52x52x256 : Shape := ⟨3, ![52, 52, 256]⟩
abbrev S2704x256 : Shape := ⟨2, ![2704, 256]⟩
abbrev S9x256x256 : Shape := ⟨3, ![9, 256, 256]⟩
abbrev S1x256 : Shape := ⟨2, ![1, 256]⟩
abbrev S256x15 : Shape := ⟨2, ![256, 15]⟩
abbrev S256x60 : Shape := ⟨2, ![256, 60]⟩
abbrev S256x16 : Shape := ⟨2, ![256, 16]⟩
abbrev S16 : Shape := ⟨1, ![16]⟩
abbrev S256x80 : Shape := ⟨2, ![256, 80]⟩
abbrev S80 : Shape := ⟨1, ![80]⟩
abbrev S1x80 : Shape := ⟨2, ![1, 80]⟩
abbrev S2500x15 : Shape := ⟨2, ![2500, 15]⟩
abbrev S1x256x256 : Shape := ⟨3, ![1, 256, 256]⟩
abbrev S256x256 : Shape := ⟨2, ![256, 256]⟩
abbrev S2500x256 : Shape := ⟨2, ![2500, 256]⟩
abbrev S2500x80 : Shape := ⟨2, ![2500, 80]⟩
abbrev S2500x16 : Shape := ⟨2, ![2500, 16]⟩
abbrev S37500 : Shape := ⟨1, ![37500]⟩
abbrev S2500x15x1 : Shape := ⟨3, ![2500, 15, 1]⟩
abbrev S2500x15x4 : Shape := ⟨3, ![2500, 15, 4]⟩
abbrev S37500x4 : Shape := ⟨2, ![37500, 4]⟩
abbrev S2000 : Shape := ⟨1, ![2000]⟩
abbrev S2000x1 : Shape := ⟨2, ![2000, 1]⟩
abbrev S2000x4 : Shape := ⟨2, ![2000, 4]⟩
abbrev S2000x3 : Shape := ⟨2, ![2000, 3]⟩
abbrev S2000x8 : Shape := ⟨2, ![2000, 8]⟩
abbrev S2048x8 : Shape := ⟨2, ![2048, 8]⟩
abbrev S2048x4 : Shape := ⟨2, ![2048, 4]⟩
abbrev S4x2048 : Shape := ⟨2, ![4, 2048]⟩
abbrev S2048x2048 : Shape := ⟨2, ![2048, 2048]⟩
abbrev S1x2048 : Shape := ⟨2, ![1, 2048]⟩
abbrev S128x1 : Shape := ⟨2, ![128, 1]⟩
abbrev S128x2048 : Shape := ⟨2, ![128, 2048]⟩
abbrev S1x128 : Shape := ⟨2, ![1, 128]⟩
abbrev S1x1x128 : Shape := ⟨3, ![1, 1, 128]⟩
abbrev S1 : Shape := ⟨1, ![1]⟩
abbrev S1x1x1 : Shape := ⟨3, ![1, 1, 1]⟩
abbrev S1x1x2048 : Shape := ⟨3, ![1, 1, 2048]⟩
abbrev S16x128 : Shape := ⟨2, ![16, 128]⟩
abbrev S128x128 : Shape := ⟨2, ![128, 128]⟩
abbrev S16x16 : Shape := ⟨2, ![16, 16]⟩
abbrev S16x1 : Shape := ⟨2, ![16, 1]⟩
abbrev S2048x1 : Shape := ⟨2, ![2048, 1]⟩
abbrev S1000x5 : Shape := ⟨2, ![1000, 5]⟩

abbrev nBuf : Space → Nat
  | .hbm => 93
  | .vmem => 16
  | .smem => 0
  | _ => 0

abbrev bufTy : (tb : Table) → Fin (tcTables nBuf tb) → BufTy
  | .hbm, ⟨0, _⟩ => ⟨S1x50x50x256, .f32⟩
  | .hbm, ⟨1, _⟩ => ⟨S3x3x256x256, .f32⟩
  | .hbm, ⟨2, _⟩ => ⟨S256, .f32⟩
  | .hbm, ⟨3, _⟩ => ⟨S1x1x256x15, .f32⟩
  | .hbm, ⟨4, _⟩ => ⟨S15, .f32⟩
  | .hbm, ⟨5, _⟩ => ⟨S1x1x256x60, .f32⟩
  | .hbm, ⟨6, _⟩ => ⟨S60, .f32⟩
  | .hbm, ⟨7, _⟩ => ⟨S1x16, .f32⟩
  | .hbm, ⟨8, _⟩ => ⟨S1x16, .f32⟩
  | .hbm, ⟨9, _⟩ => ⟨S50x50x256, .f32⟩
  | .hbm, ⟨10, _⟩ => ⟨S_, .i32⟩
  | .hbm, ⟨11, _⟩ => ⟨S_, .f32⟩
  | .hbm, ⟨12, _⟩ => ⟨S52x52x256, .f32⟩
  | .hbm, ⟨13, _⟩ => ⟨S2704x256, .f32⟩
  | .hbm, ⟨14, _⟩ => ⟨S9x256x256, .f32⟩
  | .hbm, ⟨15, _⟩ => ⟨S1x256, .f32⟩
  | .hbm, ⟨16, _⟩ => ⟨S256x15, .f32⟩
  | .hbm, ⟨17, _⟩ => ⟨S256x60, .f32⟩
  | .hbm, ⟨18, _⟩ => ⟨S_, .i32⟩
  | .hbm, ⟨19, _⟩ => ⟨S_, .f32⟩
  | .hbm, ⟨20, _⟩ => ⟨S256x16, .f32⟩
  | .hbm, ⟨21, _⟩ => ⟨S_, .i32⟩
  | .hbm, ⟨22, _⟩ => ⟨S_, .f32⟩
  | .hbm, ⟨23, _⟩ => ⟨S16, .f32⟩
  | .hbm, ⟨24, _⟩ => ⟨S256x15, .f32⟩
  | .hbm, ⟨25, _⟩ => ⟨S_, .i32⟩
  | .hbm, ⟨26, _⟩ => ⟨S_, .f32⟩
  | .hbm, ⟨27, _⟩ => ⟨S256x16, .f32⟩
  | .hbm, ⟨28, _⟩ => ⟨S15, .f32⟩
  | .hbm, ⟨29, _⟩ => ⟨S_, .i32⟩
  | .hbm, ⟨30, _⟩ => ⟨S_, .f32⟩
  | .hbm, ⟨31, _⟩ => ⟨S16, .f32⟩
  | .hbm, ⟨32, _⟩ => ⟨S256x15, .f32⟩
  | .hbm, ⟨33, _⟩ => ⟨S_, .i32⟩
  | .hbm, ⟨34, _⟩ => ⟨S_, .f32⟩
  | .hbm, ⟨35, _⟩ => ⟨S256x16, .f32⟩
  | .hbm, ⟨36, _⟩ => ⟨S15, .f32⟩
  | .hbm, ⟨37, _⟩ => ⟨S_, .i32⟩
  | .hbm, ⟨38, _⟩ => ⟨S_, .f32⟩
  | .hbm, ⟨39, _⟩ => ⟨S16, .f32⟩
  | .hbm, ⟨40, _⟩ => ⟨S256x15, .f32⟩
  | .hbm, ⟨41, _⟩ => ⟨S_, .i32⟩
  | .hbm, ⟨42, _⟩ => ⟨S_, .f32⟩
  | .hbm, ⟨43, _⟩ => ⟨S256x16, .f32⟩
  | .hbm, ⟨44, _⟩ => ⟨S15, .f32⟩
  | .hbm, ⟨45, _⟩ => ⟨S_, .i32⟩
  | .hbm, ⟨46, _⟩ => ⟨S_, .f32⟩
  | .hbm, ⟨47, _⟩ => ⟨S16, .f32⟩
  | .hbm, ⟨48, _⟩ => ⟨S256x15, .f32⟩
  | .hbm, ⟨49, _⟩ => ⟨S_, .i32⟩
  | .hbm, ⟨50, _⟩ => ⟨S_, .f32⟩
  | .hbm, ⟨51, _⟩ => ⟨S256x16, .f32⟩
  | .hbm, ⟨52, _⟩ => ⟨S15, .f32⟩
  | .hbm, ⟨53, _⟩ => ⟨S_, .i32⟩
  | .hbm, ⟨54, _⟩ => ⟨S_, .f32⟩
  | .hbm, ⟨55, _⟩ => ⟨S16, .f32⟩
  | .hbm, ⟨56, _⟩ => ⟨S256x80, .f32⟩
  | .hbm, ⟨57, _⟩ => ⟨S80, .f32⟩
  | .hbm, ⟨58, _⟩ => ⟨S1x80, .f32⟩
  | .hbm, ⟨59, _⟩ => ⟨S2500x15, .f32⟩
  | .hbm, ⟨60, _⟩ => ⟨S2500x15, .f32⟩
  | .hbm, ⟨61, _⟩ => ⟨S2500x15, .f32⟩
  | .hbm, ⟨62, _⟩ => ⟨S2500x15, .f32⟩
  | .hbm, ⟨63, _⟩ => ⟨S2500x15, .f32⟩
  | .hbm, ⟨64, _⟩ => ⟨S37500, .f32⟩
  | .hbm, ⟨65, _⟩ => ⟨S2500x15x1, .f32⟩
  | .hbm, ⟨66, _⟩ => ⟨S2500x15x1, .f32⟩
  | .hbm, ⟨67, _⟩ => ⟨S2500x15x1, .f32⟩
  | .hbm, ⟨68, _⟩ => ⟨S2500x15x1, .f32⟩
  | .hbm, ⟨69, _⟩ => ⟨S2500x15x4, .f32⟩
  | .hbm, ⟨70, _⟩ => ⟨S37500x4, .f32⟩
  | .hbm, ⟨71, _⟩ => ⟨S2000, .f32⟩
  | .hbm, ⟨72, _⟩ => ⟨S2000, .i32⟩
  | .hbm, ⟨73, _⟩ => ⟨S_, .i32⟩
  | .hbm, ⟨74, _⟩ => ⟨S2000, .i32⟩
  | .hbm, ⟨75, _⟩ => ⟨S2000, .i1⟩
  | .hbm, ⟨76, _⟩ => ⟨S_, .i32⟩
  | .hbm, ⟨77, _⟩ => ⟨S2000, .i32⟩
  | .hbm, ⟨78, _⟩ => ⟨S2000, .i32⟩
  | .hbm, ⟨79, _⟩ => ⟨S2000, .i32⟩
  | .hbm, ⟨80, _⟩ => ⟨S2000x1, .i32⟩
  | .hbm, ⟨81, _⟩ => ⟨S2000x4, .f32⟩
  | .hbm, ⟨82, _⟩ => ⟨S2000x1, .f32⟩
  | .hbm, ⟨83, _⟩ => ⟨S_, .f32⟩
  | .hbm, ⟨84, _⟩ => ⟨S2000x3, .f32⟩
  | .hbm, ⟨85, _⟩ => ⟨S2000x8, .f32⟩
  | .hbm, ⟨86, _⟩ => ⟨S_, .i32⟩
  | .hbm, ⟨87, _⟩ => ⟨S_, .f32⟩
  | .hbm, ⟨88, _⟩ => ⟨S2048x8, .f32⟩
  | .hbm, ⟨89, _⟩ => ⟨S2048x4, .f32⟩
  | .hbm, ⟨90, _⟩ => ⟨S4x2048, .f32⟩
  | .hbm, ⟨91, _⟩ => ⟨S2048x8, .f32⟩
  | .hbm, ⟨92, _⟩ => ⟨S1000x5, .f32⟩
  | .local _ .vmem, ⟨0, _⟩ => ⟨S2704x256, .f32⟩
  | .local _ .vmem, ⟨1, _⟩ => ⟨S9x256x256, .f32⟩
  | .local _ .vmem, ⟨2, _⟩ => ⟨S1x256, .f32⟩
  | .local _ .vmem, ⟨3, _⟩ => ⟨S256x80, .f32⟩
  | .local _ .vmem, ⟨4, _⟩ => ⟨S1x80, .f32⟩
  | .local _ .vmem, ⟨5, _⟩ => ⟨S1x16, .f32⟩
  | .local _ .vmem, ⟨6, _⟩ => ⟨S1x16, .f32⟩
  | .local _ .vmem, ⟨7, _⟩ => ⟨S2500x15, .f32⟩
  | .local _ .vmem, ⟨8, _⟩ => ⟨S2500x15, .f32⟩
  | .local _ .vmem, ⟨9, _⟩ => ⟨S2500x15, .f32⟩
  | .local _ .vmem, ⟨10, _⟩ => ⟨S2500x15, .f32⟩
  | .local _ .vmem, ⟨11, _⟩ => ⟨S2500x15, .f32⟩
  | .local _ .vmem, ⟨12, _⟩ => ⟨S2048x8, .f32⟩
  | .local _ .vmem, ⟨13, _⟩ => ⟨S4x2048, .f32⟩
  | .local _ .vmem, ⟨14, _⟩ => ⟨S2048x8, .f32⟩
  | .local _ .vmem, ⟨15, _⟩ => ⟨S2048x2048, .f32⟩
  | _, _ => ⟨S1x50x50x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_cst_0 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_call1_v0 : Ref sig .tc := ⟨.hbm, 19, rfl⟩
abbrev main_v7 : Ref sig .tc := ⟨.hbm, 20, rfl⟩
abbrev main_c_2 : Ref sig .tc := ⟨.hbm, 21, rfl⟩
abbrev main_call2_v0 : Ref sig .tc := ⟨.hbm, 22, rfl⟩
abbrev main_v8 : Ref sig .tc := ⟨.hbm, 23, rfl⟩
abbrev main_v9 : Ref sig .tc := ⟨.hbm, 24, rfl⟩
abbrev main_c_3 : Ref sig .tc := ⟨.hbm, 25, rfl⟩
abbrev main_call3_v0 : Ref sig .tc := ⟨.hbm, 26, rfl⟩
abbrev main_v10 : Ref sig .tc := ⟨.hbm, 27, rfl⟩
abbrev main_v11 : Ref sig .tc := ⟨.hbm, 28, rfl⟩
abbrev main_c_4 : Ref sig .tc := ⟨.hbm, 29, rfl⟩
abbrev main_call4_v0 : Ref sig .tc := ⟨.hbm, 30, rfl⟩
abbrev main_v12 : Ref sig .tc := ⟨.hbm, 31, rfl⟩
abbrev main_v13 : Ref sig .tc := ⟨.hbm, 32, rfl⟩
abbrev main_c_5 : Ref sig .tc := ⟨.hbm, 33, rfl⟩
abbrev main_call5_v0 : Ref sig .tc := ⟨.hbm, 34, rfl⟩
abbrev main_v14 : Ref sig .tc := ⟨.hbm, 35, rfl⟩
abbrev main_v15 : Ref sig .tc := ⟨.hbm, 36, rfl⟩
abbrev main_c_6 : Ref sig .tc := ⟨.hbm, 37, rfl⟩
abbrev main_call6_v0 : Ref sig .tc := ⟨.hbm, 38, rfl⟩
abbrev main_v16 : Ref sig .tc := ⟨.hbm, 39, rfl⟩
abbrev main_v17 : Ref sig .tc := ⟨.hbm, 40, rfl⟩
abbrev main_c_7 : Ref sig .tc := ⟨.hbm, 41, rfl⟩
abbrev main_call7_v0 : Ref sig .tc := ⟨.hbm, 42, rfl⟩
abbrev main_v18 : Ref sig .tc := ⟨.hbm, 43, rfl⟩
abbrev main_v19 : Ref sig .tc := ⟨.hbm, 44, rfl⟩
abbrev main_c_8 : Ref sig .tc := ⟨.hbm, 45, rfl⟩
abbrev main_call8_v0 : Ref sig .tc := ⟨.hbm, 46, rfl⟩
abbrev main_v20 : Ref sig .tc := ⟨.hbm, 47, rfl⟩
abbrev main_v21 : Ref sig .tc := ⟨.hbm, 48, rfl⟩
abbrev main_c_9 : Ref sig .tc := ⟨.hbm, 49, rfl⟩
abbrev main_call9_v0 : Ref sig .tc := ⟨.hbm, 50, rfl⟩
abbrev main_v22 : Ref sig .tc := ⟨.hbm, 51, rfl⟩
abbrev main_v23 : Ref sig .tc := ⟨.hbm, 52, rfl⟩
abbrev main_c_10 : Ref sig .tc := ⟨.hbm, 53, rfl⟩
abbrev main_call10_v0 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28_0 : Ref sig .tc := ⟨.hbm, 59, rfl⟩
abbrev main_v28_1 : Ref sig .tc := ⟨.hbm, 60, rfl⟩
abbrev main_v28_2 : Ref sig .tc := ⟨.hbm, 61, rfl⟩
abbrev main_v28_3 : Ref sig .tc := ⟨.hbm, 62, rfl⟩
abbrev main_v28_4 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_values : Ref sig .tc := ⟨.hbm, 71, rfl⟩
abbrev main_indices : Ref sig .tc := ⟨.hbm, 72, rfl⟩
abbrev main_c_11 : Ref sig .tc := ⟨.hbm, 73, rfl⟩
abbrev main_v36 : Ref sig .tc := ⟨.hbm, 74, rfl⟩
abbrev main_v37 : Ref sig .tc := ⟨.hbm, 75, rfl⟩
abbrev main_c_12 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_cst_13 : Ref sig .tc := ⟨.hbm, 83, rfl⟩
abbrev main_v44 : Ref sig .tc := ⟨.hbm, 84, rfl⟩
abbrev main_v45 : Ref sig .tc := ⟨.hbm, 85, rfl⟩
abbrev main_c_14 : Ref sig .tc := ⟨.hbm, 86, rfl⟩
abbrev main_call11_v0 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc1_stg0_0 : Ref sig .tc := ⟨.vmem, 12, rfl⟩
abbrev cc1_stg1_0 : Ref sig .tc := ⟨.vmem, 13, rfl⟩
abbrev cc1_stg2_0 : Ref sig .tc := ⟨.vmem, 14, rfl⟩
abbrev cc1_scratch0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc1_sem0_0 : DmaSem sig := 12
abbrev cc1_sem1_0 : DmaSem sig := 13
abbrev cc1_sem2_0 : DmaSem sig := 14

abbrev nD : Nat := 1
abbrev τ : Topo := Topo.v7x

variable {F : FTy → Type} [FloatOps F]

abbrev grid0 : Pipeline.Grid := .none

abbrev stage0_0 : Fin 1 → Memref sig .tc .vmem S2704x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S9x256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x80 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x80 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2500x15 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2500x15 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2500x15 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2500x15 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2500x15 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev grid1 : Pipeline.Grid := .none

@[reducible] def k1_t1_loop : Scf.Loop 32 :=
  let c0_i32_245 : BitVec 32 := 0#32
  let c128_i32_246 : BitVec 32 := 128#32
  let v831 : BitVec 32 := Scalar.addi c0_i32_245 c128_i32_246
  let c1_i32 : BitVec 32 := 1#32
  ⟨c0_i32_245, v831, c1_i32⟩
def k1_off1 (k1_t1 : Fin k1_t1_loop.trips) : Fin 2 → Nat :=
  let c0_i32_430 : BitVec 32 := 0#32
  let c0_i32_245 : BitVec 32 := 0#32
  let c1_i32 : BitVec 32 := 1#32
  let arg4 : BitVec 32 := Scf.iv c0_i32_245 c1_i32 k1_t1
  let v1080 : BitVec 32 := Scalar.addi c0_i32_430 arg4
  let v1081 : Index := Scalar.indexCast v1080
  let c0_431 : Index := 0#32
  ![v1081.toNat, 0]
@[reducible] def k1_t2_loop : Scf.Loop 32 :=
  let c0_i32_254 : BitVec 32 := 0#32
  let c128_i32_255 : BitVec 32 := 128#32
  let v842 : BitVec 32 := Scalar.addi c0_i32_254 c128_i32_255
  let c1_i32_256 : BitVec 32 := 1#32
  ⟨c0_i32_254, v842, c1_i32_256⟩
def k1_off2 (k1_t2 : Fin k1_t2_loop.trips) : Fin 2 → Nat :=
  let c128_i32_430 : BitVec 32 := 128#32
  let c0_i32_254 : BitVec 32 := 0#32
  let c1_i32_256 : BitVec 32 := 1#32
  let arg4 : BitVec 32 := Scf.iv c0_i32_254 c1_i32_256 k1_t2
  let v1080 : BitVec 32 := Scalar.addi c128_i32_430 arg4
  let v1081 : Index := Scalar.indexCast v1080
  let c0_431 : Index := 0#32
  ![v1081.toNat, 0]
@[reducible] def k1_t3_loop : Scf.Loop 32 :=
  let c0_i32_264 : BitVec 32 := 0#32
  let c128_i32_265 : BitVec 32 := 128#32
  let v853 : BitVec 32 := Scalar.addi c0_i32_264 c128_i32_265
  let c1_i32_266 : BitVec 32 := 1#32
  ⟨c0_i32_264, v853, c1_i32_266⟩
def k1_off3 (k1_t3 : Fin k1_t3_loop.trips) : Fin 2 → Nat :=
  let c256_i32_430 : BitVec 32 := 256#32
  let c0_i32_264 : BitVec 32 := 0#32
  let c1_i32_266 : BitVec 32 := 1#32
  let arg4 : BitVec 32 := Scf.iv c0_i32_264 c1_i32_266 k1_t3
  let v1080 : BitVec 32 := Scalar.addi c256_i32_430 arg4
  let v1081 : Index := Scalar.indexCast v1080
  let c0_431 : Index := 0#32
  ![v1081.toNat, 0]
@[reducible] def k1_t4_loop : Scf.Loop 32 :=
  let c0_i32_274 : BitVec 32 := 0#32
  let c128_i32_275 : BitVec 32 := 128#32
  let v864 : BitVec 32 := Scalar.addi c0_i32_274 c128_i32_275
  let c1_i32_276 : BitVec 32 := 1#32
  ⟨c0_i32_274, v864, c1_i32_276⟩
def k1_off4 (k1_t4 : Fin k1_t4_loop.trips) : Fin 2 → Nat :=
  let c384_i32_430 : BitVec 32 := 384#32
  let c0_i32_274 : BitVec 32 := 0#32
  let c1_i32_276 : BitVec 32 := 1#32
  let arg4 : BitVec 32 := Scf.iv c0_i32_274 c1_i32_276 k1_t4
  let v1080 : BitVec 32 := Scalar.addi c384_i32_430 arg4
  let v1081 : Index := Scalar.indexCast v1080
  let c0_431 : Index := 0#32
  ![v1081.toNat, 0]
@[reducible] def k1_t5_loop : Scf.Loop 32 :=
  let c0_i32_284 : BitVec 32 := 0#32
  let c128_i32_285 : BitVec 32 := 128#32
  let v875 : BitVec 32 := Scalar.addi c0_i32_284 c128_i32_285
  let c1_i32_286 : BitVec 32 := 1#32
  ⟨c0_i32_284, v875, c1_i32_286⟩
def k1_off5 (k1_t5 : Fin k1_t5_loop.trips) : Fin 2 → Nat :=
  let c512_i32_430 : BitVec 32 := 512#32
  let c0_i32_284 : BitVec 32 := 0#32
  let c1_i32_286 : BitVec 32 := 1#32
  let arg4 : BitVec 32 := Scf.iv c0_i32_284 c1_i32_286 k1_t5
  let v1080 : BitVec 32 := Scalar.addi c512_i32_430 arg4
  let v1081 : Index := Scalar.indexCast v1080
  let c0_431 : Index := 0#32
  ![v1081.toNat, 0]
@[reducible] def k1_t6_loop : Scf.Loop 32 :=
  let c0_i32_294 : BitVec 32 := 0#32
  let c128_i32_295 : BitVec 32 := 128#32
  let v886 : BitVec 32 := Scalar.addi c0_i32_294 c128_i32_295
  let c1_i32_296 : BitVec 32 := 1#32
  ⟨c0_i32_294, v886, c1_i32_296⟩
def k1_off6 (k1_t6 : Fin k1_t6_loop.trips) : Fin 2 → Nat :=
  let c640_i32_430 : BitVec 32 := 640#32
  let c0_i32_294 : BitVec 32 := 0#32
  let c1_i32_296 : BitVec 32 := 1#32
  let arg4 : BitVec 32 := Scf.iv c0_i32_294 c1_i32_296 k1_t6
  let v1080 : BitVec 32 := Scalar.addi c640_i32_430 arg4
  let v1081 : Index := Scalar.indexCast v1080
  let c0_431 : Index := 0#32
  ![v1081.toNat, 0]
@[reducible] def k1_t7_loop : Scf.Loop 32 :=
  let c0_i32_304 : BitVec 32 := 0#32
  let c128_i32_305 : BitVec 32 := 128#32
  let v897 : BitVec 32 := Scalar.addi c0_i32_304 c128_i32_305
  let c1_i32_306 : BitVec 32 := 1#32
  ⟨c0_i32_304, v897, c1_i32_306⟩
def k1_off7 (k1_t7 : Fin k1_t7_loop.trips) : Fin 2 → Nat :=
  let c768_i32_430 : BitVec 32 := 768#32
  let c0_i32_304 : BitVec 32 := 0#32
  let c1_i32_306 : BitVec 32 := 1#32
  let arg4 : BitVec 32 := Scf.iv c0_i32_304 c1_i32_306 k1_t7
  let v1080 : BitVec 32 := Scalar.addi c768_i32_430 arg4
  let v1081 : Index := Scalar.indexCast v1080
  let c0_431 : Index := 0#32
  ![v1081.toNat, 0]
@[reducible] def k1_t8_loop : Scf.Loop 32 :=
  let c0_i32_314 : BitVec 32 := 0#32
  let c128_i32_315 : BitVec 32 := 128#32
  let v908 : BitVec 32 := Scalar.addi c0_i32_314 c128_i32_315
  let c1_i32_316 : BitVec 32 := 1#32
  ⟨c0_i32_314, v908, c1_i32_316⟩
def k1_off8 (k1_t8 : Fin k1_t8_loop.trips) : Fin 2 → Nat :=
  let c896_i32_430 : BitVec 32 := 896#32
  let c0_i32_314 : BitVec 32 := 0#32
  let c1_i32_316 : BitVec 32 := 1#32
  let arg4 : BitVec 32 := Scf.iv c0_i32_314 c1_i32_316 k1_t8
  let v1080 : BitVec 32 := Scalar.addi c896_i32_430 arg4
  let v1081 : Index := Scalar.indexCast v1080
  let c0_431 : Index := 0#32
  ![v1081.toNat, 0]
@[reducible] def k1_t9_loop : Scf.Loop 32 :=
  let c0_i32_324 : BitVec 32 := 0#32
  let c128_i32_325 : BitVec 32 := 128#32
  let v919 : BitVec 32 := Scalar.addi c0_i32_324 c128_i32_325
  let c1_i32_326 : BitVec 32 := 1#32
  ⟨c0_i32_324, v919, c1_i32_326⟩
def k1_off9 (k1_t9 : Fin k1_t9_loop.trips) : Fin 2 → Nat :=
  let c1024_i32_430 : BitVec 32 := 1024#32
  let c0_i32_324 : BitVec 32 := 0#32
  let c1_i32_326 : BitVec 32 := 1#32
  let arg4 : BitVec 32 := Scf.iv c0_i32_324 c1_i32_326 k1_t9
  let v1080 : BitVec 32 := Scalar.addi c1024_i32_430 arg4
  let v1081 : Index := Scalar.indexCast v1080
  let c0_431 : Index := 0#32
  ![v1081.toNat, 0]
@[reducible] def k1_t10_loop : Scf.Loop 32 :=
  let c0_i32_334 : BitVec 32 := 0#32
  let c128_i32_335 : BitVec 32 := 128#32
  let v930 : BitVec 32 := Scalar.addi c0_i32_334 c128_i32_335
  let c1_i32_336 : BitVec 32 := 1#32
  ⟨c0_i32_334, v930, c1_i32_336⟩
def k1_off10 (k1_t10 : Fin k1_t10_loop.trips) : Fin 2 → Nat :=
  let c1152_i32_430 : BitVec 32 := 1152#32
  let c0_i32_334 : BitVec 32 := 0#32
  let c1_i32_336 : BitVec 32 := 1#32
  let arg4 : BitVec 32 := Scf.iv c0_i32_334 c1_i32_336 k1_t10
  let v1080 : BitVec 32 := Scalar.addi c1152_i32_430 arg4
  let v1081 : Index := Scalar.indexCast v1080
  let c0_431 : Index := 0#32
  ![v1081.toNat, 0]
@[reducible] def k1_t11_loop : Scf.Loop 32 :=
  let c0_i32_344 : BitVec 32 := 0#32
  let c128_i32_345 : BitVec 32 := 128#32
  let v941 : BitVec 32 := Scalar.addi c0_i32_344 c128_i32_345
  let c1_i32_346 : BitVec 32 := 1#32
  ⟨c0_i32_344, v941, c1_i32_346⟩
def k1_off11 (k1_t11 : Fin k1_t11_loop.trips) : Fin 2 → Nat :=
  let c1280_i32_430 : BitVec 32 := 1280#32
  let c0_i32_344 : BitVec 32 := 0#32
  let c1_i32_346 : BitVec 32 := 1#32
  let arg4 : BitVec 32 := Scf.iv c0_i32_344 c1_i32_346 k1_t11
  let v1080 : BitVec 32 := Scalar.addi c1280_i32_430 arg4
  let v1081 : Index := Scalar.indexCast v1080
  let c0_431 : Index := 0#32
  ![v1081.toNat, 0]
@[reducible] def k1_t12_loop : Scf.Loop 32 :=
  let c0_i32_354 : BitVec 32 := 0#32
  let c128_i32_355 : BitVec 32 := 128#32
  let v952 : BitVec 32 := Scalar.addi c0_i32_354 c128_i32_355
  let c1_i32_356 : BitVec 32 := 1#32
  ⟨c0_i32_354, v952, c1_i32_356⟩
def k1_off12 (k1_t12 : Fin k1_t12_loop.trips) : Fin 2 → Nat :=
  let c1408_i32_430 : BitVec 32 := 1408#32
  let c0_i32_354 : BitVec 32 := 0#32
  let c1_i32_356 : BitVec 32 := 1#32
  let arg4 : BitVec 32 := Scf.iv c0_i32_354 c1_i32_356 k1_t12
  let v1080 : BitVec 32 := Scalar.addi c1408_i32_430 arg4
  let v1081 : Index := Scalar.indexCast v1080
  let c0_431 : Index := 0#32
  ![v1081.toNat, 0]
@[reducible] def k1_t13_loop : Scf.Loop 32 :=
  let c0_i32_364 : BitVec 32 := 0#32
  let c128_i32_365 : BitVec 32 := 128#32
  let v963 : BitVec 32 := Scalar.addi c0_i32_364 c128_i32_365
  let c1_i32_366 : BitVec 32 := 1#32
  ⟨c0_i32_364, v963, c1_i32_366⟩
def k1_off13 (k1_t13 : Fin k1_t13_loop.trips) : Fin 2 → Nat :=
  let c1536_i32_430 : BitVec 32 := 1536#32
  let c0_i32_364 : BitVec 32 := 0#32
  let c1_i32_366 : BitVec 32 := 1#32
  let arg4 : BitVec 32 := Scf.iv c0_i32_364 c1_i32_366 k1_t13
  let v1080 : BitVec 32 := Scalar.addi c1536_i32_430 arg4
  let v1081 : Index := Scalar.indexCast v1080
  let c0_431 : Index := 0#32
  ![v1081.toNat, 0]
@[reducible] def k1_t14_loop : Scf.Loop 32 :=
  let c0_i32_374 : BitVec 32 := 0#32
  let c128_i32_375 : BitVec 32 := 128#32
  let v974 : BitVec 32 := Scalar.addi c0_i32_374 c128_i32_375
  let c1_i32_376 : BitVec 32 := 1#32
  ⟨c0_i32_374, v974, c1_i32_376⟩
def k1_off14 (k1_t14 : Fin k1_t14_loop.trips) : Fin 2 → Nat :=
  let c1664_i32_430 : BitVec 32 := 1664#32
  let c0_i32_374 : BitVec 32 := 0#32
  let c1_i32_376 : BitVec 32 := 1#32
  let arg4 : BitVec 32 := Scf.iv c0_i32_374 c1_i32_376 k1_t14
  let v1080 : BitVec 32 := Scalar.addi c1664_i32_430 arg4
  let v1081 : Index := Scalar.indexCast v1080
  let c0_431 : Index := 0#32
  ![v1081.toNat, 0]
@[reducible] def k1_t15_loop : Scf.Loop 32 :=
  let c0_i32_384 : BitVec 32 := 0#32
  let c128_i32_385 : BitVec 32 := 128#32
  let v985 : BitVec 32 := Scalar.addi c0_i32_384 c128_i32_385
  let c1_i32_386 : BitVec 32 := 1#32
  ⟨c0_i32_384, v985, c1_i32_386⟩
def k1_off15 (k1_t15 : Fin k1_t15_loop.trips) : Fin 2 → Nat :=
  let c1792_i32_430 : BitVec 32 := 1792#32
  let c0_i32_384 : BitVec 32 := 0#32
  let c1_i32_386 : BitVec 32 := 1#32
  let arg4 : BitVec 32 := Scf.iv c0_i32_384 c1_i32_386 k1_t15
  let v1080 : BitVec 32 := Scalar.addi c1792_i32_430 arg4
  let v1081 : Index := Scalar.indexCast v1080
  let c0_431 : Index := 0#32
  ![v1081.toNat, 0]
@[reducible] def k1_t16_loop : Scf.Loop 32 :=
  let c0_i32_394 : BitVec 32 := 0#32
  let c128_i32_395 : BitVec 32 := 128#32
  let v996 : BitVec 32 := Scalar.addi c0_i32_394 c128_i32_395
  let c1_i32_396 : BitVec 32 := 1#32
  ⟨c0_i32_394, v996, c1_i32_396⟩
def k1_off16 (k1_t16 : Fin k1_t16_loop.trips) : Fin 2 → Nat :=
  let c1920_i32_430 : BitVec 32 := 1920#32
  let c0_i32_394 : BitVec 32 := 0#32
  let c1_i32_396 : BitVec 32 := 1#32
  let arg4 : BitVec 32 := Scf.iv c0_i32_394 c1_i32_396 k1_t16
  let v1080 : BitVec 32 := Scalar.addi c1920_i32_430 arg4
  let v1081 : Index := Scalar.indexCast v1080
  let c0_431 : Index := 0#32
  ![v1081.toNat, 0]
abbrev stage1_0 : Fin 1 → Memref sig .tc .vmem S2048x8 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S4x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S2048x8 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
-- ==== ReferenceIdeal.lean ====
abbrev S1x50x50x256 : Shape := ⟨4, ![1, 50, 50, 256]⟩
abbrev S3x3x256x256 : Shape := ⟨4, ![3, 3, 256, 256]⟩
abbrev S256 : Shape := ⟨1, ![256]⟩
abbrev S1x1x256x15 : Shape := ⟨4, ![1, 1, 256, 15]⟩
abbrev S15 : Shape := ⟨1, ![15]⟩
abbrev S1x1x256x60 : Shape := ⟨4, ![1, 1, 256, 60]⟩
abbrev S60 : Shape := ⟨1, ![60]⟩
abbrev S15x4 : Shape := ⟨2, ![15, 4]⟩
abbrev S50 : Shape := ⟨1, ![50]⟩
abbrev S_ : Shape := ⟨0, ![]⟩
abbrev S50x1 : Shape := ⟨2, ![50, 1]⟩
abbrev S50x50 : Shape := ⟨2, ![50, 50]⟩
abbrev S1x50 : Shape := ⟨2, ![1, 50]⟩
abbrev S50x50x1 : Shape := ⟨3, ![50, 50, 1]⟩
abbrev S50x50x4 : Shape := ⟨3, ![50, 50, 4]⟩
abbrev S50x50x1x4 : Shape := ⟨4, ![50, 50, 1, 4]⟩
abbrev S1x1x15x4 : Shape := ⟨4, ![1, 1, 15, 4]⟩
abbrev S50x50x15x4 : Shape := ⟨4, ![50, 50, 15, 4]⟩
abbrev S37500x4 : Shape := ⟨2, ![37500, 4]⟩
abbrev S1x52x52x256 : Shape := ⟨4, ![1, 52, 52, 256]⟩
abbrev S1x1x256x256 : Shape := ⟨4, ![1, 1, 256, 256]⟩
abbrev S256x256 : Shape := ⟨2, ![256, 256]⟩
abbrev S1x1x1x256 : Shape := ⟨4, ![1, 1, 1, 256]⟩
abbrev S256x15 : Shape := ⟨2, ![256, 15]⟩
abbrev S1x50x50x15 : Shape := ⟨4, ![1, 50, 50, 15]⟩
abbrev S1x1x1x15 : Shape := ⟨4, ![1, 1, 1, 15]⟩
abbrev S37500 : Shape := ⟨1, ![37500]⟩
abbrev S256x60 : Shape := ⟨2, ![256, 60]⟩
abbrev S1x50x50x60 : Shape := ⟨4, ![1, 50, 50, 60]⟩
abbrev S1x1x1x60 : Shape := ⟨4, ![1, 1, 1, 60]⟩
abbrev S1x50x50x15x4 : Shape := ⟨5, ![1, 50, 50, 15, 4]⟩
abbrev S37500x1 : Shape := ⟨2, ![37500, 1]⟩
abbrev S2000 : Shape := ⟨1, ![2000]⟩
abbrev S2000x1 : Shape := ⟨2, ![2000, 1]⟩
abbrev S2000x4 : Shape := ⟨2, ![2000, 4]⟩
abbrev S1x2000 : Shape := ⟨2, ![1, 2000]⟩
abbrev S2000x2000 : Shape := ⟨2, ![2000, 2000]⟩
abbrev S1 : Shape := ⟨1, ![1]⟩
abbrev S1000 : Shape := ⟨1, ![1000]⟩
abbrev S1000x1 : Shape := ⟨2, ![1000, 1]⟩
abbrev S1000x4 : Shape := ⟨2, ![1000, 4]⟩
abbrev S1000x5 : Shape := ⟨2, ![1000, 5]⟩

abbrev nBuf : Space → Nat
  | .hbm => 305
  | .vmem => 0
  | .smem => 0
  | _ => 0

abbrev hbmTy0_0 (i : Nat) : BufTy := match i % 128 with
  | 0 => ⟨S1x50x50x256, .f32⟩
  | 1 => ⟨S3x3x256x256, .f32⟩
  | 2 => ⟨S256, .f32⟩
  | 3 => ⟨S1x1x256x15, .f32⟩
  | 4 => ⟨S15, .f32⟩
  | 5 => ⟨S1x1x256x60, .f32⟩
  | 6 => ⟨S60, .f32⟩
  | 7 => ⟨S15x4, .f32⟩
  | 8 => ⟨S50, .i32⟩
  | 9 => ⟨S50, .f32⟩
  | 10 => ⟨S_, .f32⟩
  | 11 => ⟨S50, .f32⟩
  | 12 => ⟨S50, .f32⟩
  | 13 => ⟨S50, .i32⟩
  | 14 => ⟨S50, .f32⟩
  | 15 => ⟨S_, .f32⟩
  | 16 => ⟨S50, .f32⟩
  | 17 => ⟨S50, .f32⟩
  | 18 => ⟨S50x1, .f32⟩
  | 19 => ⟨S50x50, .f32⟩
  | 20 => ⟨S1x50, .f32⟩
  | 21 => ⟨S50x50, .f32⟩
  | 22 => ⟨S50x50x1, .f32⟩
  | 23 => ⟨S50x50x1, .f32⟩
  | 24 => ⟨S50x50x1, .f32⟩
  | 25 => ⟨S50x50x1, .f32⟩
  | 26 => ⟨S50x50x4, .f32⟩
  | 27 => ⟨S50x50x1x4, .f32⟩
  | 28 => ⟨S1x1x15x4, .f32⟩
  | 29 => ⟨S50x50x15x4, .f32⟩
  | 30 => ⟨S50x50x15x4, .f32⟩
  | 31 => ⟨S50x50x15x4, .f32⟩
  | 32 => ⟨S37500x4, .f32⟩
  | 33 => ⟨S_, .i32⟩
  | 34 => ⟨S_, .f32⟩
  | 35 => ⟨S1x52x52x256, .f32⟩
  | 36 => ⟨S_, .f32⟩
  | 37 => ⟨S1x50x50x256, .f32⟩
  | 38 => ⟨S1x50x50x256, .f32⟩
  | 39 => ⟨S1x1x256x256, .f32⟩
  | 40 => ⟨S256x256, .f32⟩
  | 41 => ⟨S1x50x50x256, .f32⟩
  | 42 => ⟨S1x50x50x256, .f32⟩
  | 43 => ⟨S1x50x50x256, .f32⟩
  | 44 => ⟨S1x1x256x256, .f32⟩
  | 45 => ⟨S256x256, .f32⟩
  | 46 => ⟨S1x50x50x256, .f32⟩
  | 47 => ⟨S1x50x50x256, .f32⟩
  | 48 => ⟨S1x50x50x256, .f32⟩
  | 49 => ⟨S1x1x256x256, .f32⟩
  | 50 => ⟨S256x256, .f32⟩
  | 51 => ⟨S1x50x50x256, .f32⟩
  | 52 => ⟨S1x50x50x256, .f32⟩
  | 53 => ⟨S1x50x50x256, .f32⟩
  | 54 => ⟨S1x1x256x256, .f32⟩
  | 55 => ⟨S256x256, .f32⟩
  | 56 => ⟨S1x50x50x256, .f32⟩
  | 57 => ⟨S1x50x50x256, .f32⟩
  | 58 => ⟨S1x50x50x256, .f32⟩
  | 59 => ⟨S1x1x256x256, .f32⟩
  | 60 => ⟨S256x256, .f32⟩
  | 61 => ⟨S1x50x50x256, .f32⟩
  | 62 => ⟨S1x50x50x256, .f32⟩
  | 63 => ⟨S1x50x50x256, .f32⟩
  | 64 => ⟨S1x1x256x256, .f32⟩
  | 65 => ⟨S256x256, .f32⟩
  | 66 => ⟨S1x50x50x256, .f32⟩
  | 67 => ⟨S1x50x50x256, .f32⟩
  | 68 => ⟨S1x50x50x256, .f32⟩
  | 69 => ⟨S1x1x256x256, .f32⟩
  | 70 => ⟨S256x256, .f32⟩
  | 71 => ⟨S1x50x50x256, .f32⟩
  | 72 => ⟨S1x50x50x256, .f32⟩
  | 73 => ⟨S1x50x50x256, .f32⟩
  | 74 => ⟨S1x1x256x256, .f32⟩
  | 75 => ⟨S256x256, .f32⟩
  | 76 => ⟨S1x50x50x256, .f32⟩
  | 77 => ⟨S1x50x50x256, .f32⟩
  | 78 => ⟨S1x50x50x256, .f32⟩
  | 79 => ⟨S1x1x256x256, .f32⟩
  | 80 => ⟨S256x256, .f32⟩
  | 81 => ⟨S1x50x50x256, .f32⟩
  | 82 => ⟨S1x50x50x256, .f32⟩
  | 83 => ⟨S1x1x1x256, .f32⟩
  | 84 => ⟨S1x50x50x256, .f32⟩
  | 85 => ⟨S1x50x50x256, .f32⟩
  | 86 => ⟨S_, .f32⟩
  | 87 => ⟨S1x50x50x256, .f32⟩
  | 88 => ⟨S1x50x50x256, .f32⟩
  | 89 => ⟨S256x15, .f32⟩
  | 90 => ⟨S1x50x50x15, .f32⟩
  | 91 => ⟨S1x1x1x15, .f32⟩
  | 92 => ⟨S1x50x50x15, .f32⟩
  | 93 => ⟨S1x50x50x15, .f32⟩
  | 94 => ⟨S37500, .f32⟩
  | 95 => ⟨S256x60, .f32⟩
  | 96 => ⟨S1x50x50x60, .f32⟩
  | 97 => ⟨S1x1x1x60, .f32⟩
  | 98 => ⟨S1x50x50x60, .f32⟩
  | 99 => ⟨S1x50x50x60, .f32⟩
  | 100 => ⟨S1x50x50x15x4, .f32⟩
  | 101 => ⟨S37500x4, .f32⟩
  | 102 => ⟨S37500x1, .f32⟩
  | 103 => ⟨S37500, .f32⟩
  | 104 => ⟨S37500x1, .f32⟩
  | 105 => ⟨S37500, .f32⟩
  | 106 => ⟨S37500, .f32⟩
  | 107 => ⟨S37500x1, .f32⟩
  | 108 => ⟨S37500, .f32⟩
  | 109 => ⟨S37500x1, .f32⟩
  | 110 => ⟨S37500, .f32⟩
  | 111 => ⟨S37500, .f32⟩
  | 112 => ⟨S37500x1, .f32⟩
  | 113 => ⟨S37500, .f32⟩
  | 114 => ⟨S_, .f32⟩
  | 115 => ⟨S37500, .f32⟩
  | 116 => ⟨S37500, .f32⟩
  | 117 => ⟨S37500, .f32⟩
  | 118 => ⟨S37500x1, .f32⟩
  | 119 => ⟨S37500, .f32⟩
  | 120 => ⟨S_, .f32⟩
  | 121 => ⟨S37500, .f32⟩
  | 122 => ⟨S37500, .f32⟩
  | 123 => ⟨S37500, .f32⟩
  | 124 => ⟨S37500x1, .f32⟩
  | 125 => ⟨S37500, .f32⟩
  | 126 => ⟨S37500x1, .f32⟩
  | 127 => ⟨S37500, .f32⟩
  | _ => ⟨S1x50x50x256, .f32⟩

abbrev hbmTy0_1 (i : Nat) : BufTy := match i % 128 with
  | 0 => ⟨S37500x1, .f32⟩
  | 1 => ⟨S37500, .f32⟩
  | 2 => ⟨S_, .f32⟩
  | 3 => ⟨S37500, .f32⟩
  | 4 => ⟨S37500, .f32⟩
  | 5 => ⟨S37500x1, .f32⟩
  | 6 => ⟨S37500, .f32⟩
  | 7 => ⟨S_, .f32⟩
  | 8 => ⟨S37500, .f32⟩
  | 9 => ⟨S37500, .f32⟩
  | 10 => ⟨S37500, .f32⟩
  | 11 => ⟨S37500, .f32⟩
  | 12 => ⟨S37500, .f32⟩
  | 13 => ⟨S37500, .f32⟩
  | 14 => ⟨S37500, .f32⟩
  | 15 => ⟨S37500, .f32⟩
  | 16 => ⟨S37500, .f32⟩
  | 17 => ⟨S37500, .f32⟩
  | 18 => ⟨S_, .f32⟩
  | 19 => ⟨S37500, .f32⟩
  | 20 => ⟨S37500, .f32⟩
  | 21 => ⟨S37500, .f32⟩
  | 22 => ⟨S_, .f32⟩
  | 23 => ⟨S37500, .f32⟩
  | 24 => ⟨S37500, .f32⟩
  | 25 => ⟨S37500, .f32⟩
  | 26 => ⟨S_, .f32⟩
  | 27 => ⟨S37500, .f32⟩
  | 28 => ⟨S37500, .f32⟩
  | 29 => ⟨S37500, .f32⟩
  | 30 => ⟨S_, .f32⟩
  | 31 => ⟨S37500, .f32⟩
  | 32 => ⟨S37500, .f32⟩
  | 33 => ⟨S37500, .f32⟩
  | 34 => ⟨S37500x1, .f32⟩
  | 35 => ⟨S37500x1, .f32⟩
  | 36 => ⟨S37500x1, .f32⟩
  | 37 => ⟨S37500x1, .f32⟩
  | 38 => ⟨S37500x4, .f32⟩
  | 39 => ⟨S_, .f32⟩
  | 40 => ⟨S_, .f32⟩
  | 41 => ⟨S_, .f32⟩
  | 42 => ⟨S37500x4, .f32⟩
  | 43 => ⟨S37500x4, .f32⟩
  | 44 => ⟨S_, .f32⟩
  | 45 => ⟨S37500x4, .f32⟩
  | 46 => ⟨S37500x4, .f32⟩
  | 47 => ⟨S2000, .f32⟩
  | 48 => ⟨S2000, .i32⟩
  | 49 => ⟨S_, .i32⟩
  | 50 => ⟨S2000, .i32⟩
  | 51 => ⟨S2000, .i1⟩
  | 52 => ⟨S_, .i32⟩
  | 53 => ⟨S2000, .i32⟩
  | 54 => ⟨S2000, .i32⟩
  | 55 => ⟨S2000, .i32⟩
  | 56 => ⟨S2000x1, .i32⟩
  | 57 => ⟨S2000x4, .f32⟩
  | 58 => ⟨S2000x1, .f32⟩
  | 59 => ⟨S2000, .f32⟩
  | 60 => ⟨S2000x1, .f32⟩
  | 61 => ⟨S2000, .f32⟩
  | 62 => ⟨S2000x1, .f32⟩
  | 63 => ⟨S2000, .f32⟩
  | 64 => ⟨S2000x1, .f32⟩
  | 65 => ⟨S2000, .f32⟩
  | 66 => ⟨S2000, .f32⟩
  | 67 => ⟨S2000, .f32⟩
  | 68 => ⟨S2000, .f32⟩
  | 69 => ⟨S2000x1, .f32⟩
  | 70 => ⟨S1x2000, .f32⟩
  | 71 => ⟨S2000x2000, .f32⟩
  | 72 => ⟨S2000x2000, .f32⟩
  | 73 => ⟨S2000x2000, .f32⟩
  | 74 => ⟨S2000x1, .f32⟩
  | 75 => ⟨S1x2000, .f32⟩
  | 76 => ⟨S2000x2000, .f32⟩
  | 77 => ⟨S2000x2000, .f32⟩
  | 78 => ⟨S2000x2000, .f32⟩
  | 79 => ⟨S2000x1, .f32⟩
  | 80 => ⟨S1x2000, .f32⟩
  | 81 => ⟨S2000x2000, .f32⟩
  | 82 => ⟨S2000x2000, .f32⟩
  | 83 => ⟨S2000x2000, .f32⟩
  | 84 => ⟨S2000x1, .f32⟩
  | 85 => ⟨S1x2000, .f32⟩
  | 86 => ⟨S2000x2000, .f32⟩
  | 87 => ⟨S2000x2000, .f32⟩
  | 88 => ⟨S2000x2000, .f32⟩
  | 89 => ⟨S2000x2000, .f32⟩
  | 90 => ⟨S_, .f32⟩
  | 91 => ⟨S_, .f32⟩
  | 92 => ⟨S2000x2000, .f32⟩
  | 93 => ⟨S2000x2000, .f32⟩
  | 94 => ⟨S2000x2000, .f32⟩
  | 95 => ⟨S_, .f32⟩
  | 96 => ⟨S_, .f32⟩
  | 97 => ⟨S2000x2000, .f32⟩
  | 98 => ⟨S2000x2000, .f32⟩
  | 99 => ⟨S2000x2000, .f32⟩
  | 100 => ⟨S2000x1, .f32⟩
  | 101 => ⟨S1x2000, .f32⟩
  | 102 => ⟨S2000x2000, .f32⟩
  | 103 => ⟨S2000x2000, .f32⟩
  | 104 => ⟨S2000x2000, .f32⟩
  | 105 => ⟨S2000x2000, .f32⟩
  | 106 => ⟨S_, .f32⟩
  | 107 => ⟨S2000x2000, .f32⟩
  | 108 => ⟨S2000x2000, .f32⟩
  | 109 => ⟨S2000x2000, .f32⟩
  | 110 => ⟨S2000, .i32⟩
  | 111 => ⟨S_, .i1⟩
  | 112 => ⟨S2000, .i1⟩
  | 113 => ⟨S_, .i32⟩
  | 114 => ⟨S_, .i32⟩
  | 115 => ⟨S2000x2000, .f32⟩
  | 116 => ⟨S2000, .i32⟩
  | 117 => ⟨S_, .i32⟩
  | 118 => ⟨S_, .i32⟩
  | 119 => ⟨S2000, .i1⟩
  | 120 => ⟨S_, .i32⟩
  | 121 => ⟨S_, .i1⟩
  | 122 => ⟨S_, .i32⟩
  | 123 => ⟨S_, .i32⟩
  | 124 => ⟨S_, .i32⟩
  | 125 => ⟨S_, .i1⟩
  | 126 => ⟨S_, .i32⟩
  | 127 => ⟨S_, .i32⟩
  | _ => ⟨S1x50x50x256, .f32⟩

abbrev hbmTy0_2 (i : Nat) : BufTy := match i % 128 with
  | 0 => ⟨S_, .i32⟩
  | 1 => ⟨S_, .i32⟩
  | 2 => ⟨S1, .i1⟩
  | 3 => ⟨S_, .i1⟩
  | 4 => ⟨S_, .i32⟩
  | 5 => ⟨S_, .i32⟩
  | 6 => ⟨S_, .i1⟩
  | 7 => ⟨S_, .i32⟩
  | 8 => ⟨S_, .i32⟩
  | 9 => ⟨S_, .i32⟩
  | 10 => ⟨S_, .i32⟩
  | 11 => ⟨S_, .i32⟩
  | 12 => ⟨S_, .i1⟩
  | 13 => ⟨S_, .i32⟩
  | 14 => ⟨S_, .i32⟩
  | 15 => ⟨S_, .i32⟩
  | 16 => ⟨S_, .i32⟩
  | 17 => ⟨S_, .i32⟩
  | 18 => ⟨S1x2000, .f32⟩
  | 19 => ⟨S2000, .f32⟩
  | 20 => ⟨S_, .f32⟩
  | 21 => ⟨S2000, .f32⟩
  | 22 => ⟨S2000, .i1⟩
  | 23 => ⟨S_, .i32⟩
  | 24 => ⟨S2000, .i32⟩
  | 25 => ⟨S2000, .i1⟩
  | 26 => ⟨S2000, .i1⟩
  | 27 => ⟨S2000, .i1⟩
  | 28 => ⟨S2000, .i1⟩
  | 29 => ⟨S2000, .i1⟩
  | 30 => ⟨S_, .i32⟩
  | 31 => ⟨S_, .i32⟩
  | 32 => ⟨S_, .f32⟩
  | 33 => ⟨S_, .f32⟩
  | 34 => ⟨S2000, .f32⟩
  | 35 => ⟨S2000, .f32⟩
  | 36 => ⟨S1000, .f32⟩
  | 37 => ⟨S1000, .i32⟩
  | 38 => ⟨S_, .i32⟩
  | 39 => ⟨S1000, .i32⟩
  | 40 => ⟨S1000, .i1⟩
  | 41 => ⟨S_, .i32⟩
  | 42 => ⟨S1000, .i32⟩
  | 43 => ⟨S1000, .i32⟩
  | 44 => ⟨S1000, .i32⟩
  | 45 => ⟨S1000x1, .i32⟩
  | 46 => ⟨S1000x4, .f32⟩
  | 47 => ⟨S1000x1, .f32⟩
  | 48 => ⟨S1000x5, .f32⟩
  | _ => ⟨S1x50x50x256, .f32⟩

abbrev hbmTy (i : Nat) : BufTy := match i / 128 with
  | 0 => hbmTy0_0 i
  | 1 => hbmTy0_1 i
  | 2 => hbmTy0_2 i
  | _ => ⟨S1x50x50x256, .f32⟩

abbrev bufTy : (tb : Table) → Fin (tcTables nBuf tb) → BufTy
  | .hbm, ⟨i, _⟩ => hbmTy i
  | _, _ => ⟨S1x50x50x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c : Ref sig .tc := ⟨.hbm, 33, rfl⟩
abbrev main_call0_v0 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_call1_cst : Ref sig .tc := ⟨.hbm, 86, rfl⟩
abbrev main_call1_v0 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_cst_3 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_cst_4 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_cst_5 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_cst_6 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_cst_7 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_cst_8 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_cst_9 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_cst_10 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_cst_11 : Ref sig .tc := ⟨.hbm, 167, rfl⟩
abbrev main_cst_12 : Ref sig .tc := ⟨.hbm, 168, rfl⟩
abbrev main_call2_v0 : Ref sig .tc := ⟨.hbm, 169, rfl⟩
abbrev main_call2_v1 : Ref sig .tc := ⟨.hbm, 170, rfl⟩
abbrev main_call2_v2 : Ref sig .tc := ⟨.hbm, 171, rfl⟩
abbrev main_call2_v3 : Ref sig .tc := ⟨.hbm, 172, rfl⟩
abbrev main_call2_v4 : Ref sig .tc := ⟨.hbm, 173, rfl⟩
abbrev main_v144 : Ref sig .tc := ⟨.hbm, 174, rfl⟩
abbrev main_values : Ref sig .tc := ⟨.hbm, 175, rfl⟩
abbrev main_indices : Ref sig .tc := ⟨.hbm, 176, rfl⟩
abbrev main_c_13 : Ref sig .tc := ⟨.hbm, 177, rfl⟩
abbrev main_v145 : Ref sig .tc := ⟨.hbm, 178, rfl⟩
abbrev main_v146 : Ref sig .tc := ⟨.hbm, 179, rfl⟩
abbrev main_c_14 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_v162 : Ref sig .tc := ⟨.hbm, 196, rfl⟩
abbrev main_v163 : Ref sig .tc := ⟨.hbm, 197, rfl⟩
abbrev main_v164 : Ref sig .tc := ⟨.hbm, 198, rfl⟩
abbrev main_v165 : Ref sig .tc := ⟨.hbm, 199, rfl⟩
abbrev main_v166 : Ref sig .tc := ⟨.hbm, 200, rfl⟩
abbrev main_v167 : Ref sig .tc := ⟨.hbm, 201, rfl⟩
abbrev main_v168 : Ref sig .tc := ⟨.hbm, 202, rfl⟩
abbrev main_v169 : Ref sig .tc := ⟨.hbm, 203, rfl⟩
abbrev main_v170 : Ref sig .tc := ⟨.hbm, 204, rfl⟩
abbrev main_v171 : Ref sig .tc := ⟨.hbm, 205, rfl⟩
abbrev main_v172 : Ref sig .tc := ⟨.hbm, 206, rfl⟩
abbrev main_v173 : Ref sig .tc := ⟨.hbm, 207, rfl⟩
abbrev main_v174 : Ref sig .tc := ⟨.hbm, 208, rfl⟩
abbrev main_v175 : Ref sig .tc := ⟨.hbm, 209, rfl⟩
abbrev main_v176 : Ref sig .tc := ⟨.hbm, 210, rfl⟩
abbrev main_v177 : Ref sig .tc := ⟨.hbm, 211, rfl⟩
abbrev main_v178 : Ref sig .tc := ⟨.hbm, 212, rfl⟩
abbrev main_v179 : Ref sig .tc := ⟨.hbm, 213, rfl⟩
abbrev main_v180 : Ref sig .tc := ⟨.hbm, 214, rfl⟩
abbrev main_v181 : Ref sig .tc := ⟨.hbm, 215, rfl⟩
abbrev main_v182 : Ref sig .tc := ⟨.hbm, 216, rfl⟩
abbrev main_v183 : Ref sig .tc := ⟨.hbm, 217, rfl⟩
abbrev main_cst_15 : Ref sig .tc := ⟨.hbm, 218, rfl⟩
abbrev main_call3_v0 : Ref sig .tc := ⟨.hbm, 219, rfl⟩
abbrev main_call3_v1 : Ref sig .tc := ⟨.hbm, 220, rfl⟩
abbrev main_v184 : Ref sig .tc := ⟨.hbm, 221, rfl⟩
abbrev main_v185 : Ref sig .tc := ⟨.hbm, 222, rfl⟩
abbrev main_cst_16 : Ref sig .tc := ⟨.hbm, 223, rfl⟩
abbrev main_call4_v0 : Ref sig .tc := ⟨.hbm, 224, rfl⟩
abbrev main_call4_v1 : Ref sig .tc := ⟨.hbm, 225, rfl⟩
abbrev main_v186 : Ref sig .tc := ⟨.hbm, 226, rfl⟩
abbrev main_v187 : Ref sig .tc := ⟨.hbm, 227, rfl⟩
abbrev main_v188 : Ref sig .tc := ⟨.hbm, 228, rfl⟩
abbrev main_v189 : Ref sig .tc := ⟨.hbm, 229, rfl⟩
abbrev main_v190 : Ref sig .tc := ⟨.hbm, 230, rfl⟩
abbrev main_v191 : Ref sig .tc := ⟨.hbm, 231, rfl⟩
abbrev main_v192 : Ref sig .tc := ⟨.hbm, 232, rfl⟩
abbrev main_v193 : Ref sig .tc := ⟨.hbm, 233, rfl⟩
abbrev main_cst_17 : Ref sig .tc := ⟨.hbm, 234, rfl⟩
abbrev main_v194 : Ref sig .tc := ⟨.hbm, 235, rfl⟩
abbrev main_v195 : Ref sig .tc := ⟨.hbm, 236, rfl⟩
abbrev main_v196 : Ref sig .tc := ⟨.hbm, 237, rfl⟩
abbrev main_v197 : Ref sig .tc := ⟨.hbm, 238, rfl⟩
abbrev main_c_18 : Ref sig .tc := ⟨.hbm, 239, rfl⟩
abbrev main_v198 : Ref sig .tc := ⟨.hbm, 240, rfl⟩
abbrev main_c_19 : Ref sig .tc := ⟨.hbm, 241, rfl⟩
abbrev main_c_20 : Ref sig .tc := ⟨.hbm, 242, rfl⟩
abbrev main_v199_0 : Ref sig .tc := ⟨.hbm, 243, rfl⟩
abbrev main_v199_1 : Ref sig .tc := ⟨.hbm, 244, rfl⟩
abbrev main_v199_2 : Ref sig .tc := ⟨.hbm, 245, rfl⟩
abbrev main_v199_3 : Ref sig .tc := ⟨.hbm, 246, rfl⟩
abbrev main_v199_4 : Ref sig .tc := ⟨.hbm, 247, rfl⟩
abbrev main_while0c_c_30 : Ref sig .tc := ⟨.hbm, 248, rfl⟩
abbrev main_while0c_v210 : Ref sig .tc := ⟨.hbm, 249, rfl⟩
abbrev main_while0b_c_30 : Ref sig .tc := ⟨.hbm, 250, rfl⟩
abbrev main_while0b_v210 : Ref sig .tc := ⟨.hbm, 251, rfl⟩
abbrev main_while0b_c_31 : Ref sig .tc := ⟨.hbm, 252, rfl⟩
abbrev main_while0b_v211 : Ref sig .tc := ⟨.hbm, 253, rfl⟩
abbrev main_while0b_v212 : Ref sig .tc := ⟨.hbm, 254, rfl⟩
abbrev main_while0b_c_32 : Ref sig .tc := ⟨.hbm, 255, rfl⟩
abbrev main_while0b_v213 : Ref sig .tc := ⟨.hbm, 256, rfl⟩
abbrev main_while0b_v214 : Ref sig .tc := ⟨.hbm, 257, rfl⟩
abbrev main_while0b_v215 : Ref sig .tc := ⟨.hbm, 258, rfl⟩
abbrev main_while0b_v216 : Ref sig .tc := ⟨.hbm, 259, rfl⟩
abbrev main_while0b_v217 : Ref sig .tc := ⟨.hbm, 260, rfl⟩
abbrev main_while0b_c_33 : Ref sig .tc := ⟨.hbm, 261, rfl⟩
abbrev main_while0b_v218 : Ref sig .tc := ⟨.hbm, 262, rfl⟩
abbrev main_while0b_c_34 : Ref sig .tc := ⟨.hbm, 263, rfl⟩
abbrev main_while0b_v219 : Ref sig .tc := ⟨.hbm, 264, rfl⟩
abbrev main_while0b_v220 : Ref sig .tc := ⟨.hbm, 265, rfl⟩
abbrev main_while0b_c_35 : Ref sig .tc := ⟨.hbm, 266, rfl⟩
abbrev main_while0b_c_36 : Ref sig .tc := ⟨.hbm, 267, rfl⟩
abbrev main_while0b_v221 : Ref sig .tc := ⟨.hbm, 268, rfl⟩
abbrev main_while0b_c_37 : Ref sig .tc := ⟨.hbm, 269, rfl⟩
abbrev main_while0b_c_38 : Ref sig .tc := ⟨.hbm, 270, rfl⟩
abbrev main_while0b_v222 : Ref sig .tc := ⟨.hbm, 271, rfl⟩
abbrev main_while0b_c_39 : Ref sig .tc := ⟨.hbm, 272, rfl⟩
abbrev main_while0b_v223 : Ref sig .tc := ⟨.hbm, 273, rfl⟩
abbrev main_while0b_v224 : Ref sig .tc := ⟨.hbm, 274, rfl⟩
abbrev main_while0b_v225 : Ref sig .tc := ⟨.hbm, 275, rfl⟩
abbrev main_while0b_cst_40 : Ref sig .tc := ⟨.hbm, 276, rfl⟩
abbrev main_while0b_v226 : Ref sig .tc := ⟨.hbm, 277, rfl⟩
abbrev main_while0b_v227 : Ref sig .tc := ⟨.hbm, 278, rfl⟩
abbrev main_while0b_v228 : Ref sig .tc := ⟨.hbm, 279, rfl⟩
abbrev main_while0b_v229 : Ref sig .tc := ⟨.hbm, 280, rfl⟩
abbrev main_while0b_v230 : Ref sig .tc := ⟨.hbm, 281, rfl⟩
abbrev main_while0b_v231 : Ref sig .tc := ⟨.hbm, 282, rfl⟩
abbrev main_while0b_v232 : Ref sig .tc := ⟨.hbm, 283, rfl⟩
abbrev main_while0b_v233 : Ref sig .tc := ⟨.hbm, 284, rfl⟩
abbrev main_while0b_v234 : Ref sig .tc := ⟨.hbm, 285, rfl⟩
abbrev main_while0b_c_41 : Ref sig .tc := ⟨.hbm, 286, rfl⟩
abbrev main_while0b_v235 : Ref sig .tc := ⟨.hbm, 287, rfl⟩
abbrev main_cst_21 : Ref sig .tc := ⟨.hbm, 288, rfl⟩
abbrev main_call6_v0 : Ref sig .tc := ⟨.hbm, 289, rfl⟩
abbrev main_call6_v1 : Ref sig .tc := ⟨.hbm, 290, rfl⟩
abbrev main_v200 : Ref sig .tc := ⟨.hbm, 291, rfl⟩
abbrev main_values_22 : Ref sig .tc := ⟨.hbm, 292, rfl⟩
abbrev main_indices_23 : Ref sig .tc := ⟨.hbm, 293, rfl⟩
abbrev main_c_24 : Ref sig .tc := ⟨.hbm, 294, rfl⟩
abbrev main_v201 : Ref sig .tc := ⟨.hbm, 295, rfl⟩
abbrev main_v202 : Ref sig .tc := ⟨.hbm, 296, rfl⟩
abbrev main_c_25 : Ref sig .tc := ⟨.hbm, 297, rfl⟩
abbrev main_v203 : Ref sig .tc := ⟨.hbm, 298, rfl⟩
abbrev main_v204 : Ref sig .tc := ⟨.hbm, 299, rfl⟩
abbrev main_v205 : Ref sig .tc := ⟨.hbm, 300, rfl⟩
abbrev main_v206 : Ref sig .tc := ⟨.hbm, 301, rfl⟩
abbrev main_v207 : Ref sig .tc := ⟨.hbm, 302, rfl⟩
abbrev main_v208 : Ref sig .tc := ⟨.hbm, 303, rfl⟩
abbrev main_v209 : Ref sig .tc := ⟨.hbm, 304, rfl⟩

abbrev nD : Nat := 1
abbrev τ : Topo := Topo.v7x

variable {F : FTy → Type} [FloatOps F]

abbrev main_while0_count : Scf.Loop 32 := ⟨0#32, 2000#32, 1#32⟩
-- ==== Proof.Run.Dense.lean ====
module

public import proofs.«01_k».proof.Proof.Gen.KernelIdeal.Regions
public import proofs.«01_k».proof.Proof.Gen.KernelIdeal.Points
public import proofs.«01_k».proof.Proof.Gen.KernelIdeal.Skeleton
public import Idealize.ShloMosaic.Lib.Pipeline.FrameBody
public import Idealize.ShloMosaic.Lib.Claim
public import Idealize.ShloMosaic.Lib.Ring
public import Idealize.ShloMosaic.Lib.Tactic

/-! The dense region: what its body leaves in the five results, and the body run once at the only point. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The values the body computes, from the blocks of its seven inputs -/

/-- Tap 0 of the convolution's weights. -/
abbrev tap0 (x1 : Vec F S9x256x256 .f32) : Vec F S1x256x256 .f32 :=
  View.ld x1 (Rect.unit (s := S9x256x256) ![0, 0, 0] S1x256x256.size inb_S9x256x256_S1x256x256_0_0_0)
/-- Tap 1 of the convolution's weights. -/
abbrev tap1 (x1 : Vec F S9x256x256 .f32) : Vec F S1x256x256 .f32 :=
  View.ld x1 (Rect.unit (s := S9x256x256) ![1, 0, 0] S1x256x256.size inb_S9x256x256_S1x256x256_1_0_0)
/-- Tap 2 of the convolution's weights. -/
abbrev tap2 (x1 : Vec F S9x256x256 .f32) : Vec F S1x256x256 .f32 :=
  View.ld x1 (Rect.unit (s := S9x256x256) ![2, 0, 0] S1x256x256.size inb_S9x256x256_S1x256x256_2_0_0)
/-- Tap 3 of the convolution's weights. -/
abbrev tap3 (x1 : Vec F S9x256x256 .f32) : Vec F S1x256x256 .f32 :=
  View.ld x1 (Rect.unit (s := S9x256x256) ![3, 0, 0] S1x256x256.size inb_S9x256x256_S1x256x256_3_0_0)
/-- Tap 4 of the convolution's weights. -/
abbrev tap4 (x1 : Vec F S9x256x256 .f32) : Vec F S1x256x256 .f32 :=
  View.ld x1 (Rect.unit (s := S9x256x256) ![4, 0, 0] S1x256x256.size inb_S9x256x256_S1x256x256_4_0_0)
/-- Tap 5 of the convolution's weights. -/
abbrev tap5 (x1 : Vec F S9x256x256 .f32) : Vec F S1x256x256 .f32 :=
  View.ld x1 (Rect.unit (s := S9x256x256) ![5, 0, 0] S1x256x256.size inb_S9x256x256_S1x256x256_5_0_0)
/-- Tap 6 of the convolution's weights. -/
abbrev tap6 (x1 : Vec F S9x256x256 .f32) : Vec F S1x256x256 .f32 :=
  View.ld x1 (Rect.unit (s := S9x256x256) ![6, 0, 0] S1x256x256.size inb_S9x256x256_S1x256x256_6_0_0)
/-- Tap 7 of the convolution's weights. -/
abbrev tap7 (x1 : Vec F S9x256x256 .f32) : Vec F S1x256x256 .f32 :=
  View.ld x1 (Rect.unit (s := S9x256x256) ![7, 0, 0] S1x256x256.size inb_S9x256x256_S1x256x256_7_0_0)
/-- Tap 8 of the convolution's weights. -/
abbrev tap8 (x1 : Vec F S9x256x256 .f32) : Vec F S1x256x256 .f32 :=
  View.ld x1 (Rect.unit (s := S9x256x256) ![8, 0, 0] S1x256x256.size inb_S9x256x256_S1x256x256_8_0_0)
/-- The padded image. -/
abbrev aX (x0 : Vec F S2704x256 .f32) : Vec F S2704x256 .f32 :=
  View.ld x0 (Rect.unit (s := S2704x256) ![0, 0] S2704x256.size inb_S2704x256_S2704x256_0_0)
/-- The convolution's bias. -/
abbrev aB (x2 : Vec F S1x256 .f32) : Vec F S1x256 .f32 :=
  View.ld x2 (Rect.unit (s := S1x256) ![0, 0] S1x256.size inb_S1x256_S1x256_0_0)
/-- The heads' weights. -/
abbrev aH (x3 : Vec F S256x80 .f32) : Vec F S256x80 .f32 :=
  View.ld x3 (Rect.unit (s := S256x80) ![0, 0] S256x80.size inb_S256x80_S256x80_0_0)
/-- The heads' bias. -/
abbrev aHb (x4 : Vec F S1x80 .f32) : Vec F S1x80 .f32 :=
  View.ld x4 (Rect.unit (s := S1x80) ![0, 0] S1x80.size inb_S1x80_S1x80_0_0)
/-- The anchors' widths. -/
abbrev aW (x5 : Vec F S1x16 .f32) : Vec F S1x16 .f32 :=
  View.ld x5 (Rect.unit (s := S1x16) ![0, 0] S1x16.size inb_S1x16_S1x16_0_0)
/-- The anchors' heights. -/
abbrev aHt (x6 : Vec F S1x16 .f32) : Vec F S1x16 .f32 :=
  View.ld x6 (Rect.unit (s := S1x16) ![0, 0] S1x16.size inb_S1x16_S1x16_0_0)

/-- The first five taps summed. -/
def acc5 (x0 : Vec F S2704x256 .f32) (x1 : Vec F S9x256x256 .f32) (x2 : Vec F S1x256 .f32) (x3 : Vec F S256x80 .f32) (x4 : Vec F S1x80 .f32) (x5 : Vec F S1x16 .f32) (x6 : Vec F S1x16 .f32) : FVec F S50x50x256 .f32 :=
  k0_pay4 (aX x0) (tap0 x1) (tap1 x1) (tap2 x1) (tap3 x1) (tap4 x1)
/-- The heads' rows: scores, then the four box moves. -/
def heads (x0 : Vec F S2704x256 .f32) (x1 : Vec F S9x256x256 .f32) (x2 : Vec F S1x256 .f32) (x3 : Vec F S256x80 .f32) (x4 : Vec F S1x80 .f32) (x5 : Vec F S1x16 .f32) (x6 : Vec F S1x16 .f32) : FVec F S2500x80 .f32 :=
  k0_pay5 (k0_pay3 (aX x0)) (acc5 x0 x1 x2 x3 x4 x5 x6) (tap5 x1) (tap6 x1) (tap7 x1) (tap8 x1) (aB x2) (aH x3) (aHb x4)
/-- The scores' columns. -/
def hScore (x0 : Vec F S2704x256 .f32) (x1 : Vec F S9x256x256 .f32) (x2 : Vec F S1x256 .f32) (x3 : Vec F S256x80 .f32) (x4 : Vec F S1x80 .f32) (x5 : Vec F S1x16 .f32) (x6 : Vec F S1x16 .f32) : FVec F S2500x16 .f32 :=
  k0_pay6 (k0_pay3 (aX x0)) (acc5 x0 x1 x2 x3 x4 x5 x6) (tap5 x1) (tap6 x1) (tap7 x1) (tap8 x1) (aB x2) (aH x3) (aHb x4)
/-- The first moves' columns. -/
def hDx (x0 : Vec F S2704x256 .f32) (x1 : Vec F S9x256x256 .f32) (x2 : Vec F S1x256 .f32) (x3 : Vec F S256x80 .f32) (x4 : Vec F S1x80 .f32) (x5 : Vec F S1x16 .f32) (x6 : Vec F S1x16 .f32) : FVec F S2500x16 .f32 :=
  k0_pay7 (k0_pay3 (aX x0)) (acc5 x0 x1 x2 x3 x4 x5 x6) (tap5 x1) (tap6 x1) (tap7 x1) (tap8 x1) (aB x2) (aH x3) (aHb x4)
/-- What the body leaves in the scores. -/
def val7 (x0 : Vec F S2704x256 .f32) (x1 : Vec F S9x256x256 .f32) (x2 : Vec F S1x256 .f32) (x3 : Vec F S256x80 .f32) (x4 : Vec F S1x80 .f32) (x5 : Vec F S1x16 .f32) (x6 : Vec F S1x16 .f32) : Vec F S2500x15 .f32 := k0_pay19 (hScore x0 x1 x2 x3 x4 x5 x6)
/-- What it leaves in the left edges. -/
def val8 (x0 : Vec F S2704x256 .f32) (x1 : Vec F S9x256x256 .f32) (x2 : Vec F S1x256 .f32) (x3 : Vec F S256x80 .f32) (x4 : Vec F S1x80 .f32) (x5 : Vec F S1x16 .f32) (x6 : Vec F S1x16 .f32) : Vec F S2500x15 .f32 :=
  k0_pay20 (hDx x0 x1 x2 x3 x4 x5 x6) (k0_pay9 (heads x0 x1 x2 x3 x4 x5 x6)) k0_pay11 (aW x5)
/-- What it leaves in the upper edges. -/
def val9 (x0 : Vec F S2704x256 .f32) (x1 : Vec F S9x256x256 .f32) (x2 : Vec F S1x256 .f32) (x3 : Vec F S256x80 .f32) (x4 : Vec F S1x80 .f32) (x5 : Vec F S1x16 .f32) (x6 : Vec F S1x16 .f32) : Vec F S2500x15 .f32 :=
  k0_pay21 (k0_pay8 (heads x0 x1 x2 x3 x4 x5 x6)) (k0_pay10 (heads x0 x1 x2 x3 x4 x5 x6)) k0_pay12 k0_pay13 k0_pay14 (aHt x6)
/-- What it leaves in the right edges. -/
def val10 (x0 : Vec F S2704x256 .f32) (x1 : Vec F S9x256x256 .f32) (x2 : Vec F S1x256 .f32) (x3 : Vec F S256x80 .f32) (x4 : Vec F S1x80 .f32) (x5 : Vec F S1x16 .f32) (x6 : Vec F S1x16 .f32) : Vec F S2500x15 .f32 :=
  k0_pay1 (k0_pay15 (hDx x0 x1 x2 x3 x4 x5 x6) k0_pay11 (aW x5)) (k0_pay17 (k0_pay9 (heads x0 x1 x2 x3 x4 x5 x6)) (aW x5))
/-- What it leaves in the lower edges. -/
def val11 (x0 : Vec F S2704x256 .f32) (x1 : Vec F S9x256x256 .f32) (x2 : Vec F S1x256 .f32) (x3 : Vec F S256x80 .f32) (x4 : Vec F S1x80 .f32) (x5 : Vec F S1x16 .f32) (x6 : Vec F S1x16 .f32) : Vec F S2500x15 .f32 :=
  k0_pay2 (k0_pay16 (k0_pay8 (heads x0 x1 x2 x3 x4 x5 x6)) k0_pay12 k0_pay13 k0_pay14 (aHt x6)) (k0_pay18 (k0_pay10 (heads x0 x1 x2 x3 x4 x5 x6)) (aHt x6))

/-- The whole of a result's staging buffer. -/
abbrev rOut : Rect S2500x15 := (Rect.unit (s := S2500x15) ![0, 0] S2500x15.size inb_S2500x15_S2500x15_0_0)

/-- A store of the whole covers it. -/
theorem cover_out (p : Vec F S2500x15 .f32) (y : S2500x15.Idx) :
    ∃ pc ∈ ([⟨rOut, p⟩] : List (View.Piece (Elt F) S2500x15 .f32)), y ∈ pc.1.set :=
  View.cover_of_tiled [⟨rOut, p⟩] S2500x15.size (by rfl) y

set_option maxHeartbeats 2000000 in
/-- The body, run: the inputs stay, each result ends at one store of its value. -/
theorem dense_run (c : Dev nD) (E : Set ℕ) (arg0 : Memref sig .tc .vmem S2704x256 .f32) (h0 : arg0.IsWhole) (arg1 : Memref sig .tc .vmem S9x256x256 .f32) (h1 : arg1.IsWhole) (arg2 : Memref sig .tc .vmem S1x256 .f32) (h2 : arg2.IsWhole) (arg3 : Memref sig .tc .vmem S256x80 .f32) (h3 : arg3.IsWhole) (arg4 : Memref sig .tc .vmem S1x80 .f32) (h4 : arg4.IsWhole) (arg5 : Memref sig .tc .vmem S1x16 .f32) (h5 : arg5.IsWhole) (arg6 : Memref sig .tc .vmem S1x16 .f32) (h6 : arg6.IsWhole) (arg7 : Memref sig .tc .vmem S2500x15 .f32) (h7 : arg7.IsWhole) (arg8 : Memref sig .tc .vmem S2500x15 .f32) (h8 : arg8.IsWhole) (arg9 : Memref sig .tc .vmem S2500x15 .f32) (h9 : arg9.IsWhole) (arg10 : Memref sig .tc .vmem S2500x15 .f32) (h10 : arg10.IsWhole) (arg11 : Memref sig .tc .vmem S2500x15 .f32) (h11 : arg11.IsWhole)
    (x0 : Vec F S2704x256 .f32) (x1 : Vec F S9x256x256 .f32) (x2 : Vec F S1x256 .f32) (x3 : Vec F S256x80 .f32) (x4 : Vec F S1x80 .f32) (x5 : Vec F S1x16 .f32) (x6 : Vec F S1x16 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (View.canon [⟨rOut, val7 x0 x1 x2 x3 x4 x5 x6⟩]) ∗ owns (c : Thread nD τ) arg8 fullShare (View.canon [⟨rOut, val8 x0 x1 x2 x3 x4 x5 x6⟩]) ∗ owns (c : Thread nD τ) arg9 fullShare (View.canon [⟨rOut, val9 x0 x1 x2 x3 x4 x5 x6⟩]) ∗ owns (c : Thread nD τ) arg10 fullShare (View.canon [⟨rOut, val10 x0 x1 x2 x3 x4 x5 x6⟩]) ∗ owns (c : Thread nD τ) arg11 fullShare (View.canon [⟨rOut, val11 x0 x1 x2 x3 x4 x5 x6⟩])) -∗ K ⟨⟩))
      ⊢ wp frame (wpE (defs₀ (F := F)) Variants.none c none) E (cc0__dense_body arg0 h0 arg1 h1 arg2 h2 arg3 h3 arg4 h4 arg5 h5 arg6 h6 arg7 h7 arg8 h8 arg9 h9 arg10 h10 arg11 h11) K := by
  simp only [cc0__dense_body_eq_skeleton]; unfold cc0__dense_body_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (View.read_writes_eq_canon _ _ _ (cover_out _)).trans ?_
    rfl
  isplitl [H8]
  · iexists _; isplitr
    swap; · iexact H8
    ipureintro
    refine (View.read_writes_eq_canon _ _ _ (cover_out _)).trans ?_
    rfl
  isplitl [H9]
  · iexists _; isplitr
    swap; · iexact H9
    ipureintro
    refine (View.read_writes_eq_canon _ _ _ (cover_out _)).trans ?_
    rfl
  isplitl [H10]
  · iexists _; isplitr
    swap; · iexact H10
    ipureintro
    refine (View.read_writes_eq_canon _ _ _ (cover_out _)).trans ?_
    rfl
  iexists _; isplitr
  swap; · iexact H11
  ipureintro
  refine (View.read_writes_eq_canon _ _ _ (cover_out _)).trans ?_
  rfl

end Cert.KernelIdeal.Hand

end
-- ==== Proof.Run.Loops.lean ====
module

public import proofs.«01_k».proof.Proof.Gen.KernelIdeal.Launch
public import proofs.«01_k».proof.Proof.Gen.KernelIdeal.Points
public import proofs.«01_k».proof.Proof.Gen.KernelIdeal.Skeleton
public import Idealize.ShloMosaic.Lib.Exec
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

/-! The counted loops of the suppression body: inside a block of 128 boxes, one trip per box. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The block's flags before trip `k` of loop 1, from the scratch's contents `S` and the flags it starts from. -/
def st1  (S : Vec F S2048x2048 .f32) (init : FVec F S1x128 .f32) : ℕ → FVec F S1x128 .f32
  | 0 => init
  | k + 1 =>
    if h : k < k1_t1_loop.trips then
      k1_pay105 ⟨k, h⟩ (st1  S init k) (View.ld S (Rect.unit (s := S2048x2048) (k1_off1 ⟨k, h⟩) S1x2048.size (k1_off1_inb ⟨k, h⟩)))
    else st1  S init k

set_option warn.classDefReducibility false in
/-- Loop 1: the scratch stays, the flags carried are `st1`. -/
@[sl_loop] def loop1 (𝒱 : Variants) (c : Dev nD) (bd : Option 𝒱.V) (E : Set ℕ) (arg0 : Memref sig .tc .vmem S2048x8 .f32) (harg0 : arg0.IsWhole) (arg1 : Memref sig .tc .vmem S4x2048 .f32) (harg1 : arg1.IsWhole) (arg2 : Memref sig .tc .vmem S2048x8 .f32) (harg2 : arg2.IsWhole) (arg3 : Memref sig .tc .vmem S2048x2048 .f32) (harg3 : arg3.IsWhole) (v7 : FVec F S1x2048 .f32) (v10 : FVec F S1x2048 .f32) (v777 : FVec F S128x1 .f32) (v779 : FVec F S128x1 .f32) (v781 : FVec F S128x1 .f32) (v783 : FVec F S128x1 .f32) (v786 : FVec F S128x2048 .f32) (v789 : FVec F S128x2048 .f32) (v792 : FVec F S128x2048 .f32) (v793 : FVec F S128x2048 .f32) (X : BufTy.Contents (Elt F) arg3.view.ty) (init : FVec F S1x128 .f32) :
    Idealize.ShloMosaic.LoopInv (M := 𝕄) Idealize.ShloMosaic.frame (wpE defs₀ 𝒱 (c : Thread nD τ) bd) E
      k1_t1_loop.lb k1_t1_loop.ub k1_t1_loop.st k1_t1_ok init (k1_t1_body (F := F) arg0 harg0 arg1 harg1 arg2 harg2 arg3 harg3 v7 v10 v777 v779 v781 v783 v786 v789 v792 v793) where
  inv k acc := iprop((arg3.view.loc (c : Thread nD τ) ↦[arg3.view.set]{fullShare} X)
    ∗ ⌜acc = st1  (arg3.view.read (Elt F) X) init k⌝)
  step k acc := by
    have hk : k.val < 128 := Nat.lt_of_lt_of_le k.isLt k1_t1_abs.2.1
    iintro ⟨H, %h_acc⟩
    subst h_acc
    unfold k1_t1_body
    sl_exec
    sl_step
    isplitl [H]; · iexact H
    ipureintro
    simp only [st1]
    rw [dif_pos k.isLt]
    rfl

/-- The block's flags before trip `k` of loop 2, from the scratch's contents `S` and the flags it starts from. -/
def st2 (v828 : IVec S1x128 32) (S : Vec F S2048x2048 .f32) (init : FVec F S1x128 .f32) : ℕ → FVec F S1x128 .f32
  | 0 => init
  | k + 1 =>
    if h : k < k1_t2_loop.trips then
      k1_pay109 v828 ⟨k, h⟩ (st2 v828 S init k) (View.ld S (Rect.unit (s := S2048x2048) (k1_off2 ⟨k, h⟩) S1x2048.size (k1_off2_inb ⟨k, h⟩)))
    else st2 v828 S init k

set_option warn.classDefReducibility false in
/-- Loop 2: the scratch stays, the flags carried are `st2`. -/
@[sl_loop] def loop2 (𝒱 : Variants) (c : Dev nD) (bd : Option 𝒱.V) (E : Set ℕ) (arg0 : Memref sig .tc .vmem S2048x8 .f32) (harg0 : arg0.IsWhole) (arg1 : Memref sig .tc .vmem S4x2048 .f32) (harg1 : arg1.IsWhole) (arg2 : Memref sig .tc .vmem S2048x8 .f32) (harg2 : arg2.IsWhole) (arg3 : Memref sig .tc .vmem S2048x2048 .f32) (harg3 : arg3.IsWhole) (v828 : IVec S1x128 32) (v829 : FVec F S1x2048 .f32) (v834 : FVec F S1x2048 .f32) (cst_251 : F .f32) (X : BufTy.Contents (Elt F) arg3.view.ty) (init : FVec F S1x128 .f32) :
    Idealize.ShloMosaic.LoopInv (M := 𝕄) Idealize.ShloMosaic.frame (wpE defs₀ 𝒱 (c : Thread nD τ) bd) E
      k1_t2_loop.lb k1_t2_loop.ub k1_t2_loop.st k1_t2_ok init (k1_t2_body (F := F) arg0 harg0 arg1 harg1 arg2 harg2 arg3 harg3 v828 v829 v834 cst_251) where
  inv k acc := iprop((arg3.view.loc (c : Thread nD τ) ↦[arg3.view.set]{fullShare} X)
    ∗ ⌜acc = st2 v828 (arg3.view.read (Elt F) X) init k⌝)
  step k acc := by
    have hk : k.val < 128 := Nat.lt_of_lt_of_le k.isLt k1_t2_abs.2.1
    iintro ⟨H, %h_acc⟩
    subst h_acc
    unfold k1_t2_body
    sl_exec
    sl_step
    isplitl [H]; · iexact H
    ipureintro
    simp only [st2]
    rw [dif_pos k.isLt]
    rfl

/-- The block's flags before trip `k` of loop 3, from the scratch's contents `S` and the flags it starts from. -/
def st3 (v828 : IVec S1x128 32) (S : Vec F S2048x2048 .f32) (init : FVec F S1x128 .f32) : ℕ → FVec F S1x128 .f32
  | 0 => init
  | k + 1 =>
    if h : k < k1_t3_loop.trips then
      k1_pay112 v828 ⟨k, h⟩ (st3 v828 S init k) (View.ld S (Rect.unit (s := S2048x2048) (k1_off3 ⟨k, h⟩) S1x2048.size (k1_off3_inb ⟨k, h⟩)))
    else st3 v828 S init k

set_option warn.classDefReducibility false in
/-- Loop 3: the scratch stays, the flags carried are `st3`. -/
@[sl_loop] def loop3 (𝒱 : Variants) (c : Dev nD) (bd : Option 𝒱.V) (E : Set ℕ) (arg0 : Memref sig .tc .vmem S2048x8 .f32) (harg0 : arg0.IsWhole) (arg1 : Memref sig .tc .vmem S4x2048 .f32) (harg1 : arg1.IsWhole) (arg2 : Memref sig .tc .vmem S2048x8 .f32) (harg2 : arg2.IsWhole) (arg3 : Memref sig .tc .vmem S2048x2048 .f32) (harg3 : arg3.IsWhole) (v828 : IVec S1x128 32) (v829 : FVec F S1x2048 .f32) (v834 : FVec F S1x2048 .f32) (cst_251 : F .f32) (X : BufTy.Contents (Elt F) arg3.view.ty) (init : FVec F S1x128 .f32) :
    Idealize.ShloMosaic.LoopInv (M := 𝕄) Idealize.ShloMosaic.frame (wpE defs₀ 𝒱 (c : Thread nD τ) bd) E
      k1_t3_loop.lb k1_t3_loop.ub k1_t3_loop.st k1_t3_ok init (k1_t3_body (F := F) arg0 harg0 arg1 harg1 arg2 harg2 arg3 harg3 v828 v829 v834 cst_251) where
  inv k acc := iprop((arg3.view.loc (c : Thread nD τ) ↦[arg3.view.set]{fullShare} X)
    ∗ ⌜acc = st3 v828 (arg3.view.read (Elt F) X) init k⌝)
  step k acc := by
    have hk : k.val < 128 := Nat.lt_of_lt_of_le k.isLt k1_t3_abs.2.1
    iintro ⟨H, %h_acc⟩
    subst h_acc
    unfold k1_t3_body
    sl_exec
    sl_step
    isplitl [H]; · iexact H
    ipureintro
    simp only [st3]
    rw [dif_pos k.isLt]
    rfl

/-- The block's flags before trip `k` of loop 4, from the scratch's contents `S` and the flags it starts from. -/
def st4 (v828 : IVec S1x128 32) (S : Vec F S2048x2048 .f32) (init : FVec F S1x128 .f32) : ℕ → FVec F S1x128 .f32
  | 0 => init
  | k + 1 =>
    if h : k < k1_t4_loop.trips then
      k1_pay115 v828 ⟨k, h⟩ (st4 v828 S init k) (View.ld S (Rect.unit (s := S2048x2048) (k1_off4 ⟨k, h⟩) S1x2048.size (k1_off4_inb ⟨k, h⟩)))
    else st4 v828 S init k

set_option warn.classDefReducibility false in
/-- Loop 4: the scratch stays, the flags carried are `st4`. -/
@[sl_loop] def loop4 (𝒱 : Variants) (c : Dev nD) (bd : Option 𝒱.V) (E : Set ℕ) (arg0 : Memref sig .tc .vmem S2048x8 .f32) (harg0 : arg0.IsWhole) (arg1 : Memref sig .tc .vmem S4x2048 .f32) (harg1 : arg1.IsWhole) (arg2 : Memref sig .tc .vmem S2048x8 .f32) (harg2 : arg2.IsWhole) (arg3 : Memref sig .tc .vmem S2048x2048 .f32) (harg3 : arg3.IsWhole) (v828 : IVec S1x128 32) (v829 : FVec F S1x2048 .f32) (v834 : FVec F S1x2048 .f32) (cst_251 : F .f32) (X : BufTy.Contents (Elt F) arg3.view.ty) (init : FVec F S1x128 .f32) :
    Idealize.ShloMosaic.LoopInv (M := 𝕄) Idealize.ShloMosaic.frame (wpE defs₀ 𝒱 (c : Thread nD τ) bd) E
      k1_t4_loop.lb k1_t4_loop.ub k1_t4_loop.st k1_t4_ok init (k1_t4_body (F := F) arg0 harg0 arg1 harg1 arg2 harg2 arg3 harg3 v828 v829 v834 cst_251) where
  inv k acc := iprop((arg3.view.loc (c : Thread nD τ) ↦[arg3.view.set]{fullShare} X)
    ∗ ⌜acc = st4 v828 (arg3.view.read (Elt F) X) init k⌝)
  step k acc := by
    have hk : k.val < 128 := Nat.lt_of_lt_of_le k.isLt k1_t4_abs.2.1
    iintro ⟨H, %h_acc⟩
    subst h_acc
    unfold k1_t4_body
    sl_exec
    sl_step
    isplitl [H]; · iexact H
    ipureintro
    simp only [st4]
    rw [dif_pos k.isLt]
    rfl

/-- The block's flags before trip `k` of loop 5, from the scratch's contents `S` and the flags it starts from. -/
def st5 (v828 : IVec S1x128 32) (S : Vec F S2048x2048 .f32) (init : FVec F S1x128 .f32) : ℕ → FVec F S1x128 .f32
  | 0 => init
  | k + 1 =>
    if h : k < k1_t5_loop.trips then
      k1_pay118 v828 ⟨k, h⟩ (st5 v828 S init k) (View.ld S (Rect.unit (s := S2048x2048) (k1_off5 ⟨k, h⟩) S1x2048.size (k1_off5_inb ⟨k, h⟩)))
    else st5 v828 S init k

set_option warn.classDefReducibility false in
/-- Loop 5: the scratch stays, the flags carried are `st5`. -/
@[sl_loop] def loop5 (𝒱 : Variants) (c : Dev nD) (bd : Option 𝒱.V) (E : Set ℕ) (arg0 : Memref sig .tc .vmem S2048x8 .f32) (harg0 : arg0.IsWhole) (arg1 : Memref sig .tc .vmem S4x2048 .f32) (harg1 : arg1.IsWhole) (arg2 : Memref sig .tc .vmem S2048x8 .f32) (harg2 : arg2.IsWhole) (arg3 : Memref sig .tc .vmem S2048x2048 .f32) (harg3 : arg3.IsWhole) (v828 : IVec S1x128 32) (v862 : FVec F S1x2048 .f32) (v865 : FVec F S1x128 .f32) (v866 : Vec F S128x2048 .f32) (X : BufTy.Contents (Elt F) arg3.view.ty) (init : FVec F S1x128 .f32) :
    Idealize.ShloMosaic.LoopInv (M := 𝕄) Idealize.ShloMosaic.frame (wpE defs₀ 𝒱 (c : Thread nD τ) bd) E
      k1_t5_loop.lb k1_t5_loop.ub k1_t5_loop.st k1_t5_ok init (k1_t5_body (F := F) arg0 harg0 arg1 harg1 arg2 harg2 arg3 harg3 v828 v862 v865 v866) where
  inv k acc := iprop((arg3.view.loc (c : Thread nD τ) ↦[arg3.view.set]{fullShare} X)
    ∗ ⌜acc = st5 v828 (arg3.view.read (Elt F) X) init k⌝)
  step k acc := by
    have hk : k.val < 128 := Nat.lt_of_lt_of_le k.isLt k1_t5_abs.2.1
    iintro ⟨H, %h_acc⟩
    subst h_acc
    unfold k1_t5_body
    sl_exec
    sl_step
    isplitl [H]; · iexact H
    ipureintro
    simp only [st5]
    rw [dif_pos k.isLt]
    rfl

/-- The block's flags before trip `k` of loop 6, from the scratch's contents `S` and the flags it starts from. -/
def st6 (v828 : IVec S1x128 32) (S : Vec F S2048x2048 .f32) (init : FVec F S1x128 .f32) : ℕ → FVec F S1x128 .f32
  | 0 => init
  | k + 1 =>
    if h : k < k1_t6_loop.trips then
      k1_pay121 v828 ⟨k, h⟩ (st6 v828 S init k) (View.ld S (Rect.unit (s := S2048x2048) (k1_off6 ⟨k, h⟩) S1x2048.size (k1_off6_inb ⟨k, h⟩)))
    else st6 v828 S init k

set_option warn.classDefReducibility false in
/-- Loop 6: the scratch stays, the flags carried are `st6`. -/
@[sl_loop] def loop6 (𝒱 : Variants) (c : Dev nD) (bd : Option 𝒱.V) (E : Set ℕ) (arg0 : Memref sig .tc .vmem S2048x8 .f32) (harg0 : arg0.IsWhole) (arg1 : Memref sig .tc .vmem S4x2048 .f32) (harg1 : arg1.IsWhole) (arg2 : Memref sig .tc .vmem S2048x8 .f32) (harg2 : arg2.IsWhole) (arg3 : Memref sig .tc .vmem S2048x2048 .f32) (harg3 : arg3.IsWhole) (v828 : IVec S1x128 32) (v862 : FVec F S1x2048 .f32) (v865 : FVec F S1x128 .f32) (v866 : Vec F S128x2048 .f32) (X : BufTy.Contents (Elt F) arg3.view.ty) (init : FVec F S1x128 .f32) :
    Idealize.ShloMosaic.LoopInv (M := 𝕄) Idealize.ShloMosaic.frame (wpE defs₀ 𝒱 (c : Thread nD τ) bd) E
      k1_t6_loop.lb k1_t6_loop.ub k1_t6_loop.st k1_t6_ok init (k1_t6_body (F := F) arg0 harg0 arg1 harg1 arg2 harg2 arg3 harg3 v828 v862 v865 v866) where
  inv k acc := iprop((arg3.view.loc (c : Thread nD τ) ↦[arg3.view.set]{fullShare} X)
    ∗ ⌜acc = st6 v828 (arg3.view.read (Elt F) X) init k⌝)
  step k acc := by
    have hk : k.val < 128 := Nat.lt_of_lt_of_le k.isLt k1_t6_abs.2.1
    iintro ⟨H, %h_acc⟩
    subst h_acc
    unfold k1_t6_body
    sl_exec
    sl_step
    isplitl [H]; · iexact H
    ipureintro
    simp only [st6]
    rw [dif_pos k.isLt]
    rfl

/-- The block's flags before trip `k` of loop 7, from the scratch's contents `S` and the flags it starts from. -/
def st7 (v828 : IVec S1x128 32) (S : Vec F S2048x2048 .f32) (init : FVec F S1x128 .f32) : ℕ → FVec F S1x128 .f32
  | 0 => init
  | k + 1 =>
    if h : k < k1_t7_loop.trips then
      k1_pay124 v828 ⟨k, h⟩ (st7 v828 S init k) (View.ld S (Rect.unit (s := S2048x2048) (k1_off7 ⟨k, h⟩) S1x2048.size (k1_off7_inb ⟨k, h⟩)))
    else st7 v828 S init k

set_option warn.classDefReducibility false in
/-- Loop 7: the scratch stays, the flags carried are `st7`. -/
@[sl_loop] def loop7 (𝒱 : Variants) (c : Dev nD) (bd : Option 𝒱.V) (E : Set ℕ) (arg0 : Memref sig .tc .vmem S2048x8 .f32) (harg0 : arg0.IsWhole) (arg1 : Memref sig .tc .vmem S4x2048 .f32) (harg1 : arg1.IsWhole) (arg2 : Memref sig .tc .vmem S2048x8 .f32) (harg2 : arg2.IsWhole) (arg3 : Memref sig .tc .vmem S2048x2048 .f32) (harg3 : arg3.IsWhole) (v828 : IVec S1x128 32) (v862 : FVec F S1x2048 .f32) (v865 : FVec F S1x128 .f32) (v866 : Vec F S128x2048 .f32) (X : BufTy.Contents (Elt F) arg3.view.ty) (init : FVec F S1x128 .f32) :
    Idealize.ShloMosaic.LoopInv (M := 𝕄) Idealize.ShloMosaic.frame (wpE defs₀ 𝒱 (c : Thread nD τ) bd) E
      k1_t7_loop.lb k1_t7_loop.ub k1_t7_loop.st k1_t7_ok init (k1_t7_body (F := F) arg0 harg0 arg1 harg1 arg2 harg2 arg3 harg3 v828 v862 v865 v866) where
  inv k acc := iprop((arg3.view.loc (c : Thread nD τ) ↦[arg3.view.set]{fullShare} X)
    ∗ ⌜acc = st7 v828 (arg3.view.read (Elt F) X) init k⌝)
  step k acc := by
    have hk : k.val < 128 := Nat.lt_of_lt_of_le k.isLt k1_t7_abs.2.1
    iintro ⟨H, %h_acc⟩
    subst h_acc
    unfold k1_t7_body
    sl_exec
    sl_step
    isplitl [H]; · iexact H
    ipureintro
    simp only [st7]
    rw [dif_pos k.isLt]
    rfl

/-- The block's flags before trip `k` of loop 8, from the scratch's contents `S` and the flags it starts from. -/
def st8 (v828 : IVec S1x128 32) (S : Vec F S2048x2048 .f32) (init : FVec F S1x128 .f32) : ℕ → FVec F S1x128 .f32
  | 0 => init
  | k + 1 =>
    if h : k < k1_t8_loop.trips then
      k1_pay127 v828 ⟨k, h⟩ (st8 v828 S init k) (View.ld S (Rect.unit (s := S2048x2048) (k1_off8 ⟨k, h⟩) S1x2048.size (k1_off8_inb ⟨k, h⟩)))
    else st8 v828 S init k

set_option warn.classDefReducibility false in
/-- Loop 8: the scratch stays, the flags carried are `st8`. -/
@[sl_loop] def loop8 (𝒱 : Variants) (c : Dev nD) (bd : Option 𝒱.V) (E : Set ℕ) (arg0 : Memref sig .tc .vmem S2048x8 .f32) (harg0 : arg0.IsWhole) (arg1 : Memref sig .tc .vmem S4x2048 .f32) (harg1 : arg1.IsWhole) (arg2 : Memref sig .tc .vmem S2048x8 .f32) (harg2 : arg2.IsWhole) (arg3 : Memref sig .tc .vmem S2048x2048 .f32) (harg3 : arg3.IsWhole) (v828 : IVec S1x128 32) (v895 : FVec F S1x2048 .f32) (v898 : FVec F S1x128 .f32) (X : BufTy.Contents (Elt F) arg3.view.ty) (init : FVec F S1x128 .f32) :
    Idealize.ShloMosaic.LoopInv (M := 𝕄) Idealize.ShloMosaic.frame (wpE defs₀ 𝒱 (c : Thread nD τ) bd) E
      k1_t8_loop.lb k1_t8_loop.ub k1_t8_loop.st k1_t8_ok init (k1_t8_body (F := F) arg0 harg0 arg1 harg1 arg2 harg2 arg3 harg3 v828 v895 v898) where
  inv k acc := iprop((arg3.view.loc (c : Thread nD τ) ↦[arg3.view.set]{fullShare} X)
    ∗ ⌜acc = st8 v828 (arg3.view.read (Elt F) X) init k⌝)
  step k acc := by
    have hk : k.val < 128 := Nat.lt_of_lt_of_le k.isLt k1_t8_abs.2.1
    iintro ⟨H, %h_acc⟩
    subst h_acc
    unfold k1_t8_body
    sl_exec
    sl_step
    isplitl [H]; · iexact H
    ipureintro
    simp only [st8]
    rw [dif_pos k.isLt]
    rfl

/-- The block's flags before trip `k` of loop 9, from the scratch's contents `S` and the flags it starts from. -/
def st9 (v828 : IVec S1x128 32) (S : Vec F S2048x2048 .f32) (init : FVec F S1x128 .f32) : ℕ → FVec F S1x128 .f32
  | 0 => init
  | k + 1 =>
    if h : k < k1_t9_loop.trips then
      k1_pay130 v828 ⟨k, h⟩ (st9 v828 S init k) (View.ld S (Rect.unit (s := S2048x2048) (k1_off9 ⟨k, h⟩) S1x2048.size (k1_off9_inb ⟨k, h⟩)))
    else st9 v828 S init k

set_option warn.classDefReducibility false in
/-- Loop 9: the scratch stays, the flags carried are `st9`. -/
@[sl_loop] def loop9 (𝒱 : Variants) (c : Dev nD) (bd : Option 𝒱.V) (E : Set ℕ) (arg0 : Memref sig .tc .vmem S2048x8 .f32) (harg0 : arg0.IsWhole) (arg1 : Memref sig .tc .vmem S4x2048 .f32) (harg1 : arg1.IsWhole) (arg2 : Memref sig .tc .vmem S2048x8 .f32) (harg2 : arg2.IsWhole) (arg3 : Memref sig .tc .vmem S2048x2048 .f32) (harg3 : arg3.IsWhole) (v828 : IVec S1x128 32) (v895 : FVec F S1x2048 .f32) (v898 : FVec F S1x128 .f32) (X : BufTy.Contents (Elt F) arg3.view.ty) (init : FVec F S1x128 .f32) :
    Idealize.ShloMosaic.LoopInv (M := 𝕄) Idealize.ShloMosaic.frame (wpE defs₀ 𝒱 (c : Thread nD τ) bd) E
      k1_t9_loop.lb k1_t9_loop.ub k1_t9_loop.st k1_t9_ok init (k1_t9_body (F := F) arg0 harg0 arg1 harg1 arg2 harg2 arg3 harg3 v828 v895 v898) where
  inv k acc := iprop((arg3.view.loc (c : Thread nD τ) ↦[arg3.view.set]{fullShare} X)
    ∗ ⌜acc = st9 v828 (arg3.view.read (Elt F) X) init k⌝)
  step k acc := by
    have hk : k.val < 128 := Nat.lt_of_lt_of_le k.isLt k1_t9_abs.2.1
    iintro ⟨H, %h_acc⟩
    subst h_acc
    unfold k1_t9_body
    sl_exec
    sl_step
    isplitl [H]; · iexact H
    ipureintro
    simp only [st9]
    rw [dif_pos k.isLt]
    rfl

/-- The block's flags before trip `k` of loop 10, from the scratch's contents `S` and the flags it starts from. -/
def st10 (v828 : IVec S1x128 32) (c0_i32_334 : BitVec 32) (S : Vec F S2048x2048 .f32) (init : FVec F S1x128 .f32) : ℕ → FVec F S1x128 .f32
  | 0 => init
  | k + 1 =>
    if h : k < k1_t10_loop.trips then
      k1_pay133 v828 c0_i32_334 ⟨k, h⟩ (st10 v828 c0_i32_334 S init k) (View.ld S (Rect.unit (s := S2048x2048) (k1_off10 ⟨k, h⟩) S1x2048.size (k1_off10_inb ⟨k, h⟩)))
    else st10 v828 c0_i32_334 S init k

set_option warn.classDefReducibility false in
/-- Loop 10: the scratch stays, the flags carried are `st10`. -/
@[sl_loop] def loop10 (𝒱 : Variants) (c : Dev nD) (bd : Option 𝒱.V) (E : Set ℕ) (arg0 : Memref sig .tc .vmem S2048x8 .f32) (harg0 : arg0.IsWhole) (arg1 : Memref sig .tc .vmem S4x2048 .f32) (harg1 : arg1.IsWhole) (arg2 : Memref sig .tc .vmem S2048x8 .f32) (harg2 : arg2.IsWhole) (arg3 : Memref sig .tc .vmem S2048x2048 .f32) (harg3 : arg3.IsWhole) (v828 : IVec S1x128 32) (v928 : FVec F S1x2048 .f32) (v929 : FVec F S1x128 .f32) (c0_i32_334 : BitVec 32) (X : BufTy.Contents (Elt F) arg3.view.ty) (init : FVec F S1x128 .f32) :
    Idealize.ShloMosaic.LoopInv (M := 𝕄) Idealize.ShloMosaic.frame (wpE defs₀ 𝒱 (c : Thread nD τ) bd) E
      k1_t10_loop.lb k1_t10_loop.ub k1_t10_loop.st k1_t10_ok init (k1_t10_body (F := F) arg0 harg0 arg1 harg1 arg2 harg2 arg3 harg3 v828 v928 v929 c0_i32_334) where
  inv k acc := iprop((arg3.view.loc (c : Thread nD τ) ↦[arg3.view.set]{fullShare} X)
    ∗ ⌜acc = st10 v828 c0_i32_334 (arg3.view.read (Elt F) X) init k⌝)
  step k acc := by
    have hk : k.val < 128 := Nat.lt_of_lt_of_le k.isLt k1_t10_abs.2.1
    iintro ⟨H, %h_acc⟩
    subst h_acc
    unfold k1_t10_body
    sl_exec
    sl_step
    isplitl [H]; · iexact H
    ipureintro
    simp only [st10]
    rw [dif_pos k.isLt]
    rfl

/-- The block's flags before trip `k` of loop 11, from the scratch's contents `S` and the flags it starts from. -/
def st11 (v828 : IVec S1x128 32) (S : Vec F S2048x2048 .f32) (init : FVec F S1x128 .f32) : ℕ → FVec F S1x128 .f32
  | 0 => init
  | k + 1 =>
    if h : k < k1_t11_loop.trips then
      k1_pay136 v828 ⟨k, h⟩ (st11 v828 S init k) (View.ld S (Rect.unit (s := S2048x2048) (k1_off11 ⟨k, h⟩) S1x2048.size (k1_off11_inb ⟨k, h⟩)))
    else st11 v828 S init k

set_option warn.classDefReducibility false in
/-- Loop 11: the scratch stays, the flags carried are `st11`. -/
@[sl_loop] def loop11 (𝒱 : Variants) (c : Dev nD) (bd : Option 𝒱.V) (E : Set ℕ) (arg0 : Memref sig .tc .vmem S2048x8 .f32) (harg0 : arg0.IsWhole) (arg1 : Memref sig .tc .vmem S4x2048 .f32) (harg1 : arg1.IsWhole) (arg2 : Memref sig .tc .vmem S2048x8 .f32) (harg2 : arg2.IsWhole) (arg3 : Memref sig .tc .vmem S2048x2048 .f32) (harg3 : arg3.IsWhole) (v828 : IVec S1x128 32) (v928 : FVec F S1x2048 .f32) (v929 : FVec F S1x128 .f32) (c0_i32_334 : BitVec 32) (X : BufTy.Contents (Elt F) arg3.view.ty) (init : FVec F S1x128 .f32) :
    Idealize.ShloMosaic.LoopInv (M := 𝕄) Idealize.ShloMosaic.frame (wpE defs₀ 𝒱 (c : Thread nD τ) bd) E
      k1_t11_loop.lb k1_t11_loop.ub k1_t11_loop.st k1_t11_ok init (k1_t11_body (F := F) arg0 harg0 arg1 harg1 arg2 harg2 arg3 harg3 v828 v928 v929 c0_i32_334) where
  inv k acc := iprop((arg3.view.loc (c : Thread nD τ) ↦[arg3.view.set]{fullShare} X)
    ∗ ⌜acc = st11 v828 (arg3.view.read (Elt F) X) init k⌝)
  step k acc := by
    have hk : k.val < 128 := Nat.lt_of_lt_of_le k.isLt k1_t11_abs.2.1
    iintro ⟨H, %h_acc⟩
    subst h_acc
    unfold k1_t11_body
    sl_exec
    sl_step
    isplitl [H]; · iexact H
    ipureintro
    simp only [st11]
    rw [dif_pos k.isLt]
    rfl

/-- The block's flags before trip `k` of loop 12, from the scratch's contents `S` and the flags it starts from. -/
def st12 (v828 : IVec S1x128 32) (S : Vec F S2048x2048 .f32) (init : FVec F S1x128 .f32) : ℕ → FVec F S1x128 .f32
  | 0 => init
  | k + 1 =>
    if h : k < k1_t12_loop.trips then
      k1_pay139 v828 ⟨k, h⟩ (st12 v828 S init k) (View.ld S (Rect.unit (s := S2048x2048) (k1_off12 ⟨k, h⟩) S1x2048.size (k1_off12_inb ⟨k, h⟩)))
    else st12 v828 S init k

set_option warn.classDefReducibility false in
/-- Loop 12: the scratch stays, the flags carried are `st12`. -/
@[sl_loop] def loop12 (𝒱 : Variants) (c : Dev nD) (bd : Option 𝒱.V) (E : Set ℕ) (arg0 : Memref sig .tc .vmem S2048x8 .f32) (harg0 : arg0.IsWhole) (arg1 : Memref sig .tc .vmem S4x2048 .f32) (harg1 : arg1.IsWhole) (arg2 : Memref sig .tc .vmem S2048x8 .f32) (harg2 : arg2.IsWhole) (arg3 : Memref sig .tc .vmem S2048x2048 .f32) (harg3 : arg3.IsWhole) (v828 : IVec S1x128 32) (v928 : FVec F S1x2048 .f32) (v929 : FVec F S1x128 .f32) (c0_i32_334 : BitVec 32) (X : BufTy.Contents (Elt F) arg3.view.ty) (init : FVec F S1x128 .f32) :
    Idealize.ShloMosaic.LoopInv (M := 𝕄) Idealize.ShloMosaic.frame (wpE defs₀ 𝒱 (c : Thread nD τ) bd) E
      k1_t12_loop.lb k1_t12_loop.ub k1_t12_loop.st k1_t12_ok init (k1_t12_body (F := F) arg0 harg0 arg1 harg1 arg2 harg2 arg3 harg3 v828 v928 v929 c0_i32_334) where
  inv k acc := iprop((arg3.view.loc (c : Thread nD τ) ↦[arg3.view.set]{fullShare} X)
    ∗ ⌜acc = st12 v828 (arg3.view.read (Elt F) X) init k⌝)
  step k acc := by
    have hk : k.val < 128 := Nat.lt_of_lt_of_le k.isLt k1_t12_abs.2.1
    iintro ⟨H, %h_acc⟩
    subst h_acc
    unfold k1_t12_body
    sl_exec
    sl_step
    isplitl [H]; · iexact H
    ipureintro
    simp only [st12]
    rw [dif_pos k.isLt]
    rfl

/-- The block's flags before trip `k` of loop 13, from the scratch's contents `S` and the flags it starts from. -/
def st13 (v828 : IVec S1x128 32) (S : Vec F S2048x2048 .f32) (init : FVec F S1x128 .f32) : ℕ → FVec F S1x128 .f32
  | 0 => init
  | k + 1 =>
    if h : k < k1_t13_loop.trips then
      k1_pay142 v828 ⟨k, h⟩ (st13 v828 S init k) (View.ld S (Rect.unit (s := S2048x2048) (k1_off13 ⟨k, h⟩) S1x2048.size (k1_off13_inb ⟨k, h⟩)))
    else st13 v828 S init k

set_option warn.classDefReducibility false in
/-- Loop 13: the scratch stays, the flags carried are `st13`. -/
@[sl_loop] def loop13 (𝒱 : Variants) (c : Dev nD) (bd : Option 𝒱.V) (E : Set ℕ) (arg0 : Memref sig .tc .vmem S2048x8 .f32) (harg0 : arg0.IsWhole) (arg1 : Memref sig .tc .vmem S4x2048 .f32) (harg1 : arg1.IsWhole) (arg2 : Memref sig .tc .vmem S2048x8 .f32) (harg2 : arg2.IsWhole) (arg3 : Memref sig .tc .vmem S2048x2048 .f32) (harg3 : arg3.IsWhole) (v828 : IVec S1x128 32) (v961 : FVec F S1x2048 .f32) (v962 : FVec F S1x128 .f32) (X : BufTy.Contents (Elt F) arg3.view.ty) (init : FVec F S1x128 .f32) :
    Idealize.ShloMosaic.LoopInv (M := 𝕄) Idealize.ShloMosaic.frame (wpE defs₀ 𝒱 (c : Thread nD τ) bd) E
      k1_t13_loop.lb k1_t13_loop.ub k1_t13_loop.st k1_t13_ok init (k1_t13_body (F := F) arg0 harg0 arg1 harg1 arg2 harg2 arg3 harg3 v828 v961 v962) where
  inv k acc := iprop((arg3.view.loc (c : Thread nD τ) ↦[arg3.view.set]{fullShare} X)
    ∗ ⌜acc = st13 v828 (arg3.view.read (Elt F) X) init k⌝)
  step k acc := by
    have hk : k.val < 128 := Nat.lt_of_lt_of_le k.isLt k1_t13_abs.2.1
    iintro ⟨H, %h_acc⟩
    subst h_acc
    unfold k1_t13_body
    sl_exec
    sl_step
    isplitl [H]; · iexact H
    ipureintro
    simp only [st13]
    rw [dif_pos k.isLt]
    rfl

/-- The block's flags before trip `k` of loop 14, from the scratch's contents `S` and the flags it starts from. -/
def st14 (v828 : IVec S1x128 32) (S : Vec F S2048x2048 .f32) (init : FVec F S1x128 .f32) : ℕ → FVec F S1x128 .f32
  | 0 => init
  | k + 1 =>
    if h : k < k1_t14_loop.trips then
      k1_pay145 v828 ⟨k, h⟩ (st14 v828 S init k) (View.ld S (Rect.unit (s := S2048x2048) (k1_off14 ⟨k, h⟩) S1x2048.size (k1_off14_inb ⟨k, h⟩)))
    else st14 v828 S init k

set_option warn.classDefReducibility false in
/-- Loop 14: the scratch stays, the flags carried are `st14`. -/
@[sl_loop] def loop14 (𝒱 : Variants) (c : Dev nD) (bd : Option 𝒱.V) (E : Set ℕ) (arg0 : Memref sig .tc .vmem S2048x8 .f32) (harg0 : arg0.IsWhole) (arg1 : Memref sig .tc .vmem S4x2048 .f32) (harg1 : arg1.IsWhole) (arg2 : Memref sig .tc .vmem S2048x8 .f32) (harg2 : arg2.IsWhole) (arg3 : Memref sig .tc .vmem S2048x2048 .f32) (harg3 : arg3.IsWhole) (v828 : IVec S1x128 32) (v961 : FVec F S1x2048 .f32) (v962 : FVec F S1x128 .f32) (X : BufTy.Contents (Elt F) arg3.view.ty) (init : FVec F S1x128 .f32) :
    Idealize.ShloMosaic.LoopInv (M := 𝕄) Idealize.ShloMosaic.frame (wpE defs₀ 𝒱 (c : Thread nD τ) bd) E
      k1_t14_loop.lb k1_t14_loop.ub k1_t14_loop.st k1_t14_ok init (k1_t14_body (F := F) arg0 harg0 arg1 harg1 arg2 harg2 arg3 harg3 v828 v961 v962) where
  inv k acc := iprop((arg3.view.loc (c : Thread nD τ) ↦[arg3.view.set]{fullShare} X)
    ∗ ⌜acc = st14 v828 (arg3.view.read (Elt F) X) init k⌝)
  step k acc := by
    have hk : k.val < 128 := Nat.lt_of_lt_of_le k.isLt k1_t14_abs.2.1
    iintro ⟨H, %h_acc⟩
    subst h_acc
    unfold k1_t14_body
    sl_exec
    sl_step
    isplitl [H]; · iexact H
    ipureintro
    simp only [st14]
    rw [dif_pos k.isLt]
    rfl

/-- The block's flags before trip `k` of loop 15, from the scratch's contents `S` and the flags it starts from. -/
def st15 (v828 : IVec S1x128 32) (S : Vec F S2048x2048 .f32) (init : FVec F S1x128 .f32) : ℕ → FVec F S1x128 .f32
  | 0 => init
  | k + 1 =>
    if h : k < k1_t15_loop.trips then
      k1_pay148 v828 ⟨k, h⟩ (st15 v828 S init k) (View.ld S (Rect.unit (s := S2048x2048) (k1_off15 ⟨k, h⟩) S1x2048.size (k1_off15_inb ⟨k, h⟩)))
    else st15 v828 S init k

set_option warn.classDefReducibility false in
/-- Loop 15: the scratch stays, the flags carried are `st15`. -/
@[sl_loop] def loop15 (𝒱 : Variants) (c : Dev nD) (bd : Option 𝒱.V) (E : Set ℕ) (arg0 : Memref sig .tc .vmem S2048x8 .f32) (harg0 : arg0.IsWhole) (arg1 : Memref sig .tc .vmem S4x2048 .f32) (harg1 : arg1.IsWhole) (arg2 : Memref sig .tc .vmem S2048x8 .f32) (harg2 : arg2.IsWhole) (arg3 : Memref sig .tc .vmem S2048x2048 .f32) (harg3 : arg3.IsWhole) (v828 : IVec S1x128 32) (v961 : FVec F S1x2048 .f32) (v962 : FVec F S1x128 .f32) (X : BufTy.Contents (Elt F) arg3.view.ty) (init : FVec F S1x128 .f32) :
    Idealize.ShloMosaic.LoopInv (M := 𝕄) Idealize.ShloMosaic.frame (wpE defs₀ 𝒱 (c : Thread nD τ) bd) E
      k1_t15_loop.lb k1_t15_loop.ub k1_t15_loop.st k1_t15_ok init (k1_t15_body (F := F) arg0 harg0 arg1 harg1 arg2 harg2 arg3 harg3 v828 v961 v962) where
  inv k acc := iprop((arg3.view.loc (c : Thread nD τ) ↦[arg3.view.set]{fullShare} X)
    ∗ ⌜acc = st15 v828 (arg3.view.read (Elt F) X) init k⌝)
  step k acc := by
    have hk : k.val < 128 := Nat.lt_of_lt_of_le k.isLt k1_t15_abs.2.1
    iintro ⟨H, %h_acc⟩
    subst h_acc
    unfold k1_t15_body
    sl_exec
    sl_step
    isplitl [H]; · iexact H
    ipureintro
    simp only [st15]
    rw [dif_pos k.isLt]
    rfl

/-- The block's flags before trip `k` of loop 16, from the scratch's contents `S` and the flags it starts from. -/
def st16 (v828 : IVec S1x128 32) (S : Vec F S2048x2048 .f32) (init : FVec F S1x128 .f32) : ℕ → FVec F S1x128 .f32
  | 0 => init
  | k + 1 =>
    if h : k < k1_t16_loop.trips then
      k1_pay154 v828 ⟨k, h⟩ (st16 v828 S init k) (View.ld S (Rect.unit (s := S2048x2048) (k1_off16 ⟨k, h⟩) S1x2048.size (k1_off16_inb ⟨k, h⟩)))
    else st16 v828 S init k

set_option warn.classDefReducibility false in
/-- Loop 16: the scratch stays, the flags carried are `st16`. -/
@[sl_loop] def loop16 (𝒱 : Variants) (c : Dev nD) (bd : Option 𝒱.V) (E : Set ℕ) (arg0 : Memref sig .tc .vmem S2048x8 .f32) (harg0 : arg0.IsWhole) (arg1 : Memref sig .tc .vmem S4x2048 .f32) (harg1 : arg1.IsWhole) (arg2 : Memref sig .tc .vmem S2048x8 .f32) (harg2 : arg2.IsWhole) (arg3 : Memref sig .tc .vmem S2048x2048 .f32) (harg3 : arg3.IsWhole) (v827 : IVec S1x2048 32) (v828 : IVec S1x128 32) (v983 : FVec F S1x2048 .f32) (v990 : IVec S1x2048 1) (v991 : FVec F S1x2048 .f32) (v992 : FVec F S1x2048 .f32) (X : BufTy.Contents (Elt F) arg3.view.ty) (init : FVec F S1x128 .f32) :
    Idealize.ShloMosaic.LoopInv (M := 𝕄) Idealize.ShloMosaic.frame (wpE defs₀ 𝒱 (c : Thread nD τ) bd) E
      k1_t16_loop.lb k1_t16_loop.ub k1_t16_loop.st k1_t16_ok init (k1_t16_body (F := F) arg0 harg0 arg1 harg1 arg2 harg2 arg3 harg3 v827 v828 v983 v990 v991 v992) where
  inv k acc := iprop((arg3.view.loc (c : Thread nD τ) ↦[arg3.view.set]{fullShare} X)
    ∗ ⌜acc = st16 v828 (arg3.view.read (Elt F) X) init k⌝)
  step k acc := by
    have hk : k.val < 128 := Nat.lt_of_lt_of_le k.isLt k1_t16_abs.2.1
    iintro ⟨H, %h_acc⟩
    subst h_acc
    unfold k1_t16_body
    sl_exec
    sl_step
    isplitl [H]; · iexact H
    ipureintro
    simp only [st16]
    rw [dif_pos k.isLt]
    rfl

end Cert.KernelIdeal.Hand
-- ==== Proof.Run.Strips.lean ====
module

public import proofs.«01_k».proof.Proof.Gen.KernelIdeal.Launch
public import proofs.«01_k».proof.Proof.Gen.KernelIdeal.Points
public import proofs.«01_k».proof.Proof.Gen.KernelIdeal.Skeleton
public import Idealize.ShloMosaic.Lib.Exec
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp
public import proofs.«01_k».proof.Proof.Run.Loops

/-! The first half of the suppression body: sixteen strips of the overlap table, each stored once. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The body up to the last strip's store. -/
def nmsStrips (arg0 : Memref sig .tc .vmem S2048x8 .f32) (harg0 : arg0.IsWhole) (arg1 : Memref sig .tc .vmem S4x2048 .f32) (harg1 : arg1.IsWhole) (arg2 : Memref sig .tc .vmem S2048x8 .f32) (harg2 : arg2.IsWhole) (arg3 : Memref sig .tc .vmem S2048x2048 .f32) (harg3 : arg3.IsWhole) : Prog (TpuEff nD τ sig (Elt F) Λ₀ .tc) (Σ' (v7 : FVec F S1x2048 .f32) (v10 : FVec F S1x2048 .f32) (v777 : FVec F S128x1 .f32) (v779 : FVec F S128x1 .f32) (v781 : FVec F S128x1 .f32) (v783 : FVec F S128x1 .f32) (v786 : FVec F S128x2048 .f32) (v789 : FVec F S128x2048 .f32) (v792 : FVec F S128x2048 .f32), FVec F S128x2048 .f32) := do
  let ⟨v1, v3, v5, v7, v10, v37, v41⟩ : Σ' (v1 : FVec F S1x2048 .f32) (v3 : FVec F S1x2048 .f32) (v5 : FVec F S1x2048 .f32) (v7 : FVec F S1x2048 .f32) (v10 : FVec F S1x2048 .f32) (v37 : FVec F S128x2048 .f32), FVec F S128x2048 .f32 ← k1_part1 arg0 harg0 arg1 harg1 arg2 harg2 arg3 harg3
  let ⟨v63, v65, v67, v69, v75, v81, v84⟩ : Σ' (v63 : FVec F S128x1 .f32) (v65 : FVec F S128x1 .f32) (v67 : FVec F S128x1 .f32) (v69 : FVec F S128x1 .f32) (v75 : FVec F S128x2048 .f32) (v81 : FVec F S128x2048 .f32), FVec F S128x2048 .f32 ← k1_part2 arg0 harg0 arg1 harg1 arg2 harg2 arg3 harg3 v1 v3 v5 v7 v10 v37 v41
  let ⟨v114, v116, v118, v120, v123, v126, v127⟩ : Σ' (v114 : FVec F S128x1 .f32) (v116 : FVec F S128x1 .f32) (v118 : FVec F S128x1 .f32) (v120 : FVec F S128x1 .f32) (v123 : FVec F S128x2048 .f32) (v126 : FVec F S128x2048 .f32), FVec F S128x2048 .f32 ← k1_part3 arg0 harg0 arg1 harg1 arg2 harg2 arg3 harg3 v1 v3 v10 v63 v65 v67 v69 v75 v81 v84
  let ⟨v165, v167, v169⟩ : Σ' (v165 : FVec F S128x1 .f32) (v167 : FVec F S128x1 .f32), FVec F S128x1 .f32 ← k1_part4 arg0 harg0 arg1 harg1 arg2 harg2 arg3 harg3 v5 v7 v10 v114 v116 v118 v120 v123 v126 v127
  let v216 : FVec F S128x1 .f32 ← k1_part5 arg0 harg0 arg1 harg1 arg2 harg2 arg3 harg3 v1 v3 v5 v7 v10 v165 v167 v169
  let v262 : FVec F S128x2048 .f32 ← k1_part6 arg0 harg0 arg1 harg1 arg2 harg2 arg3 harg3 v1 v3 v5 v7 v10 v216
  let ⟨v305, v306, v308⟩ : Σ' (v305 : IVec S128x2048 32) (v306 : IVec S128x2048 32), IVec S128x2048 1 ← k1_part7 arg0 harg0 arg1 harg1 arg2 harg2 arg3 harg3 v1 v3 v5 v7 v10 v262
  let ⟨v343, v352⟩ : Σ' (v343 : FVec F S128x2048 .f32), FVec F S128x2048 .f32 ← k1_part8 arg0 harg0 arg1 harg1 arg2 harg2 arg3 harg3 v1 v3 v5 v7 v10 v305 v306 v308
  let ⟨v371, v375, v394, v395⟩ : Σ' (v371 : FVec F S128x1 .f32) (v375 : FVec F S128x1 .f32) (v394 : FVec F S128x2048 .f32), FVec F S128x1 .f32 ← k1_part9 arg0 harg0 arg1 harg1 arg2 harg2 arg3 harg3 v1 v3 v5 v7 v343 v352
  let ⟨v420, v422, v424, v426, v432, v438, v439⟩ : Σ' (v420 : FVec F S128x1 .f32) (v422 : FVec F S128x1 .f32) (v424 : FVec F S128x1 .f32) (v426 : FVec F S128x1 .f32) (v432 : FVec F S128x2048 .f32) (v438 : FVec F S128x2048 .f32), FVec F S128x2048 .f32 ← k1_part10 arg0 harg0 arg1 harg1 arg2 harg2 arg3 harg3 v1 v3 v5 v7 v10 v371 v375 v394 v395
  let ⟨v471, v473, v475, v477, v480, v481⟩ : Σ' (v471 : FVec F S128x1 .f32) (v473 : FVec F S128x1 .f32) (v475 : FVec F S128x1 .f32) (v477 : FVec F S128x1 .f32) (v480 : FVec F S128x2048 .f32), FVec F S128x2048 .f32 ← k1_part11 arg0 harg0 arg1 harg1 arg2 harg2 arg3 harg3 v1 v10 v420 v422 v424 v426 v432 v438 v439
  let ⟨v522, v524, v525⟩ : Σ' (v522 : FVec F S128x1 .f32) (v524 : FVec F S128x1 .f32), Vec F S128x1 .f32 ← k1_part12 arg0 harg0 arg1 harg1 arg2 harg2 arg3 harg3 v3 v5 v7 v10 v471 v473 v475 v477 v480 v481
  k1_part13 arg0 harg0 arg1 harg1 arg2 harg2 arg3 harg3 v1 v3 v5 v7 v10 v522 v524 v525
  let ⟨v616, v617, v618⟩ : Σ' (v616 : IVec S128x2048 1) (v617 : FVec F S128x2048 .f32), FVec F S128x2048 .f32 ← k1_part14 arg0 harg0 arg1 harg1 arg2 harg2 arg3 harg3 v1 v3 v5 v7 v10
  let ⟨v659, v662, v663⟩ : Σ' (v659 : FVec F S128x2048 .f32) (v662 : IVec S128x2048 32), IVec S128x2048 32 ← k1_part15 arg0 harg0 arg1 harg1 arg2 harg2 arg3 harg3 v1 v3 v5 v7 v10 v616 v617 v618
  let ⟨v700, v707⟩ : Σ' (v700 : FVec F S128x2048 .f32), FVec F S128x2048 .f32 ← k1_part16 arg0 harg0 arg1 harg1 arg2 harg2 arg3 harg3 v1 v3 v5 v7 v10 v659 v662 v663
  let ⟨v726, v728, v730, v732, v747, v748, v749⟩ : Σ' (v726 : FVec F S128x1 .f32) (v728 : FVec F S128x1 .f32) (v730 : FVec F S128x1 .f32) (v732 : FVec F S128x1 .f32) (v747 : FVec F S128x2048 .f32) (v748 : FVec F S128x2048 .f32), FVec F S128x2048 .f32 ← k1_part17 arg0 harg0 arg1 harg1 arg2 harg2 arg3 harg3 v1 v3 v5 v7 v700 v707
  let ⟨v777, v779, v781, v783, v786, v789, v792, v793⟩ : Σ' (v777 : FVec F S128x1 .f32) (v779 : FVec F S128x1 .f32) (v781 : FVec F S128x1 .f32) (v783 : FVec F S128x1 .f32) (v786 : FVec F S128x2048 .f32) (v789 : FVec F S128x2048 .f32) (v792 : FVec F S128x2048 .f32), FVec F S128x2048 .f32 ← k1_part18 arg0 harg0 arg1 harg1 arg2 harg2 arg3 harg3 v1 v3 v5 v10 v726 v728 v730 v732 v747 v748 v749
  let v824 : Vec F S128x2048 .f32 ← Prog.lift (.load arg3 (Rect.unit (s := S2048x2048) ![1920, 0] S128x2048.size inb_S2048x2048_S128x2048_1920_0).toLoadRect (View.loadsAt_vmem h_S128x2048))
  Prog.lift (.store arg3 (Rect.unit (s := S2048x2048) ![1920, 0] S128x2048.size inb_S2048x2048_S128x2048_1920_0) (k1_pay102 v7 v10 v777 v779 v781 v783 v786 v789 v792 v793) Finset.univ (View.stores_vmem_bits_univ h_S128x2048 rfl) (.inl rfl))
  pure ⟨v7, v10, v777, v779, v781, v783, v786, v789, v792, v793⟩

/-- What follows the strips in their part: the first block's loop and its product. -/
def nmsFirst (arg0 : Memref sig .tc .vmem S2048x8 .f32) (harg0 : arg0.IsWhole) (arg1 : Memref sig .tc .vmem S4x2048 .f32) (harg1 : arg1.IsWhole) (arg2 : Memref sig .tc .vmem S2048x8 .f32) (harg2 : arg2.IsWhole) (arg3 : Memref sig .tc .vmem S2048x2048 .f32) (harg3 : arg3.IsWhole) (v7 : FVec F S1x2048 .f32) (v10 : FVec F S1x2048 .f32) (v777 : FVec F S128x1 .f32) (v779 : FVec F S128x1 .f32) (v781 : FVec F S128x1 .f32) (v783 : FVec F S128x1 .f32) (v786 : FVec F S128x2048 .f32) (v789 : FVec F S128x2048 .f32) (v792 : FVec F S128x2048 .f32) (v793 : FVec F S128x2048 .f32) :
    Prog (TpuEff nD τ sig (Elt F) Λ₀ .tc) (Σ' (v827 : IVec S1x2048 32) (v828 : IVec S1x128 32) (v829 : FVec F S1x2048 .f32) (v834 : FVec F S1x2048 .f32), F .f32) := do
  have v827 : IVec S1x2048 32 := iota .tc S1x2048 32 [1] iota_S1x2048_d1_w32
  have v828 : IVec S1x128 32 := iota .tc S1x128 32 [1] iota_S1x128_d1_w32
  let v832 : FVec F S1x128 .f32 ← Scf.Loop.for k1_t1_loop k1_t1_ok (k1_pay104 (F := F)) (k1_t1_body arg0 harg0 arg1 harg1 arg2 harg2 arg3 harg3 v7 v10 v777 v779 v781 v783 v786 v789 v792 v793)
  let v833 : Vec F S128x2048 .f32 ← Prog.lift (.load arg3 (Rect.unit (s := S2048x2048) ![0, 0] S128x2048.size inb_S2048x2048_S128x2048_0_0).toLoadRect (View.loadsAt_vmem h_S128x2048))
  have cst_251 : F .f32 := Scalar.ofBits .f32 0x00000000#32
  pure ⟨v827, v828, k1_pay103 (F := F), k1_pay106 v832 v833, cst_251⟩

/-- The body after the strips. -/
def nmsRest (arg0 : Memref sig .tc .vmem S2048x8 .f32) (harg0 : arg0.IsWhole) (arg1 : Memref sig .tc .vmem S4x2048 .f32) (harg1 : arg1.IsWhole) (arg2 : Memref sig .tc .vmem S2048x8 .f32) (harg2 : arg2.IsWhole) (arg3 : Memref sig .tc .vmem S2048x2048 .f32) (harg3 : arg3.IsWhole) (v7 : FVec F S1x2048 .f32) (v10 : FVec F S1x2048 .f32) (v777 : FVec F S128x1 .f32) (v779 : FVec F S128x1 .f32) (v781 : FVec F S128x1 .f32) (v783 : FVec F S128x1 .f32) (v786 : FVec F S128x2048 .f32) (v789 : FVec F S128x2048 .f32) (v792 : FVec F S128x2048 .f32) (v793 : FVec F S128x2048 .f32) : Prog (TpuEff nD τ sig (Elt F) Λ₀ .tc) PUnit := do
  let ⟨v827, v828, v829, v834, cst_251⟩ : Σ' (v827 : IVec S1x2048 32) (v828 : IVec S1x128 32) (v829 : FVec F S1x2048 .f32) (v834 : FVec F S1x2048 .f32), F .f32 ← nmsFirst arg0 harg0 arg1 harg1 arg2 harg2 arg3 harg3 v7 v10 v777 v779 v781 v783 v786 v789 v792 v793
  let ⟨v862, v865, v866⟩ : Σ' (v862 : FVec F S1x2048 .f32) (v865 : FVec F S1x128 .f32), Vec F S128x2048 .f32 ← k1_part20 arg0 harg0 arg1 harg1 arg2 harg2 arg3 harg3 v828 v829 v834 cst_251
  let ⟨v895, v898⟩ : Σ' (v895 : FVec F S1x2048 .f32), FVec F S1x128 .f32 ← k1_part21 arg0 harg0 arg1 harg1 arg2 harg2 arg3 harg3 v828 v862 v865 v866
  let ⟨v928, v929, c0_i32_334⟩ : Σ' (v928 : FVec F S1x2048 .f32) (v929 : FVec F S1x128 .f32), BitVec 32 ← k1_part22 arg0 harg0 arg1 harg1 arg2 harg2 arg3 harg3 v828 v895 v898
  let ⟨v961, v962⟩ : Σ' (v961 : FVec F S1x2048 .f32), FVec F S1x128 .f32 ← k1_part23 arg0 harg0 arg1 harg1 arg2 harg2 arg3 harg3 v828 v928 v929 c0_i32_334
  let ⟨v983, v990, v991, v992⟩ : Σ' (v983 : FVec F S1x2048 .f32) (v990 : IVec S1x2048 1) (v991 : FVec F S1x2048 .f32), FVec F S1x2048 .f32 ← k1_part24 arg0 harg0 arg1 harg1 arg2 harg2 arg3 harg3 v828 v961 v962
  let ⟨v1017, v1018, v1019, v1025, v1031, v1032⟩ : Σ' (v1017 : F .f32) (v1018 : FVec F S16x128 .f32) (v1019 : FVec F S16x128 .f32) (v1025 : FVec F S128x128 .f32) (v1031 : FVec F S16x16 .f32), FVec F S16x128 .f32 ← k1_part25 arg0 harg0 arg1 harg1 arg2 harg2 arg3 harg3 v827 v828 v983 v990 v991 v992
  let ⟨v1069, v1076, cst_427⟩ : Σ' (v1069 : FVec F S2048x8 .f32) (v1076 : IVec S2048x8 1), F .f32 ← k1_part26 arg0 harg0 arg1 harg1 arg2 harg2 arg3 harg3 v1017 v1018 v1019 v1025 v1031 v1032
  let v1079 : Vec F S2048x8 .f32 ← Prog.lift (.load arg2 (Rect.unit (s := S2048x8) ![0, 0] S2048x8.size inb_S2048x8_S2048x8_0_0).toLoadRect (View.loadsAt_vmem h_S2048x8))
  Prog.lift (.store arg2 (Rect.unit (s := S2048x8) ![0, 0] S2048x8.size inb_S2048x8_S2048x8_0_0) (k1_pay1 v1069 v1076 cst_427) Finset.univ (View.stores_vmem_bits_univ h_S2048x8 rfl) (.inl rfl))
  pure ⟨⟩

/-- What the strips pass on, handed to the rest. -/
def nmsRest' (arg0 : Memref sig .tc .vmem S2048x8 .f32) (harg0 : arg0.IsWhole) (arg1 : Memref sig .tc .vmem S4x2048 .f32) (harg1 : arg1.IsWhole) (arg2 : Memref sig .tc .vmem S2048x8 .f32) (harg2 : arg2.IsWhole) (arg3 : Memref sig .tc .vmem S2048x2048 .f32) (harg3 : arg3.IsWhole) (r : (Σ' (v7 : FVec F S1x2048 .f32) (v10 : FVec F S1x2048 .f32) (v777 : FVec F S128x1 .f32) (v779 : FVec F S128x1 .f32) (v781 : FVec F S128x1 .f32) (v783 : FVec F S128x1 .f32) (v786 : FVec F S128x2048 .f32) (v789 : FVec F S128x2048 .f32) (v792 : FVec F S128x2048 .f32), FVec F S128x2048 .f32)) : Prog (TpuEff nD τ sig (Elt F) Λ₀ .tc) PUnit :=
  nmsRest arg0 harg0 arg1 harg1 arg2 harg2 arg3 harg3 r.1 r.2.1 r.2.2.1 r.2.2.2.1 r.2.2.2.2.1 r.2.2.2.2.2.1 r.2.2.2.2.2.2.1 r.2.2.2.2.2.2.2.1 r.2.2.2.2.2.2.2.2.1 r.2.2.2.2.2.2.2.2.2

/-- The body is the strips, then the rest. -/
theorem nms_split (arg0 : Memref sig .tc .vmem S2048x8 .f32) (harg0 : arg0.IsWhole) (arg1 : Memref sig .tc .vmem S4x2048 .f32) (harg1 : arg1.IsWhole) (arg2 : Memref sig .tc .vmem S2048x8 .f32) (harg2 : arg2.IsWhole) (arg3 : Memref sig .tc .vmem S2048x2048 .f32) (harg3 : arg3.IsWhole) :
    cc1__nms_body (F := F) arg0 harg0 arg1 harg1 arg2 harg2 arg3 harg3 = (nmsStrips arg0 harg0 arg1 harg1 arg2 harg2 arg3 harg3 >>= nmsRest' arg0 harg0 arg1 harg1 arg2 harg2 arg3 harg3) := rfl

end Cert.KernelIdeal.Hand
-- ==== Proof.Run.StripsRun.lean ====
module

public import proofs.«01_k».proof.Proof.Gen.KernelIdeal.Launch
public import proofs.«01_k».proof.Proof.Gen.KernelIdeal.Points
public import proofs.«01_k».proof.Proof.Gen.KernelIdeal.Skeleton
public import Idealize.ShloMosaic.Lib.Exec
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp
public import proofs.«01_k».proof.Proof.Run.Strips

/-! The strips, run: the scratch ends at the overlap table, whatever it held. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- One strip of the overlap table: the boxes of the strip against all boxes; `w` is the number of the strip's first box. -/
def stripVal (w : BitVec 32) (r0 r1 r2 r3 : Vec F S1x2048 .f32) (c0 c1 c2 c3 : Vec F S128x1 .f32) : FVec F S128x2048 .f32 :=
  have x1r : FVec F S1x2048 .f32 := shapeCast S1x2048 r0 shapeCasts_S1x2048_S1x2048
  have y1r : FVec F S1x2048 .f32 := shapeCast S1x2048 r1 shapeCasts_S1x2048_S1x2048
  have x2r : FVec F S1x2048 .f32 := shapeCast S1x2048 r2 shapeCasts_S1x2048_S1x2048
  have y2r : FVec F S1x2048 .f32 := shapeCast S1x2048 r3 shapeCasts_S1x2048_S1x2048
  have area : FVec F S1x2048 .f32 := mulf (subf x2r x1r) (subf y2r y1r)
  have x1c : FVec F S128x1 .f32 := shapeCast S128x1 c0 shapeCasts_S128x1_S128x1
  have y1c : FVec F S128x1 .f32 := shapeCast S128x1 c1 shapeCasts_S128x1_S128x1
  have x2c : FVec F S128x1 .f32 := shapeCast S128x1 c2 shapeCasts_S128x1_S128x1
  have y2c : FVec F S128x1 .f32 := shapeCast S128x1 c3 shapeCasts_S128x1_S128x1
  have ix1 : FVec F S128x2048 .f32 := maximumf (broadcastTo S128x2048 x1c broadcasts_S128x1_S128x2048) (broadcastTo S128x2048 x1r broadcasts_S1x2048_S128x2048)
  have iy1 : FVec F S128x2048 .f32 := maximumf (broadcastTo S128x2048 y1c broadcasts_S128x1_S128x2048) (broadcastTo S128x2048 y1r broadcasts_S1x2048_S128x2048)
  have ix2 : FVec F S128x2048 .f32 := minimumf (broadcastTo S128x2048 x2c broadcasts_S128x1_S128x2048) (broadcastTo S128x2048 x2r broadcasts_S1x2048_S128x2048)
  have iy2 : FVec F S128x2048 .f32 := minimumf (broadcastTo S128x2048 y2c broadcasts_S128x1_S128x2048) (broadcastTo S128x2048 y2r broadcasts_S1x2048_S128x2048)
  have zero : FVec F S128x2048 .f32 := broadcast S128x2048 (Scalar.ofBits .f32 0x00000000#32)
  have inter : FVec F S128x2048 .f32 := mulf (maximumf zero (subf ix2 ix1)) (maximumf zero (subf iy2 iy1))
  have areaC : FVec F S128x1 .f32 := mulf (subf x2c x1c) (subf y2c y1c)
  have union : FVec F S128x2048 .f32 := addf (subf (addf (broadcastTo S128x2048 areaC broadcasts_S128x1_S128x2048)
    (broadcastTo S128x2048 area broadcasts_S1x2048_S128x2048)) inter) (broadcast S128x2048 (Scalar.ofBits .f32 0x3089705F#32))
  have iou : FVec F S128x2048 .f32 := divf inter union
  have irow : IVec S128x2048 32 := addi (iota .tc S128x2048 32 [0] iota_S128x2048_d0_w32) (broadcast S128x2048 w)
  have jrow : IVec S128x2048 32 := iota .tc S128x2048 32 [1] iota_S128x2048_d1_w32
  have hit : IVec S128x2048 1 := andi (cmpf .ogt iou (broadcast S128x2048 (Scalar.ofBits .f32 0x3F333333#32))) (cmpi .sgt jrow irow)
  shapeCast S128x2048 (select hit (broadcast S128x2048 (Scalar.ofBits .f32 0x3F800000#32)) (broadcast S128x2048 (Scalar.ofBits .f32 0x00000000#32))) shapeCasts_S128x2048_S128x2048

/-- Row 0 of the boxes' transposed table: one coordinate of every box. -/
abbrev bxRow0 (x1 : Vec F S4x2048 .f32) : Vec F S1x2048 .f32 :=
  View.ld x1 (Rect.unit (s := S4x2048) ![0, 0] S1x2048.size inb_S4x2048_S1x2048_0_0)
/-- Row 1 of the boxes' transposed table: one coordinate of every box. -/
abbrev bxRow1 (x1 : Vec F S4x2048 .f32) : Vec F S1x2048 .f32 :=
  View.ld x1 (Rect.unit (s := S4x2048) ![1, 0] S1x2048.size inb_S4x2048_S1x2048_1_0)
/-- Row 2 of the boxes' transposed table: one coordinate of every box. -/
abbrev bxRow2 (x1 : Vec F S4x2048 .f32) : Vec F S1x2048 .f32 :=
  View.ld x1 (Rect.unit (s := S4x2048) ![2, 0] S1x2048.size inb_S4x2048_S1x2048_2_0)
/-- Row 3 of the boxes' transposed table: one coordinate of every box. -/
abbrev bxRow3 (x1 : Vec F S4x2048 .f32) : Vec F S1x2048 .f32 :=
  View.ld x1 (Rect.unit (s := S4x2048) ![3, 0] S1x2048.size inb_S4x2048_S1x2048_3_0)

/-- Strip 0 of the overlap table. -/
def strip0 (x0 : Vec F S2048x8 .f32) (x1 : Vec F S4x2048 .f32) : Vec F S128x2048 .f32 :=
  stripVal 0#32 (bxRow0 x1) (bxRow1 x1) (bxRow2 x1) (bxRow3 x1)
    (View.ld x0 (Rect.unit (s := S2048x8) ![0, 0] S128x1.size inb_S2048x8_S128x1_0_0)) (View.ld x0 (Rect.unit (s := S2048x8) ![0, 1] S128x1.size inb_S2048x8_S128x1_0_1)) (View.ld x0 (Rect.unit (s := S2048x8) ![0, 2] S128x1.size inb_S2048x8_S128x1_0_2)) (View.ld x0 (Rect.unit (s := S2048x8) ![0, 3] S128x1.size inb_S2048x8_S128x1_0_3))

/-- Strip 1 of the overlap table. -/
def strip1 (x0 : Vec F S2048x8 .f32) (x1 : Vec F S4x2048 .f32) : Vec F S128x2048 .f32 :=
  stripVal 128#32 (bxRow0 x1) (bxRow1 x1) (bxRow2 x1) (bxRow3 x1)
    (View.ld x0 (Rect.unit (s := S2048x8) ![128, 0] S128x1.size inb_S2048x8_S128x1_128_0)) (View.ld x0 (Rect.unit (s := S2048x8) ![128, 1] S128x1.size inb_S2048x8_S128x1_128_1)) (View.ld x0 (Rect.unit (s := S2048x8) ![128, 2] S128x1.size inb_S2048x8_S128x1_128_2)) (View.ld x0 (Rect.unit (s := S2048x8) ![128, 3] S128x1.size inb_S2048x8_S128x1_128_3))

/-- Strip 2 of the overlap table. -/
def strip2 (x0 : Vec F S2048x8 .f32) (x1 : Vec F S4x2048 .f32) : Vec F S128x2048 .f32 :=
  stripVal 256#32 (bxRow0 x1) (bxRow1 x1) (bxRow2 x1) (bxRow3 x1)
    (View.ld x0 (Rect.unit (s := S2048x8) ![256, 0] S128x1.size inb_S2048x8_S128x1_256_0)) (View.ld x0 (Rect.unit (s := S2048x8) ![256, 1] S128x1.size inb_S2048x8_S128x1_256_1)) (View.ld x0 (Rect.unit (s := S2048x8) ![256, 2] S128x1.size inb_S2048x8_S128x1_256_2)) (View.ld x0 (Rect.unit (s := S2048x8) ![256, 3] S128x1.size inb_S2048x8_S128x1_256_3))

/-- Strip 3 of the overlap table. -/
def strip3 (x0 : Vec F S2048x8 .f32) (x1 : Vec F S4x2048 .f32) : Vec F S128x2048 .f32 :=
  stripVal 384#32 (bxRow0 x1) (bxRow1 x1) (bxRow2 x1) (bxRow3 x1)
    (View.ld x0 (Rect.unit (s := S2048x8) ![384, 0] S128x1.size inb_S2048x8_S128x1_384_0)) (View.ld x0 (Rect.unit (s := S2048x8) ![384, 1] S128x1.size inb_S2048x8_S128x1_384_1)) (View.ld x0 (Rect.unit (s := S2048x8) ![384, 2] S128x1.size inb_S2048x8_S128x1_384_2)) (View.ld x0 (Rect.unit (s := S2048x8) ![384, 3] S128x1.size inb_S2048x8_S128x1_384_3))

/-- Strip 4 of the overlap table. -/
def strip4 (x0 : Vec F S2048x8 .f32) (x1 : Vec F S4x2048 .f32) : Vec F S128x2048 .f32 :=
  stripVal 512#32 (bxRow0 x1) (bxRow1 x1) (bxRow2 x1) (bxRow3 x1)
    (View.ld x0 (Rect.unit (s := S2048x8) ![512, 0] S128x1.size inb_S2048x8_S128x1_512_0)) (View.ld x0 (Rect.unit (s := S2048x8) ![512, 1] S128x1.size inb_S2048x8_S128x1_512_1)) (View.ld x0 (Rect.unit (s := S2048x8) ![512, 2] S128x1.size inb_S2048x8_S128x1_512_2)) (View.ld x0 (Rect.unit (s := S2048x8) ![512, 3] S128x1.size inb_S2048x8_S128x1_512_3))

/-- Strip 5 of the overlap table. -/
def strip5 (x0 : Vec F S2048x8 .f32) (x1 : Vec F S4x2048 .f32) : Vec F S128x2048 .f32 :=
  stripVal 640#32 (bxRow0 x1) (bxRow1 x1) (bxRow2 x1) (bxRow3 x1)
    (View.ld x0 (Rect.unit (s := S2048x8) ![640, 0] S128x1.size inb_S2048x8_S128x1_640_0)) (View.ld x0 (Rect.unit (s := S2048x8) ![640, 1] S128x1.size inb_S2048x8_S128x1_640_1)) (View.ld x0 (Rect.unit (s := S2048x8) ![640, 2] S128x1.size inb_S2048x8_S128x1_640_2)) (View.ld x0 (Rect.unit (s := S2048x8) ![640, 3] S128x1.size inb_S2048x8_S128x1_640_3))

/-- Strip 6 of the overlap table. -/
def strip6 (x0 : Vec F S2048x8 .f32) (x1 : Vec F S4x2048 .f32) : Vec F S128x2048 .f32 :=
  stripVal 768#32 (bxRow0 x1) (bxRow1 x1) (bxRow2 x1) (bxRow3 x1)
    (View.ld x0 (Rect.unit (s := S2048x8) ![768, 0] S128x1.size inb_S2048x8_S128x1_768_0)) (View.ld x0 (Rect.unit (s := S2048x8) ![768, 1] S128x1.size inb_S2048x8_S128x1_768_1)) (View.ld x0 (Rect.unit (s := S2048x8) ![768, 2] S128x1.size inb_S2048x8_S128x1_768_2)) (View.ld x0 (Rect.unit (s := S2048x8) ![768, 3] S128x1.size inb_S2048x8_S128x1_768_3))

/-- Strip 7 of the overlap table. -/
def strip7 (x0 : Vec F S2048x8 .f32) (x1 : Vec F S4x2048 .f32) : Vec F S128x2048 .f32 :=
  stripVal 896#32 (bxRow0 x1) (bxRow1 x1) (bxRow2 x1) (bxRow3 x1)
    (View.ld x0 (Rect.unit (s := S2048x8) ![896, 0] S128x1.size inb_S2048x8_S128x1_896_0)) (View.ld x0 (Rect.unit (s := S2048x8) ![896, 1] S128x1.size inb_S2048x8_S128x1_896_1)) (View.ld x0 (Rect.unit (s := S2048x8) ![896, 2] S128x1.size inb_S2048x8_S128x1_896_2)) (View.ld x0 (Rect.unit (s := S2048x8) ![896, 3] S128x1.size inb_S2048x8_S128x1_896_3))

/-- Strip 8 of the overlap table. -/
def strip8 (x0 : Vec F S2048x8 .f32) (x1 : Vec F S4x2048 .f32) : Vec F S128x2048 .f32 :=
  stripVal 1024#32 (bxRow0 x1) (bxRow1 x1) (bxRow2 x1) (bxRow3 x1)
    (View.ld x0 (Rect.unit (s := S2048x8) ![1024, 0] S128x1.size inb_S2048x8_S128x1_1024_0)) (View.ld x0 (Rect.unit (s := S2048x8) ![1024, 1] S128x1.size inb_S2048x8_S128x1_1024_1)) (View.ld x0 (Rect.unit (s := S2048x8) ![1024, 2] S128x1.size inb_S2048x8_S128x1_1024_2)) (View.ld x0 (Rect.unit (s := S2048x8) ![1024, 3] S128x1.size inb_S2048x8_S128x1_1024_3))

/-- Strip 9 of the overlap table. -/
def strip9 (x0 : Vec F S2048x8 .f32) (x1 : Vec F S4x2048 .f32) : Vec F S128x2048 .f32 :=
  stripVal 1152#32 (bxRow0 x1) (bxRow1 x1) (bxRow2 x1) (bxRow3 x1)
    (View.ld x0 (Rect.unit (s := S2048x8) ![1152, 0] S128x1.size inb_S2048x8_S128x1_1152_0)) (View.ld x0 (Rect.unit (s := S2048x8) ![1152, 1] S128x1.size inb_S2048x8_S128x1_1152_1)) (View.ld x0 (Rect.unit (s := S2048x8) ![1152, 2] S128x1.size inb_S2048x8_S128x1_1152_2)) (View.ld x0 (Rect.unit (s := S2048x8) ![1152, 3] S128x1.size inb_S2048x8_S128x1_1152_3))

/-- Strip 10 of the overlap table. -/
def strip10 (x0 : Vec F S2048x8 .f32) (x1 : Vec F S4x2048 .f32) : Vec F S128x2048 .f32 :=
  stripVal 1280#32 (bxRow0 x1) (bxRow1 x1) (bxRow2 x1) (bxRow3 x1)
    (View.ld x0 (Rect.unit (s := S2048x8) ![1280, 0] S128x1.size inb_S2048x8_S128x1_1280_0)) (View.ld x0 (Rect.unit (s := S2048x8) ![1280, 1] S128x1.size inb_S2048x8_S128x1_1280_1)) (View.ld x0 (Rect.unit (s := S2048x8) ![1280, 2] S128x1.size inb_S2048x8_S128x1_1280_2)) (View.ld x0 (Rect.unit (s := S2048x8) ![1280, 3] S128x1.size inb_S2048x8_S128x1_1280_3))

/-- Strip 11 of the overlap table. -/
def strip11 (x0 : Vec F S2048x8 .f32) (x1 : Vec F S4x2048 .f32) : Vec F S128x2048 .f32 :=
  stripVal 1408#32 (bxRow0 x1) (bxRow1 x1) (bxRow2 x1) (bxRow3 x1)
    (View.ld x0 (Rect.unit (s := S2048x8) ![1408, 0] S128x1.size inb_S2048x8_S128x1_1408_0)) (View.ld x0 (Rect.unit (s := S2048x8) ![1408, 1] S128x1.size inb_S2048x8_S128x1_1408_1)) (View.ld x0 (Rect.unit (s := S2048x8) ![1408, 2] S128x1.size inb_S2048x8_S128x1_1408_2)) (View.ld x0 (Rect.unit (s := S2048x8) ![1408, 3] S128x1.size inb_S2048x8_S128x1_1408_3))

/-- Strip 12 of the overlap table. -/
def strip12 (x0 : Vec F S2048x8 .f32) (x1 : Vec F S4x2048 .f32) : Vec F S128x2048 .f32 :=
  stripVal 1536#32 (bxRow0 x1) (bxRow1 x1) (bxRow2 x1) (bxRow3 x1)
    (View.ld x0 (Rect.unit (s := S2048x8) ![1536, 0] S128x1.size inb_S2048x8_S128x1_1536_0)) (View.ld x0 (Rect.unit (s := S2048x8) ![1536, 1] S128x1.size inb_S2048x8_S128x1_1536_1)) (View.ld x0 (Rect.unit (s := S2048x8) ![1536, 2] S128x1.size inb_S2048x8_S128x1_1536_2)) (View.ld x0 (Rect.unit (s := S2048x8) ![1536, 3] S128x1.size inb_S2048x8_S128x1_1536_3))

/-- Strip 13 of the overlap table. -/
def strip13 (x0 : Vec F S2048x8 .f32) (x1 : Vec F S4x2048 .f32) : Vec F S128x2048 .f32 :=
  stripVal 1664#32 (bxRow0 x1) (bxRow1 x1) (bxRow2 x1) (bxRow3 x1)
    (View.ld x0 (Rect.unit (s := S2048x8) ![1664, 0] S128x1.size inb_S2048x8_S128x1_1664_0)) (View.ld x0 (Rect.unit (s := S2048x8) ![1664, 1] S128x1.size inb_S2048x8_S128x1_1664_1)) (View.ld x0 (Rect.unit (s := S2048x8) ![1664, 2] S128x1.size inb_S2048x8_S128x1_1664_2)) (View.ld x0 (Rect.unit (s := S2048x8) ![1664, 3] S128x1.size inb_S2048x8_S128x1_1664_3))

/-- Strip 14 of the overlap table. -/
def strip14 (x0 : Vec F S2048x8 .f32) (x1 : Vec F S4x2048 .f32) : Vec F S128x2048 .f32 :=
  stripVal 1792#32 (bxRow0 x1) (bxRow1 x1) (bxRow2 x1) (bxRow3 x1)
    (View.ld x0 (Rect.unit (s := S2048x8) ![1792, 0] S128x1.size inb_S2048x8_S128x1_1792_0)) (View.ld x0 (Rect.unit (s := S2048x8) ![1792, 1] S128x1.size inb_S2048x8_S128x1_1792_1)) (View.ld x0 (Rect.unit (s := S2048x8) ![1792, 2] S128x1.size inb_S2048x8_S128x1_1792_2)) (View.ld x0 (Rect.unit (s := S2048x8) ![1792, 3] S128x1.size inb_S2048x8_S128x1_1792_3))

/-- Strip 15 of the overlap table. -/
def strip15 (x0 : Vec F S2048x8 .f32) (x1 : Vec F S4x2048 .f32) : Vec F S128x2048 .f32 :=
  stripVal 1920#32 (bxRow0 x1) (bxRow1 x1) (bxRow2 x1) (bxRow3 x1)
    (View.ld x0 (Rect.unit (s := S2048x8) ![1920, 0] S128x1.size inb_S2048x8_S128x1_1920_0)) (View.ld x0 (Rect.unit (s := S2048x8) ![1920, 1] S128x1.size inb_S2048x8_S128x1_1920_1)) (View.ld x0 (Rect.unit (s := S2048x8) ![1920, 2] S128x1.size inb_S2048x8_S128x1_1920_2)) (View.ld x0 (Rect.unit (s := S2048x8) ![1920, 3] S128x1.size inb_S2048x8_S128x1_1920_3))

/-- The sixteen strips, the last first. -/
def stripList (x0 : Vec F S2048x8 .f32) (x1 : Vec F S4x2048 .f32) : List (View.Piece (Elt F) S2048x2048 .f32) :=
  [ ⟨(Rect.unit (s := S2048x2048) ![1920, 0] S128x2048.size inb_S2048x2048_S128x2048_1920_0), strip15 x0 x1⟩,
    ⟨(Rect.unit (s := S2048x2048) ![1792, 0] S128x2048.size inb_S2048x2048_S128x2048_1792_0), strip14 x0 x1⟩,
    ⟨(Rect.unit (s := S2048x2048) ![1664, 0] S128x2048.size inb_S2048x2048_S128x2048_1664_0), strip13 x0 x1⟩,
    ⟨(Rect.unit (s := S2048x2048) ![1536, 0] S128x2048.size inb_S2048x2048_S128x2048_1536_0), strip12 x0 x1⟩,
    ⟨(Rect.unit (s := S2048x2048) ![1408, 0] S128x2048.size inb_S2048x2048_S128x2048_1408_0), strip11 x0 x1⟩,
    ⟨(Rect.unit (s := S2048x2048) ![1280, 0] S128x2048.size inb_S2048x2048_S128x2048_1280_0), strip10 x0 x1⟩,
    ⟨(Rect.unit (s := S2048x2048) ![1152, 0] S128x2048.size inb_S2048x2048_S128x2048_1152_0), strip9 x0 x1⟩,
    ⟨(Rect.unit (s := S2048x2048) ![1024, 0] S128x2048.size inb_S2048x2048_S128x2048_1024_0), strip8 x0 x1⟩,
    ⟨(Rect.unit (s := S2048x2048) ![896, 0] S128x2048.size inb_S2048x2048_S128x2048_896_0), strip7 x0 x1⟩,
    ⟨(Rect.unit (s := S2048x2048) ![768, 0] S128x2048.size inb_S2048x2048_S128x2048_768_0), strip6 x0 x1⟩,
    ⟨(Rect.unit (s := S2048x2048) ![640, 0] S128x2048.size inb_S2048x2048_S128x2048_640_0), strip5 x0 x1⟩,
    ⟨(Rect.unit (s := S2048x2048) ![512, 0] S128x2048.size inb_S2048x2048_S128x2048_512_0), strip4 x0 x1⟩,
    ⟨(Rect.unit (s := S2048x2048) ![384, 0] S128x2048.size inb_S2048x2048_S128x2048_384_0), strip3 x0 x1⟩,
    ⟨(Rect.unit (s := S2048x2048) ![256, 0] S128x2048.size inb_S2048x2048_S128x2048_256_0), strip2 x0 x1⟩,
    ⟨(Rect.unit (s := S2048x2048) ![128, 0] S128x2048.size inb_S2048x2048_S128x2048_128_0), strip1 x0 x1⟩,
    ⟨(Rect.unit (s := S2048x2048) ![0, 0] S128x2048.size inb_S2048x2048_S128x2048_0_0), strip0 x0 x1⟩]

/-- The overlap table. -/
def table (x0 : Vec F S2048x8 .f32) (x1 : Vec F S4x2048 .f32) : Vec F S2048x2048 .f32 :=
  View.canon (stripList x0 x1)

/-- The strips cover the table. -/
theorem stripList_cover (x0 : Vec F S2048x8 .f32) (x1 : Vec F S4x2048 .f32) (y : S2048x2048.Idx) :
    ∃ pc ∈ stripList x0 x1, y ∈ pc.1.set :=
  View.cover_of_tiled (stripList x0 x1) S128x2048.size (by rfl) y

set_option maxHeartbeats 4000000 in
/-- The strips, run. -/
theorem strips_run (c : Dev nD) (E : Set ℕ) (arg0 : Memref sig .tc .vmem S2048x8 .f32) (harg0 : arg0.IsWhole) (arg1 : Memref sig .tc .vmem S4x2048 .f32) (harg1 : arg1.IsWhole) (arg2 : Memref sig .tc .vmem S2048x8 .f32) (harg2 : arg2.IsWhole) (arg3 : Memref sig .tc .vmem S2048x2048 .f32) (harg3 : arg3.IsWhole)
    (x0 : Vec F S2048x8 .f32) (x1 : Vec F S4x2048 .f32) :
    (iprop(owns (c : Thread nD τ) arg0 fullShare x0 ∗ owns (c : Thread nD τ) arg1 fullShare x1 ∗ (∃ d, owns (c : Thread nD τ) arg3 fullShare d)) : sProp 𝕄)
      ⊢ wp frame (wpE (defs₀ (F := F)) Variants.none c none) E (nmsStrips (F := F) arg0 harg0 arg1 harg1 arg2 harg2 arg3 harg3)
          (fun _ => iprop(owns (c : Thread nD τ) arg0 fullShare x0 ∗ owns (c : Thread nD τ) arg1 fullShare x1
            ∗ owns (c : Thread nD τ) arg3 fullShare (table x0 x1))) := by
  unfold nmsStrips
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton]
  unfold owns
  iintro ⟨⟨%f0, %hf0, H0⟩, ⟨%f1, %hf1, H1⟩, ⟨%d3, %f3, -, H3⟩⟩
  subst hf0 hf1
  sl_exec
  sl_step
  isplitl [H0]
  · iexists f0; isplitr; · ipureintro; rfl
    iexact H0
  isplitl [H1]
  · iexists f1; isplitr; · ipureintro; rfl
    iexact H1
  iexists _; isplitr
  swap; · iexact H3
  ipureintro
  rw [table, ← View.read_writes_eq_canon arg3.view f3 (stripList (arg0.view.read (Elt F) f0) (arg1.view.read (Elt F) f1)) (stripList_cover _ _)]
  rfl

end Cert.KernelIdeal.Hand
-- ==== Proof.Run.Rest.lean ====
module

public import proofs.«01_k».proof.Proof.Gen.KernelIdeal.Launch
public import proofs.«01_k».proof.Proof.Gen.KernelIdeal.Points
public import proofs.«01_k».proof.Proof.Gen.KernelIdeal.Skeleton
public import Idealize.ShloMosaic.Lib.Exec
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp
public import proofs.«01_k».proof.Proof.Run.StripsRun

/-! The suppression body after the strips, run; then the whole body. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The value `v827`, from the overlap table. -/
def nv827 (S : Vec F S2048x2048 .f32) : IVec S1x2048 32 :=
  iota .tc S1x2048 32 [1] iota_S1x2048_d1_w32

/-- The value `v828`, from the overlap table. -/
def nv828 (S : Vec F S2048x2048 .f32) : IVec S1x128 32 :=
  iota .tc S1x128 32 [1] iota_S1x128_d1_w32

/-- The flags loop 1 ends with. -/
def nv832 (S : Vec F S2048x2048 .f32) : FVec F S1x128 .f32 :=
  st1  S (k1_pay104 (F := F)) k1_t1_loop.trips

/-- A strip of the table, read back. -/
def nv833 (S : Vec F S2048x2048 .f32) : Vec F S128x2048 .f32 :=
  View.ld S (Rect.unit (s := S2048x2048) ![0, 0] S128x2048.size inb_S2048x2048_S128x2048_0_0)

/-- The value `cst_251`, from the overlap table. -/
def ncst_251 (S : Vec F S2048x2048 .f32) : F .f32 :=
  Scalar.ofBits .f32 0x00000000#32

/-- The value `v829`, from the overlap table. -/
def nv829 (S : Vec F S2048x2048 .f32) : FVec F S1x2048 .f32 :=
  k1_pay103 (F := F)

/-- The value `v834`, from the overlap table. -/
def nv834 (S : Vec F S2048x2048 .f32) : FVec F S1x2048 .f32 :=
  k1_pay106 (nv832 S) (nv833 S)

/-- The flags loop 2 ends with. -/
def nv843 (S : Vec F S2048x2048 .f32) : FVec F S1x128 .f32 :=
  st2 (nv828 S) S (k1_pay108 (nv829 S) (nv834 S) (ncst_251 S)) k1_t2_loop.trips

/-- A strip of the table, read back. -/
def nv844 (S : Vec F S2048x2048 .f32) : Vec F S128x2048 .f32 :=
  View.ld S (Rect.unit (s := S2048x2048) ![128, 0] S128x2048.size inb_S2048x2048_S128x2048_128_0)

/-- The flags loop 3 ends with. -/
def nv854 (S : Vec F S2048x2048 .f32) : FVec F S1x128 .f32 :=
  st3 (nv828 S) S (k1_pay111 (nv829 S) (nv834 S) (ncst_251 S) (nv843 S) (nv844 S)) k1_t3_loop.trips

/-- A strip of the table, read back. -/
def nv855 (S : Vec F S2048x2048 .f32) : Vec F S128x2048 .f32 :=
  View.ld S (Rect.unit (s := S2048x2048) ![256, 0] S128x2048.size inb_S2048x2048_S128x2048_256_0)

/-- The flags loop 4 ends with. -/
def nv865 (S : Vec F S2048x2048 .f32) : FVec F S1x128 .f32 :=
  st4 (nv828 S) S (k1_pay114 (nv829 S) (nv834 S) (ncst_251 S) (nv843 S) (nv844 S) (nv854 S) (nv855 S)) k1_t4_loop.trips

/-- A strip of the table, read back. -/
def nv866 (S : Vec F S2048x2048 .f32) : Vec F S128x2048 .f32 :=
  View.ld S (Rect.unit (s := S2048x2048) ![384, 0] S128x2048.size inb_S2048x2048_S128x2048_384_0)

/-- The value `v862`, from the overlap table. -/
def nv862 (S : Vec F S2048x2048 .f32) : FVec F S1x2048 .f32 :=
  k1_pay113 (nv829 S) (nv834 S) (ncst_251 S) (nv843 S) (nv844 S) (nv854 S) (nv855 S)

/-- The flags loop 5 ends with. -/
def nv876 (S : Vec F S2048x2048 .f32) : FVec F S1x128 .f32 :=
  st5 (nv828 S) S (k1_pay117 (nv862 S) (nv865 S) (nv866 S)) k1_t5_loop.trips

/-- A strip of the table, read back. -/
def nv877 (S : Vec F S2048x2048 .f32) : Vec F S128x2048 .f32 :=
  View.ld S (Rect.unit (s := S2048x2048) ![512, 0] S128x2048.size inb_S2048x2048_S128x2048_512_0)

/-- The flags loop 6 ends with. -/
def nv887 (S : Vec F S2048x2048 .f32) : FVec F S1x128 .f32 :=
  st6 (nv828 S) S (k1_pay120 (nv862 S) (nv865 S) (nv866 S) (nv876 S) (nv877 S)) k1_t6_loop.trips

/-- A strip of the table, read back. -/
def nv888 (S : Vec F S2048x2048 .f32) : Vec F S128x2048 .f32 :=
  View.ld S (Rect.unit (s := S2048x2048) ![640, 0] S128x2048.size inb_S2048x2048_S128x2048_640_0)

/-- The flags loop 7 ends with. -/
def nv898 (S : Vec F S2048x2048 .f32) : FVec F S1x128 .f32 :=
  st7 (nv828 S) S (k1_pay123 (nv862 S) (nv865 S) (nv866 S) (nv876 S) (nv877 S) (nv887 S) (nv888 S)) k1_t7_loop.trips

/-- The value `v895`, from the overlap table. -/
def nv895 (S : Vec F S2048x2048 .f32) : FVec F S1x2048 .f32 :=
  k1_pay122 (nv862 S) (nv865 S) (nv866 S) (nv876 S) (nv877 S) (nv887 S) (nv888 S)

/-- A strip of the table, read back. -/
def nv899 (S : Vec F S2048x2048 .f32) : Vec F S128x2048 .f32 :=
  View.ld S (Rect.unit (s := S2048x2048) ![768, 0] S128x2048.size inb_S2048x2048_S128x2048_768_0)

/-- The flags loop 8 ends with. -/
def nv909 (S : Vec F S2048x2048 .f32) : FVec F S1x128 .f32 :=
  st8 (nv828 S) S (k1_pay126 (nv895 S) (nv898 S) (nv899 S)) k1_t8_loop.trips

/-- A strip of the table, read back. -/
def nv910 (S : Vec F S2048x2048 .f32) : Vec F S128x2048 .f32 :=
  View.ld S (Rect.unit (s := S2048x2048) ![896, 0] S128x2048.size inb_S2048x2048_S128x2048_896_0)

/-- The flags loop 9 ends with. -/
def nv920 (S : Vec F S2048x2048 .f32) : FVec F S1x128 .f32 :=
  st9 (nv828 S) S (k1_pay129 (nv895 S) (nv898 S) (nv899 S) (nv909 S) (nv910 S)) k1_t9_loop.trips

/-- A strip of the table, read back. -/
def nv921 (S : Vec F S2048x2048 .f32) : Vec F S128x2048 .f32 :=
  View.ld S (Rect.unit (s := S2048x2048) ![1024, 0] S128x2048.size inb_S2048x2048_S128x2048_1024_0)

/-- The value `v928`, from the overlap table. -/
def nv928 (S : Vec F S2048x2048 .f32) : FVec F S1x2048 .f32 :=
  k1_pay131 (nv895 S) (nv898 S) (nv899 S) (nv909 S) (nv910 S) (nv920 S) (nv921 S)

/-- The value `v929`, from the overlap table. -/
def nv929 (S : Vec F S2048x2048 .f32) : FVec F S1x128 .f32 :=
  k1_pay132 (nv895 S) (nv898 S) (nv899 S) (nv909 S) (nv910 S) (nv920 S) (nv921 S)

/-- The value `c0_i32_334`, from the overlap table. -/
def nc0_i32_334 (S : Vec F S2048x2048 .f32) : BitVec 32 :=
  0#32

/-- The flags loop 10 ends with. -/
def nv931 (S : Vec F S2048x2048 .f32) : FVec F S1x128 .f32 :=
  st10 (nv828 S) (nc0_i32_334 S) S (nv929 S) k1_t10_loop.trips

/-- A strip of the table, read back. -/
def nv932 (S : Vec F S2048x2048 .f32) : Vec F S128x2048 .f32 :=
  View.ld S (Rect.unit (s := S2048x2048) ![1152, 0] S128x2048.size inb_S2048x2048_S128x2048_1152_0)

/-- The flags loop 11 ends with. -/
def nv942 (S : Vec F S2048x2048 .f32) : FVec F S1x128 .f32 :=
  st11 (nv828 S) S (k1_pay135 (nv928 S) (nv931 S) (nv932 S)) k1_t11_loop.trips

/-- A strip of the table, read back. -/
def nv943 (S : Vec F S2048x2048 .f32) : Vec F S128x2048 .f32 :=
  View.ld S (Rect.unit (s := S2048x2048) ![1280, 0] S128x2048.size inb_S2048x2048_S128x2048_1280_0)

/-- The flags loop 12 ends with. -/
def nv953 (S : Vec F S2048x2048 .f32) : FVec F S1x128 .f32 :=
  st12 (nv828 S) S (k1_pay138 (nv928 S) (nv931 S) (nv932 S) (nv942 S) (nv943 S)) k1_t12_loop.trips

/-- A strip of the table, read back. -/
def nv954 (S : Vec F S2048x2048 .f32) : Vec F S128x2048 .f32 :=
  View.ld S (Rect.unit (s := S2048x2048) ![1408, 0] S128x2048.size inb_S2048x2048_S128x2048_1408_0)

/-- The value `v961`, from the overlap table. -/
def nv961 (S : Vec F S2048x2048 .f32) : FVec F S1x2048 .f32 :=
  k1_pay140 (nv928 S) (nv931 S) (nv932 S) (nv942 S) (nv943 S) (nv953 S) (nv954 S)

/-- The value `v962`, from the overlap table. -/
def nv962 (S : Vec F S2048x2048 .f32) : FVec F S1x128 .f32 :=
  k1_pay141 (nv928 S) (nv931 S) (nv932 S) (nv942 S) (nv943 S) (nv953 S) (nv954 S)

/-- The flags loop 13 ends with. -/
def nv964 (S : Vec F S2048x2048 .f32) : FVec F S1x128 .f32 :=
  st13 (nv828 S) S (nv962 S) k1_t13_loop.trips

/-- A strip of the table, read back. -/
def nv965 (S : Vec F S2048x2048 .f32) : Vec F S128x2048 .f32 :=
  View.ld S (Rect.unit (s := S2048x2048) ![1536, 0] S128x2048.size inb_S2048x2048_S128x2048_1536_0)

/-- The flags loop 14 ends with. -/
def nv975 (S : Vec F S2048x2048 .f32) : FVec F S1x128 .f32 :=
  st14 (nv828 S) S (k1_pay144 (nv961 S) (nv964 S) (nv965 S)) k1_t14_loop.trips

/-- A strip of the table, read back. -/
def nv976 (S : Vec F S2048x2048 .f32) : Vec F S128x2048 .f32 :=
  View.ld S (Rect.unit (s := S2048x2048) ![1664, 0] S128x2048.size inb_S2048x2048_S128x2048_1664_0)

/-- The flags loop 15 ends with. -/
def nv986 (S : Vec F S2048x2048 .f32) : FVec F S1x128 .f32 :=
  st15 (nv828 S) S (k1_pay147 (nv961 S) (nv964 S) (nv965 S) (nv975 S) (nv976 S)) k1_t15_loop.trips

/-- A strip of the table, read back. -/
def nv987 (S : Vec F S2048x2048 .f32) : Vec F S128x2048 .f32 :=
  View.ld S (Rect.unit (s := S2048x2048) ![1792, 0] S128x2048.size inb_S2048x2048_S128x2048_1792_0)

/-- The value `v983`, from the overlap table. -/
def nv983 (S : Vec F S2048x2048 .f32) : FVec F S1x2048 .f32 :=
  k1_pay146 (nv961 S) (nv964 S) (nv965 S) (nv975 S) (nv976 S)

/-- The value `v990`, from the overlap table. -/
def nv990 (S : Vec F S2048x2048 .f32) : IVec S1x2048 1 :=
  k1_pay149 (nv986 S) (nv987 S)

/-- The value `v991`, from the overlap table. -/
def nv991 (S : Vec F S2048x2048 .f32) : FVec F S1x2048 .f32 :=
  k1_pay150 (F := F)

/-- The value `v992`, from the overlap table. -/
def nv992 (S : Vec F S2048x2048 .f32) : FVec F S1x2048 .f32 :=
  k1_pay151 (F := F)

/-- The flags loop 16 ends with. -/
def nv997 (S : Vec F S2048x2048 .f32) : FVec F S1x128 .f32 :=
  st16 (nv828 S) S (k1_pay153 (nv983 S) (nv990 S) (nv991 S) (nv992 S)) k1_t16_loop.trips

/-- A strip of the table, read back. -/
def nv998 (S : Vec F S2048x2048 .f32) : Vec F S128x2048 .f32 :=
  View.ld S (Rect.unit (s := S2048x2048) ![1920, 0] S128x2048.size inb_S2048x2048_S128x2048_1920_0)

/-- The value `v1017`, from the overlap table. -/
def nv1017 (S : Vec F S2048x2048 .f32) : F .f32 :=
  k1_pay158 (nv827 S) (nv983 S) (nv990 S) (nv991 S) (nv992 S) (nv997 S) (nv998 S)

/-- The value `v1018`, from the overlap table. -/
def nv1018 (S : Vec F S2048x2048 .f32) : FVec F S16x128 .f32 :=
  k1_pay159 (nv827 S) (nv983 S) (nv990 S) (nv991 S) (nv992 S) (nv997 S) (nv998 S)

/-- The value `v1019`, from the overlap table. -/
def nv1019 (S : Vec F S2048x2048 .f32) : FVec F S16x128 .f32 :=
  k1_pay160 (nv827 S) (nv983 S) (nv990 S) (nv991 S) (nv992 S) (nv997 S) (nv998 S)

/-- The value `v1025`, from the overlap table. -/
def nv1025 (S : Vec F S2048x2048 .f32) : FVec F S128x128 .f32 :=
  k1_pay161 (F := F)

/-- The value `v1031`, from the overlap table. -/
def nv1031 (S : Vec F S2048x2048 .f32) : FVec F S16x16 .f32 :=
  k1_pay162 (F := F)

/-- The value `v1032`, from the overlap table. -/
def nv1032 (S : Vec F S2048x2048 .f32) : FVec F S16x128 .f32 :=
  k1_pay163 (nv827 S) (nv983 S) (nv990 S) (nv991 S) (nv992 S) (nv997 S) (nv998 S)

/-- What the suppression body leaves in its result, from the table and the boxes with their scores. -/
def nmsVal (S : Vec F S2048x2048 .f32) (x0 : Vec F S2048x8 .f32) : Vec F S2048x8 .f32 :=
  k1_pay1 (k1_pay165 (nv1017 S) (nv1018 S) (nv1019 S) (nv1025 S) (nv1031 S) (nv1032 S)
    (View.ld x0 (Rect.unit (s := S2048x8) ![0, 0] S2048x8.size inb_S2048x8_S2048x8_0_0))) (k1_pay166 (nv1017 S)) (Scalar.ofBits .f32 0xCE6E6B28#32)

/-- The whole of the result's staging buffer. -/
abbrev rNms : Rect S2048x8 := (Rect.unit (s := S2048x8) ![0, 0] S2048x8.size inb_S2048x8_S2048x8_0_0)

/-- A store of the whole covers it. -/
theorem cover_nms (p : Vec F S2048x8 .f32) (y : S2048x8.Idx) :
    ∃ pc ∈ ([⟨rNms, p⟩] : List (View.Piece (Elt F) S2048x8 .f32)), y ∈ pc.1.set :=
  View.cover_of_tiled [⟨rNms, p⟩] S2048x8.size (by rfl) y

set_option maxHeartbeats 8000000 in
/-- The rest, run from the finished table. -/
theorem rest_run (c : Dev nD) (E : Set ℕ) (arg0 : Memref sig .tc .vmem S2048x8 .f32) (harg0 : arg0.IsWhole) (arg1 : Memref sig .tc .vmem S4x2048 .f32) (harg1 : arg1.IsWhole) (arg2 : Memref sig .tc .vmem S2048x8 .f32) (harg2 : arg2.IsWhole) (arg3 : Memref sig .tc .vmem S2048x2048 .f32) (harg3 : arg3.IsWhole) (r : (Σ' (v7 : FVec F S1x2048 .f32) (v10 : FVec F S1x2048 .f32) (v777 : FVec F S128x1 .f32) (v779 : FVec F S128x1 .f32) (v781 : FVec F S128x1 .f32) (v783 : FVec F S128x1 .f32) (v786 : FVec F S128x2048 .f32) (v789 : FVec F S128x2048 .f32) (v792 : FVec F S128x2048 .f32), FVec F S128x2048 .f32))
    (x0 : Vec F S2048x8 .f32) (S : Vec F S2048x2048 .f32) :
    (iprop(owns (c : Thread nD τ) arg0 fullShare x0 ∗ (∃ d, owns (c : Thread nD τ) arg2 fullShare d) ∗ owns (c : Thread nD τ) arg3 fullShare S) : sProp 𝕄)
      ⊢ wp frame (wpE (defs₀ (F := F)) Variants.none c none) E (nmsRest' (F := F) arg0 harg0 arg1 harg1 arg2 harg2 arg3 harg3 r)
          (fun _ => iprop(owns (c : Thread nD τ) arg0 fullShare x0 ∗ owns (c : Thread nD τ) arg2 fullShare (View.canon [⟨rNms, nmsVal S x0⟩])
            ∗ owns (c : Thread nD τ) arg3 fullShare S)) := by
  unfold nmsRest' nmsRest nmsFirst
  simp only [k1_part20_eq_skeleton, k1_part21_eq_skeleton, k1_part22_eq_skeleton, k1_part23_eq_skeleton, k1_part24_eq_skeleton, k1_part25_eq_skeleton, k1_part26_eq_skeleton]
  unfold owns
  iintro ⟨⟨%f0, %hf0, H0⟩, ⟨%d2, %f2, -, H2⟩, ⟨%f3, %hf3, H3⟩⟩
  subst hf0 hf3
  simp only [bind_assoc, pure_bind]
  sl_exec
  sl_step
  isplitl [H0]
  · iexists f0; isplitr; · ipureintro; rfl
    iexact H0
  isplitl [H2]
  · iexists _; isplitr
    swap; · iexact H2
    ipureintro
    refine (View.read_writes_eq_canon _ _ _ (cover_nms _)).trans ?_
    rfl
  iexists f3; isplitr; · ipureintro; rfl
  iexact H3

end Cert.KernelIdeal.Hand
-- ==== Proof.Run.Data.lean ====
module

public import proofs.«01_k».proof.Proof.Run.Dense
public import proofs.«01_k».proof.Proof.Run.Rest

/-! The proof data of the two regions and their bodies' obligations. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The suppression body, whole -/

/-- The suppression body, run. -/
theorem nms_run (c : Dev nD) (E : Set ℕ) (arg0 : Memref sig .tc .vmem S2048x8 .f32) (harg0 : arg0.IsWhole) (arg1 : Memref sig .tc .vmem S4x2048 .f32) (harg1 : arg1.IsWhole) (arg2 : Memref sig .tc .vmem S2048x8 .f32) (harg2 : arg2.IsWhole) (arg3 : Memref sig .tc .vmem S2048x2048 .f32) (harg3 : arg3.IsWhole)
    (x0 : Vec F S2048x8 .f32) (x1 : Vec F S4x2048 .f32) (K : PUnit → sProp 𝕄) :
    (iprop(owns (c : Thread nD τ) arg0 fullShare x0 ∗ owns (c : Thread nD τ) arg1 fullShare x1 ∗ (∃ d, owns (c : Thread nD τ) arg2 fullShare d) ∗ (∃ d, owns (c : Thread nD τ) arg3 fullShare d)
        ∗ (iprop(owns (c : Thread nD τ) arg0 fullShare x0 ∗ owns (c : Thread nD τ) arg1 fullShare x1 ∗ owns (c : Thread nD τ) arg2 fullShare (View.canon [⟨rNms, nmsVal (table x0 x1) x0⟩])
            ∗ (∃ d, owns (c : Thread nD τ) arg3 fullShare d)) -∗ K ⟨⟩)) : sProp 𝕄)
      ⊢ wp frame (wpE (defs₀ (F := F)) Variants.none c none) E (cc1__nms_body arg0 harg0 arg1 harg1 arg2 harg2 arg3 harg3) K := by
  rw [nms_split, wp_bind]
  iintro ⟨H0, H1, H2, H3, Hk⟩
  iapply (wp_wand_r frame (wpE (defs₀ (F := F)) Variants.none c none) E)
  isplitl [H0 H1 H3]
  · iapply (strips_run c E arg0 harg0 arg1 harg1 arg2 harg2 arg3 harg3 x0 x1)
    isplitl [H0]; · iexact H0
    isplitl [H1]; · iexact H1
    iexact H3
  iintro %r ⟨H0, H1, H3⟩
  iapply (wp_wand_r frame (wpE (defs₀ (F := F)) Variants.none c none) E)
  isplitl [H0 H2 H3]
  · iapply (rest_run c E arg0 harg0 arg1 harg1 arg2 harg2 arg3 harg3 r x0 (table x0 x1))
    isplitl [H0]; · iexact H0
    isplitl [H2]; · iexact H2
    iexact H3
  iintro %u ⟨H0, H2, H3⟩
  iapply Hk
  isplitl [H0]; · iexact H0
  isplitl [H1]; · iexact H1
  isplitl [H2]; · iexact H2
  iexists _; iexact H3

end Cert.KernelIdeal.Hand
-- ==== Proof.Run.Bodies.lean ====
module

public import proofs.«01_k».proof.Proof.Run.Data
public import proofs.«01_k».proof.Proof.Gen.KernelIdeal.Regions
public import Idealize.ShloMosaic.Lib.Pipeline.FrameTail
public import Idealize.ShloMosaic.Lib.Pipeline.RegionArraysS

/-! The two regions as segments of the run: what each enters with and leaves. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The dense region -/

/-- What window `w`'s block holds at the region's entry. -/
def blk0 (V : Valuation τ sig (Elt F)) (w : Fin cfg0.W) (t : Fin cfg0.N) : ((cfg0.win w).xblock (cfg0.grid.coords t)).Idx → Elt F (cfg0.win w).elt :=
  ((cfg0.win w).blk t).view.read (Elt F) (V (Proc.devRef .tc (Pipeline.arrRef spec0 w)))

/-- The region's data, entered at `V`. -/
def dat0 (V : Valuation τ sig (Elt F)) (c : Dev nD) : Dat τ (Elt F) Unit ℕ (UR sig nD τ) ℕ cfg0 c where
  A w := V (Proc.devRef .tc (Pipeline.arrRef spec0 w))
  after w t := match w with
    | ⟨0, _⟩ => blk0 V 0 t
    | ⟨1, _⟩ => blk0 V 1 t
    | ⟨2, _⟩ => blk0 V 2 t
    | ⟨3, _⟩ => blk0 V 3 t
    | ⟨4, _⟩ => blk0 V 4 t
    | ⟨5, _⟩ => blk0 V 5 t
    | ⟨6, _⟩ => blk0 V 6 t
    | ⟨7, _⟩ => View.canon [⟨rOut, val7 (blk0 V 0 t) (blk0 V 1 t) (blk0 V 2 t) (blk0 V 3 t) (blk0 V 4 t) (blk0 V 5 t) (blk0 V 6 t)⟩]
    | ⟨8, _⟩ => View.canon [⟨rOut, val8 (blk0 V 0 t) (blk0 V 1 t) (blk0 V 2 t) (blk0 V 3 t) (blk0 V 4 t) (blk0 V 5 t) (blk0 V 6 t)⟩]
    | ⟨9, _⟩ => View.canon [⟨rOut, val9 (blk0 V 0 t) (blk0 V 1 t) (blk0 V 2 t) (blk0 V 3 t) (blk0 V 4 t) (blk0 V 5 t) (blk0 V 6 t)⟩]
    | ⟨10, _⟩ => View.canon [⟨rOut, val10 (blk0 V 0 t) (blk0 V 1 t) (blk0 V 2 t) (blk0 V 3 t) (blk0 V 4 t) (blk0 V 5 t) (blk0 V 6 t)⟩]
    | ⟨11, _⟩ => View.canon [⟨rOut, val11 (blk0 V 0 t) (blk0 V 1 t) (blk0 V 2 t) (blk0 V 3 t) (blk0 V 4 t) (blk0 V 5 t) (blk0 V 6 t)⟩]
  Φ _ := Pipeline.scopedRest spec0 c
  q _ := fullShare
  owed _ := 0

theorem after0_0 (V : Valuation τ sig (Elt F)) (c : Dev nD) (t : Fin cfg0.N) : (dat0 V c).after 0 t = blk0 V 0 t := by dsimp only [dat0]
theorem after0_1 (V : Valuation τ sig (Elt F)) (c : Dev nD) (t : Fin cfg0.N) : (dat0 V c).after 1 t = blk0 V 1 t := by dsimp only [dat0]
theorem after0_2 (V : Valuation τ sig (Elt F)) (c : Dev nD) (t : Fin cfg0.N) : (dat0 V c).after 2 t = blk0 V 2 t := by dsimp only [dat0]
theorem after0_3 (V : Valuation τ sig (Elt F)) (c : Dev nD) (t : Fin cfg0.N) : (dat0 V c).after 3 t = blk0 V 3 t := by dsimp only [dat0]
theorem after0_4 (V : Valuation τ sig (Elt F)) (c : Dev nD) (t : Fin cfg0.N) : (dat0 V c).after 4 t = blk0 V 4 t := by dsimp only [dat0]
theorem after0_5 (V : Valuation τ sig (Elt F)) (c : Dev nD) (t : Fin cfg0.N) : (dat0 V c).after 5 t = blk0 V 5 t := by dsimp only [dat0]
theorem after0_6 (V : Valuation τ sig (Elt F)) (c : Dev nD) (t : Fin cfg0.N) : (dat0 V c).after 6 t = blk0 V 6 t := by dsimp only [dat0]
theorem after0_7 (V : Valuation τ sig (Elt F)) (c : Dev nD) (t : Fin cfg0.N) : (dat0 V c).after 7 t = View.canon [⟨rOut, val7 (blk0 V 0 t) (blk0 V 1 t) (blk0 V 2 t) (blk0 V 3 t) (blk0 V 4 t) (blk0 V 5 t) (blk0 V 6 t)⟩] := by dsimp only [dat0]
theorem after0_8 (V : Valuation τ sig (Elt F)) (c : Dev nD) (t : Fin cfg0.N) : (dat0 V c).after 8 t = View.canon [⟨rOut, val8 (blk0 V 0 t) (blk0 V 1 t) (blk0 V 2 t) (blk0 V 3 t) (blk0 V 4 t) (blk0 V 5 t) (blk0 V 6 t)⟩] := by dsimp only [dat0]
theorem after0_9 (V : Valuation τ sig (Elt F)) (c : Dev nD) (t : Fin cfg0.N) : (dat0 V c).after 9 t = View.canon [⟨rOut, val9 (blk0 V 0 t) (blk0 V 1 t) (blk0 V 2 t) (blk0 V 3 t) (blk0 V 4 t) (blk0 V 5 t) (blk0 V 6 t)⟩] := by dsimp only [dat0]
theorem after0_10 (V : Valuation τ sig (Elt F)) (c : Dev nD) (t : Fin cfg0.N) : (dat0 V c).after 10 t = View.canon [⟨rOut, val10 (blk0 V 0 t) (blk0 V 1 t) (blk0 V 2 t) (blk0 V 3 t) (blk0 V 4 t) (blk0 V 5 t) (blk0 V 6 t)⟩] := by dsimp only [dat0]
theorem after0_11 (V : Valuation τ sig (Elt F)) (c : Dev nD) (t : Fin cfg0.N) : (dat0 V c).after 11 t = View.canon [⟨rOut, val11 (blk0 V 0 t) (blk0 V 1 t) (blk0 V 2 t) (blk0 V 3 t) (blk0 V 4 t) (blk0 V 5 t) (blk0 V 6 t)⟩] := by dsimp only [dat0]
theorem before0_0 (V : Valuation τ sig (Elt F)) (c : Dev nD) (t : Fin cfg0.N) (d) : (dat0 V c).before 0 t d = blk0 V 0 t := by
  unfold Dat.before; rw [if_pos (fetch0_0 t)]; rfl
theorem before0_1 (V : Valuation τ sig (Elt F)) (c : Dev nD) (t : Fin cfg0.N) (d) : (dat0 V c).before 1 t d = blk0 V 1 t := by
  unfold Dat.before; rw [if_pos (fetch0_1 t)]; rfl
theorem before0_2 (V : Valuation τ sig (Elt F)) (c : Dev nD) (t : Fin cfg0.N) (d) : (dat0 V c).before 2 t d = blk0 V 2 t := by
  unfold Dat.before; rw [if_pos (fetch0_2 t)]; rfl
theorem before0_3 (V : Valuation τ sig (Elt F)) (c : Dev nD) (t : Fin cfg0.N) (d) : (dat0 V c).before 3 t d = blk0 V 3 t := by
  unfold Dat.before; rw [if_pos (fetch0_3 t)]; rfl
theorem before0_4 (V : Valuation τ sig (Elt F)) (c : Dev nD) (t : Fin cfg0.N) (d) : (dat0 V c).before 4 t d = blk0 V 4 t := by
  unfold Dat.before; rw [if_pos (fetch0_4 t)]; rfl
theorem before0_5 (V : Valuation τ sig (Elt F)) (c : Dev nD) (t : Fin cfg0.N) (d) : (dat0 V c).before 5 t d = blk0 V 5 t := by
  unfold Dat.before; rw [if_pos (fetch0_5 t)]; rfl
theorem before0_6 (V : Valuation τ sig (Elt F)) (c : Dev nD) (t : Fin cfg0.N) (d) : (dat0 V c).before 6 t d = blk0 V 6 t := by
  unfold Dat.before; rw [if_pos (fetch0_6 t)]; rfl
/-- What the body is called with. -/
def bodyPre0 (V : Valuation τ sig (Elt F)) (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d)))

/-- What it returns. -/
def bodyPost0 (V : Valuation τ sig (Elt F)) (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t))

set_option maxHeartbeats 2000000 in
/-- The body at the region's point. -/
theorem sound_body0 (V : Valuation τ sig (Elt F)) (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (dense_run c Set.univ _ _ _ _ _ _ _ _ _ _ _ _ _ _ _ _ _ _ _ _ _ _ _ _ (blk0 V 0 t) (blk0 V 1 t) (blk0 V 2 t) (blk0 V 3 t) (blk0 V 4 t) (blk0 V 5 t) (blk0 V 6 t))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body table's row at the region's point. -/
theorem defs₀_row0 (t : Fin cfg0.N) :
    defs₀ (F := F) .tc cfg0.body (cfg0.bodyArgs t (cfg0.slots t)) = bodyAt0 t := by
  obtain rfl := fin_N0 t
  unfold defs₀; rw [Defs.onTc_tc]

/-- The region's body obligation. -/
theorem body_obligation0 (V : Valuation τ sig (Elt F)) (c : Dev nD) :
    BodyObligation (dat0 V c) (defs₀ (F := F)) Variants.none () Set.univ := fun t => by
  rw [bigSep_W0, bigSep_W0, defs₀_row0]
  exact triple_restated (sound_body0 V c t) rfl .rfl fun _ => .rfl

/-! ## The suppression region -/

/-- What window `w`'s block holds at the region's entry. -/
def blk1 (V : Valuation τ sig (Elt F)) (w : Fin cfg1.W) (t : Fin cfg1.N) : ((cfg1.win w).xblock (cfg1.grid.coords t)).Idx → Elt F (cfg1.win w).elt :=
  ((cfg1.win w).blk t).view.read (Elt F) (V (Proc.devRef .tc (Pipeline.arrRef spec1 w)))

/-- The region's data, entered at `V`. -/
def dat1 (V : Valuation τ sig (Elt F)) (c : Dev nD) : Dat τ (Elt F) Unit ℕ (UR sig nD τ) ℕ cfg1 c where
  A w := V (Proc.devRef .tc (Pipeline.arrRef spec1 w))
  after w t := match w with
    | ⟨0, _⟩ => blk1 V 0 t
    | ⟨1, _⟩ => blk1 V 1 t
    | ⟨2, _⟩ => View.canon [⟨rNms, nmsVal (table (blk1 V 0 t) (blk1 V 1 t)) (blk1 V 0 t)⟩]
  Φ _ := Pipeline.scopedRest spec1 c
  q _ := fullShare
  owed _ := 0

theorem after1_0 (V : Valuation τ sig (Elt F)) (c : Dev nD) (t : Fin cfg1.N) : (dat1 V c).after 0 t = blk1 V 0 t := by dsimp only [dat1]
theorem after1_1 (V : Valuation τ sig (Elt F)) (c : Dev nD) (t : Fin cfg1.N) : (dat1 V c).after 1 t = blk1 V 1 t := by dsimp only [dat1]
theorem after1_2 (V : Valuation τ sig (Elt F)) (c : Dev nD) (t : Fin cfg1.N) : (dat1 V c).after 2 t = View.canon [⟨rNms, nmsVal (table (blk1 V 0 t) (blk1 V 1 t)) (blk1 V 0 t)⟩] := by dsimp only [dat1]
theorem before1_0 (V : Valuation τ sig (Elt F)) (c : Dev nD) (t : Fin cfg1.N) (d) : (dat1 V c).before 0 t d = blk1 V 0 t := by
  unfold Dat.before; rw [if_pos (fetch1_0 t)]; rfl
theorem before1_1 (V : Valuation τ sig (Elt F)) (c : Dev nD) (t : Fin cfg1.N) (d) : (dat1 V c).before 1 t d = blk1 V 1 t := by
  unfold Dat.before; rw [if_pos (fetch1_1 t)]; rfl
/-- What the body is called with. -/
def bodyPre1 (V : Valuation τ sig (Elt F)) (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- What it returns. -/
def bodyPost1 (V : Valuation τ sig (Elt F)) (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

set_option maxHeartbeats 2000000 in
/-- The body at the region's point. -/
theorem sound_body1 (V : Valuation τ sig (Elt F)) (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  rw [show (dat1 V c).Φ t.castSucc = Pipeline.scopedRest spec1 c from rfl, scopedRest1_eq]
  iintro ⟨⟨B0, B1, B2, B3, B4, B5, B6, B7, B8, B9, B10, B11, HS⟩, Ho, ⟨%d0, H0⟩, ⟨%d1, H1⟩, ⟨%d2, H2⟩⟩
  iapply (nms_run c Set.univ _ _ _ _ _ _ _ _ (blk1 V 0 t) (blk1 V 1 t))
  isplitl [H0]; · iexact H0
  isplitl [H1]; · iexact H1
  isplitl [H2]; · iexists _; iexact H2
  isplitl [HS]; · icases HS with ⟨%fs, HS⟩; iexists fs; rw [owns_whole]; iexact HS
  iintro ⟨H0, H1, H2, ⟨%ds, HS⟩⟩
  isplitl [B0 B1 B2 B3 B4 B5 B6 B7 B8 B9 B10 B11 HS]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    iexists ds; rw [owns_whole]; exact .rfl
  isplitl [Ho]; · iexact Ho
  isplitl [H0]; · iexact H0
  isplitl [H1]; · iexact H1
  iexact H2

/-- The body table's row at the region's point. -/
theorem defs₀_row1 (t : Fin cfg1.N) :
    defs₀ (F := F) .tc cfg1.body (cfg1.bodyArgs t (cfg1.slots t)) = bodyAt1 t := by
  obtain rfl := fin_N1 t
  unfold defs₀; rw [Defs.onTc_tc]

/-- The region's body obligation. -/
theorem body_obligation1 (V : Valuation τ sig (Elt F)) (c : Dev nD) :
    BodyObligation (dat1 V c) (defs₀ (F := F)) Variants.none () Set.univ := fun t => by
  rw [bigSep_W1, bigSep_W1, defs₀_row1]
  exact triple_restated (sound_body1 V c t) rfl .rfl fun _ => .rfl

end Cert.KernelIdeal.Hand
-- ==== Proof.Run.Segments.lean ====
module

public import proofs.«01_k».proof.Proof.Run.Bodies
public import proofs.«01_k».proof.Proof.Gen.KernelIdeal.Regions
public import Idealize.ShloMosaic.Lib.Pipeline.FrameTail
public import Idealize.ShloMosaic.Lib.Pipeline.RegionArraysS

/-! The two regions as segments of the run, and the run of the whole program with the value of its result. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- What the dense region leaves, buffer by buffer. -/
def outs0 : Outs (F := F) := fun _ r c => Pipeline.afterRegion (dat0 (V23 m c) c) (V23 m c) r

/-- What the two regions leave, buffer by buffer: the dense one at the twenty-fourth state, the suppression one after. -/
def outs : Outs (F := F) := fun J r c => match J with
  | 24 => Pipeline.afterRegion (dat0 (V23 m c) c) (V23 m c) r
  | _ => Pipeline.afterRegion (dat1 (V27 m (outs0 m) c) c) (V27 m (outs0 m) c) r

/-- The state the suppression region enters does not depend on what that region leaves. -/
theorem V27_outs (c : Dev nD) : V27 m (outs m) c = V27 m (outs0 m) c := rfl

/-- The data of the two regions. -/
def pdats : (p : Fin 2) → (c : Dev nD) → Dat τ (Elt F) Unit ℕ (UR sig nD τ) ℕ (cfgs p) c
  | ⟨0, _⟩, c => dat0 (V23 m c) c
  | ⟨1, _⟩, c => dat1 (V27 m (outs0 m) c) c

/-- The levels: one index at every counter of a TensorCore. -/
def lvs (g : GSem nD τ sig) : Finset Unit := if g.1.2 = .tc then {()} else ∅

/-- Nothing is owed, so every wait is allowed. -/
theorem cut (p : Fin 2) : Pipeline.LevelCut (pcfgs (F := F)) adm () lvs (fun _ _ => (0 : ℕ)) p (fun _ => (0 : CellTallies nD τ sig Unit)) (fun _ => 0) where
  hι c w s := by unfold lvs; rw [if_pos rfl]; exact Finset.mem_singleton_self _
  hιb _ _ _ := le_rfl
  hD _ _ _ h := absurd h (lt_irrefl _)

/-- What rides beside the buffers: the core owing nothing. -/
def rest (c : Dev nD) : sProp 𝕄 :=
  iprop((∃ Wd, owes (c : Thread nD τ) (0 : CellTallies nD τ sig Unit) Wd) ∗ emp ∗ emp)

set_option backward.isDefEq.respectTransparency.types false in
theorem hin0 (c : Dev nD) : iprop(Pipeline.scopedRest (Pipeline.pin (pcfgs (F := F)) adm 0).spec c ∗ emp) ⊢ (pdats m 0 c).Φ 0 := by
  show iprop(Pipeline.scopedRest spec0 c ∗ emp) ⊢ (Pipeline.scopedRest spec0 c : sProp 𝕄)
  iintro ⟨H, -⟩
  iexact H

set_option backward.isDefEq.respectTransparency.types false in
theorem hout0 (c : Dev nD) : (pdats m 0 c).Φ (Fin.last (Pipeline.pin (pcfgs (F := F)) adm 0).N) ⊢ iprop(Pipeline.scopedRest (Pipeline.pin (pcfgs (F := F)) adm 0).spec c ∗ emp) := by
  show (Pipeline.scopedRest spec0 c : sProp 𝕄) ⊢ iprop(Pipeline.scopedRest spec0 c ∗ emp)
  iintro H
  isplitl [H]
  · iexact H
  · iempintro

set_option backward.isDefEq.respectTransparency.types false in
/-- The dense region's segment. -/
def reg0 : Pipeline.RegionSeg (pcfgs (F := F)) adm (pdats m) () defs₀ Variants.none lvs (fun _ _ => (0 : ℕ)) 0 :=
  Pipeline.RegionSeg.ofHeldIn (pcfgs (F := F)) adm (pdats m) () defs₀ Variants.none lvs (fun _ _ => (0 : ℕ)) 0 (fun _ => 0)
    (Pipeline.ucRefs τ sig) (fun _ => iprop(emp)) (fun _ => iprop(emp)) launch0.toP rfl
    (fun c => (body_obligation0 (V23 m c) c).loose) (fun _ _ => rfl) (fun _ => rfl)
    (fun c w => (pdats m 0 c).share_full (fun _ => rfl) w)
    (hin0 m) (hout0 m) (fun _ => 0) (cut 0) (fun _ => iprop(emp)) (fun c => V23 m c) (fun _ _ => rfl)

set_option backward.isDefEq.respectTransparency.types false in
theorem hin1 (c : Dev nD) : iprop(Pipeline.scopedRest (Pipeline.pin (pcfgs (F := F)) adm 1).spec c ∗ emp) ⊢ (pdats m 1 c).Φ 0 := by
  show iprop(Pipeline.scopedRest spec1 c ∗ emp) ⊢ (Pipeline.scopedRest spec1 c : sProp 𝕄)
  iintro ⟨H, -⟩
  iexact H

set_option backward.isDefEq.respectTransparency.types false in
theorem hout1 (c : Dev nD) : (pdats m 1 c).Φ (Fin.last (Pipeline.pin (pcfgs (F := F)) adm 1).N) ⊢ iprop(Pipeline.scopedRest (Pipeline.pin (pcfgs (F := F)) adm 1).spec c ∗ emp) := by
  show (Pipeline.scopedRest spec1 c : sProp 𝕄) ⊢ iprop(Pipeline.scopedRest spec1 c ∗ emp)
  iintro H
  isplitl [H]
  · iexact H
  · iempintro

set_option backward.isDefEq.respectTransparency.types false in
/-- The suppression region's segment. -/
def reg1 : Pipeline.RegionSeg (pcfgs (F := F)) adm (pdats m) () defs₀ Variants.none lvs (fun _ _ => (0 : ℕ)) 1 :=
  Pipeline.RegionSeg.ofHeldIn (pcfgs (F := F)) adm (pdats m) () defs₀ Variants.none lvs (fun _ _ => (0 : ℕ)) 1 (fun _ => 0)
    (Pipeline.ucRefs τ sig) (fun _ => iprop(emp)) (fun _ => iprop(emp)) launch1.toP rfl
    (fun c => (body_obligation1 (V27 m (outs0 m) c) c).loose) (fun _ _ => rfl) (fun _ => rfl)
    (fun c w => (pdats m 1 c).share_full (fun _ => rfl) w)
    (hin1 m) (hout1 m) (fun _ => 0) (cut 1) (fun _ => iprop(emp)) (fun c => V27 m (outs0 m) c) (fun _ _ => rfl)

set_option backward.isDefEq.respectTransparency.types false in
/-- What the dense region leaves is the state the program goes on from. -/
theorem after0 (c : Dev nD) (r : Ref sig .tc) :
    Pipeline.afterRegion (pdats m 0 c) (V23 m c) (Proc.devRef .tc r) = V24 m (outs m) c (Proc.devRef .tc r) := by
  have hne : ∀ r' : Ref sig .tc, r ≠ r' → (Proc.devRef .tc r : DevRef τ sig) ≠ Proc.devRef .tc r' :=
    fun r' h e => h (Proc.devRef_injective _ e)
  unfold V24
  by_cases h4 : r = main_v28_4
  · subst h4
    rw [Function.update_self]
    rfl
  by_cases h3 : r = main_v28_3
  · subst h3
    rw [Function.update_of_ne (by decide), Function.update_self]
    rfl
  by_cases h2 : r = main_v28_2
  · subst h2
    rw [Function.update_of_ne (by decide), Function.update_of_ne (by decide), Function.update_self]
    rfl
  by_cases h1 : r = main_v28_1
  · subst h1
    rw [Function.update_of_ne (by decide), Function.update_of_ne (by decide), Function.update_of_ne (by decide), Function.update_self]
    rfl
  by_cases h0 : r = main_v28_0
  · subst h0
    rw [Function.update_of_ne (by decide), Function.update_of_ne (by decide), Function.update_of_ne (by decide), Function.update_of_ne (by decide), Function.update_self]
    rfl
  rw [Function.update_of_ne (hne _ h4), Function.update_of_ne (hne _ h3), Function.update_of_ne (hne _ h2), Function.update_of_ne (hne _ h1), Function.update_of_ne (hne _ h0)]
  refine Pipeline.afterRegion_keeps (pdats m 0 c) (V23 m c) winFacts0.arr_inj (fun _ => rfl) r ?_
  intro w hw
  match w, hw with
  | ⟨0, _⟩, hw => rfl
  | ⟨1, _⟩, hw => rfl
  | ⟨2, _⟩, hw => rfl
  | ⟨3, _⟩, hw => rfl
  | ⟨4, _⟩, hw => rfl
  | ⟨5, _⟩, hw => rfl
  | ⟨6, _⟩, hw => rfl
  | ⟨7, _⟩, hw => exact absurd hw.symm h0
  | ⟨8, _⟩, hw => exact absurd hw.symm h1
  | ⟨9, _⟩, hw => exact absurd hw.symm h2
  | ⟨10, _⟩, hw => exact absurd hw.symm h3
  | ⟨11, _⟩, hw => exact absurd hw.symm h4

set_option backward.isDefEq.respectTransparency.types false in
/-- What the suppression region leaves is the state the program goes on from. -/
theorem after1 (c : Dev nD) (r : Ref sig .tc) :
    Pipeline.afterRegion (pdats m 1 c) (V27 m (outs0 m) c) (Proc.devRef .tc r) = V28 m (outs m) c (Proc.devRef .tc r) := by
  have hne : ∀ r' : Ref sig .tc, r ≠ r' → (Proc.devRef .tc r : DevRef τ sig) ≠ Proc.devRef .tc r' :=
    fun r' h e => h (Proc.devRef_injective _ e)
  unfold V28
  by_cases h0 : r = main_v49
  · subst h0
    rw [Function.update_self]
    rfl
  rw [Function.update_of_ne (hne _ h0), V27_outs]
  refine Pipeline.afterRegion_keeps (pdats m 1 c) (V27 m (outs0 m) c) winFacts1.arr_inj (fun _ => rfl) r ?_
  intro w hw
  match w, hw with
  | ⟨0, _⟩, hw => rfl
  | ⟨1, _⟩, hw => rfl
  | ⟨2, _⟩, hw => exact absurd hw.symm h0

/-- A held buffer is some reference of the TensorCore. -/
theorem held_eq (c : Dev nD) (V V' : Valuation τ sig (Elt F)) (h : ∀ r : Ref sig .tc, V (Proc.devRef .tc r) = V' (Proc.devRef .tc r)) :
    (StableHlo.held (c : Thread nD τ) (Pipeline.ucRefs τ sig) V : sProp 𝕄) = StableHlo.held (c : Thread nD τ) (Pipeline.ucRefs τ sig) V' :=
  StableHlo.held_congr (c : Thread nD τ) fun b hb => by
    obtain ⟨r, -, rfl⟩ := Finset.mem_map.mp (Finset.mem_filter.mp hb).1
    exact h r

set_option backward.isDefEq.respectTransparency.types false in
theorem reg0_pre (c : Dev nD) : iprop(StableHlo.held (c : Thread nD τ) (Pipeline.ucRefs τ sig) (V23 m c) ∗ rest (F := F) c) ⊢ (reg0 m).pre c :=
  Pipeline.RegionSeg.ofHeldIn_pre (pcs := pcfgs (F := F)) (a := adm) (pdats := pdats m) (ι := ()) (defs₀ := defs₀) (𝒱₀ := Variants.none) (L := lvs) (lv := fun _ _ => (0 : ℕ)) (p := 0) (D := fun _ => 0)
    (Pipeline.arrRefs_sub_ucRefs spec0 launch0.win.arr_unscoped) (X := fun _ => iprop(emp)) (Y := fun _ => iprop(emp)) (kit := launch0.toP) (hK := rfl)
    (hbody := fun c => (body_obligation0 (V23 m c) c).loose) (howed := fun _ _ => rfl) (hrec := fun _ => rfl) (hshare := fun c w => (pdats m 0 c).share_full (fun _ => rfl) w)
    (hin := hin0 m) (hout := hout0 m) (b := fun _ => 0) (hcut := cut 0) (R := fun _ => iprop(emp)) (W := fun c => V23 m c) (hW := fun _ _ => rfl) c

set_option backward.isDefEq.respectTransparency.types false in
theorem reg0_post (c : Dev nD) : (reg0 m).post c ⊢ iprop(StableHlo.held (c : Thread nD τ) (Pipeline.ucRefs τ sig) (V24 m (outs m) c) ∗ rest (F := F) c) := by
  rw [← held_eq c _ _ (after0 m c)]
  exact Pipeline.RegionSeg.ofHeldIn_post (pcs := pcfgs (F := F)) (a := adm) (pdats := pdats m) (ι := ()) (defs₀ := defs₀) (𝒱₀ := Variants.none) (L := lvs) (lv := fun _ _ => (0 : ℕ)) (p := 0) (D := fun _ => 0)
    (Pipeline.arrRefs_sub_ucRefs spec0 launch0.win.arr_unscoped) (X := fun _ => iprop(emp)) (Y := fun _ => iprop(emp)) (kit := launch0.toP) (hK := rfl)
    (hbody := fun c => (body_obligation0 (V23 m c) c).loose) (howed := fun _ _ => rfl) (hrec := fun _ => rfl) (hshare := fun c w => (pdats m 0 c).share_full (fun _ => rfl) w)
    (hin := hin0 m) (hout := hout0 m) (b := fun _ => 0) (hcut := cut 0) (R := fun _ => iprop(emp)) (W := fun c => V23 m c) (hW := fun _ _ => rfl) c

set_option backward.isDefEq.respectTransparency.types false in
theorem reg1_pre (c : Dev nD) : iprop(StableHlo.held (c : Thread nD τ) (Pipeline.ucRefs τ sig) (V27 m (outs m) c) ∗ rest (F := F) c) ⊢ (reg1 m).pre c :=
  Pipeline.RegionSeg.ofHeldIn_pre (pcs := pcfgs (F := F)) (a := adm) (pdats := pdats m) (ι := ()) (defs₀ := defs₀) (𝒱₀ := Variants.none) (L := lvs) (lv := fun _ _ => (0 : ℕ)) (p := 1) (D := fun _ => 0)
    (Pipeline.arrRefs_sub_ucRefs spec1 launch1.win.arr_unscoped) (X := fun _ => iprop(emp)) (Y := fun _ => iprop(emp)) (kit := launch1.toP) (hK := rfl)
    (hbody := fun c => (body_obligation1 (V27 m (outs0 m) c) c).loose) (howed := fun _ _ => rfl) (hrec := fun _ => rfl) (hshare := fun c w => (pdats m 1 c).share_full (fun _ => rfl) w)
    (hin := hin1 m) (hout := hout1 m) (b := fun _ => 0) (hcut := cut 1) (R := fun _ => iprop(emp)) (W := fun c => V27 m (outs0 m) c) (hW := fun _ _ => rfl) c

set_option backward.isDefEq.respectTransparency.types false in
theorem reg1_post (c : Dev nD) : (reg1 m).post c ⊢ iprop(StableHlo.held (c : Thread nD τ) (Pipeline.ucRefs τ sig) (V28 m (outs m) c) ∗ rest (F := F) c) := by
  rw [← held_eq c _ _ (after1 m c)]
  exact Pipeline.RegionSeg.ofHeldIn_post (pcs := pcfgs (F := F)) (a := adm) (pdats := pdats m) (ι := ()) (defs₀ := defs₀) (𝒱₀ := Variants.none) (L := lvs) (lv := fun _ _ => (0 : ℕ)) (p := 1) (D := fun _ => 0)
    (Pipeline.arrRefs_sub_ucRefs spec1 launch1.win.arr_unscoped) (X := fun _ => iprop(emp)) (Y := fun _ => iprop(emp)) (kit := launch1.toP) (hK := rfl)
    (hbody := fun c => (body_obligation1 (V27 m (outs0 m) c) c).loose) (howed := fun _ _ => rfl) (hrec := fun _ => rfl) (hshare := fun c w => (pdats m 1 c).share_full (fun _ => rfl) w)
    (hin := hin1 m) (hout := hout1 m) (b := fun _ => 0) (hcut := cut 1) (R := fun _ => iprop(emp)) (W := fun c => V27 m (outs0 m) c) (hW := fun _ _ => rfl) c

end Cert.KernelIdeal.Hand
-- ==== Proof.Run.Total.lean ====
module

public import proofs.«01_k».proof.Proof.Run.Segments
public import proofs.«01_k».proof.Proof.Gen.KernelIdeal.Regions
public import Idealize.ShloMosaic.Lib.Pipeline.FrameTail
public import Idealize.ShloMosaic.Lib.Pipeline.RegionArraysS

/-! The run of the whole program: the arguments stay, the counters end at zero, and the result is what the last state says. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Every host stretch runs beside the core owing nothing. -/
def rests (_ : Fin 3) (c : Dev nD) : sProp 𝕄 := rest c

/-- What a core must show at the end: its arguments as launched, and the result at the last state. -/
def ends (c : Dev nD) (s : MemSt nD τ sig (Elt F)) : Prop :=
  s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6)
    ∧ s.mem ((c.tc : Thread nD τ).loc main_v50) = V29 m (outs m) c (Proc.devRef .tc main_v50)

theorem launch_rest (c : Dev nD) (ρ : Dev nD → PrngReg) :
    iprop(unscopedSems0 c ∗ owes (c : Thread nD τ) (0 : CellTallies nD τ sig Unit) ∅ ∗ Pipeline.launchCred (fun _ => 0) c ∗ prngReg c (ρ c) ∗ emp) ⊢ (rest (F := F) c : sProp 𝕄) := by
  unfold rest
  iintro ⟨-, HO, -, -, -⟩
  isplitl [HO]
  · iexists ∅
    iexact HO
  isplitr
  · iempintro
  iempintro

theorem launch_rests (ρ : Dev nD → PrngReg) :
    iprop((bigSep Finset.univ fun c : Dev nD => iprop(unscopedSems0 c ∗ owes (c : Thread nD τ) (0 : CellTallies nD τ sig Unit) ∅ ∗ Pipeline.launchCred (fun _ => 0) c ∗ prngReg c (ρ c) ∗ emp)) ∗ levAts lvs (fun _ _ => (0 : ℕ))) ⊢ (|={Set.univ}=> bigSep Finset.univ (rests (F := F) 0) : sProp 𝕄) := by
  have h : (bigSep Finset.univ fun c : Dev nD => iprop(unscopedSems0 c ∗ owes (c : Thread nD τ) (0 : CellTallies nD τ sig Unit) ∅ ∗ Pipeline.launchCred (fun _ => 0) c ∗ prngReg c (ρ c) ∗ emp)) ⊢ (bigSep Finset.univ (rests (F := F) 0) : sProp 𝕄) :=
    bigSep_mono fun c _ => launch_rest c ρ
  iintro ⟨H, -⟩
  imodintro
  ihave H' := h $$ H
  iexact H'

theorem rests_end (c : Dev nD) : rests (F := F) 2 c ⊢ (iprop(∃ W, owes (c : Thread nD τ) (0 : CellTallies nD τ sig Unit) W) : sProp 𝕄) := by
  unfold rests rest
  iintro ⟨H, -, -⟩
  iexact H

theorem launch_ghost :
    (ownU (initOf (Pipeline.cells (cfgs) cellOf_inj) (Pipeline.launchToks (cfgs) cellOf_inj) : UR sig nD τ) : sProp 𝕄)
      ⊢ |={Set.univ}=> iprop(BI.own (emb₁ (initOf (Pipeline.cells (cfgs) cellOf_inj) (Pipeline.launchToks (cfgs) cellOf_inj))) ∗ bigSep Finset.univ (fun _ : Dev nD => (BI.emp : sProp 𝕄))) := by
  iintro Hu
  imodintro
  isplitl [Hu]
  · iapply (show (ownU _ : sProp 𝕄) ⊢ BI.own (emb₁ (initOf (Pipeline.cells (cfgs) cellOf_inj) (Pipeline.launchToks (cfgs) cellOf_inj))) from .rfl)
    iexact Hu
  iapply (show (BI.emp : sProp 𝕄) ⊢ bigSep Finset.univ (fun _ : Dev nD => (BI.emp : sProp 𝕄)) from by rw [BI.bigSep_emp_const])
  iempintro

set_option maxHeartbeats 1000000 in
set_option backward.isDefEq.respectTransparency.types false in
/-- Every run ends with the arguments as launched, every counter at zero, and the result as the last state says. -/
theorem run_total (ρ : Dev nD → PrngReg) :
    θ_run defs (onTc (τ := τ) (main (F := F))) ⟨m, fun _ => 0, ρ⟩ (fun r => (∀ c : Dev nD, ends m c r.2) ∧ r.2.sem = fun _ => 0) := by
  refine Pipeline.θ_run_regions_kit_dev_sems (pcfgs (F := F)) adm (pdats m) () cellOf_inj emb₁ defs₀ Variants.none lvs (fun _ _ => (0 : ℕ)) m ρ main
    (segs m (outs m) Variants.none lvs (fun _ _ => (0 : ℕ)) rests () (pdats m) (reg0 m) (reg1 m))
    (fun c Q => by
      rewrite [main_chain c, Pipeline.Seg.run_eq_chain,
        show (segs m (outs m) Variants.none lvs (fun _ _ => (0 : ℕ)) rests () (pdats m) (reg0 m) (reg1 m) c).map Pipeline.Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          StableHlo.seq hostOps0_10,
          StableHlo.seq hostOps0_11,
          StableHlo.seq hostOps0_12,
          StableHlo.seq hostOps0_13,
          StableHlo.seq hostOps0_14,
          StableHlo.seq hostOps0_15,
          StableHlo.seq hostOps0_16,
          StableHlo.seq hostOps0_17,
          StableHlo.seq hostOps0_18,
          StableHlo.seq hostOps0_19,
          StableHlo.seq hostOps0_20,
          StableHlo.seq hostOps0_21,
          StableHlo.seq hostOps0_22,
          Prog.lift (.customCall (Pipeline.entry 0) ()),
          StableHlo.seq hostOps1,
          StableHlo.seq hostOps1_1,
          StableHlo.seq hostOps1_2,
          Prog.lift (.customCall (Pipeline.entry 1) ()),
          StableHlo.seq hostOps2 ] from rfl]
      dsimp (config := { failIfUnchanged := false }) only
      exact .rfl)
    (fun c => by simp only [segs, Pipeline.Seg.pipes_host, Pipeline.Seg.pipes_region, Pipeline.Seg.pipes_nil]; decide) (fun _ => 0)
    (fun g hg => if_neg hg) (fun _ => (BI.emp : sProp 𝕄)) (initOf (Pipeline.cells cfgs cellOf_inj) (Pipeline.launchToks cfgs cellOf_inj)) launch_ghost
    (T₀ := fun c => iprop(StableHlo.held (c : Thread nD τ) (Pipeline.ucRefs τ sig) (V0 m c) ∗ rests 0 c))
    (Tₙ := fun c => StableHlo.held (c : Thread nD τ) (Pipeline.ucRefs τ sig) (V29 m (outs m) c))
    (hch := fun c => ⟨.rfl, .rfl, .rfl, .rfl, .rfl, .rfl, .rfl, .rfl, .rfl, .rfl, .rfl, .rfl, .rfl, .rfl, .rfl, .rfl, .rfl, .rfl, .rfl, .rfl, .rfl, .rfl, .rfl, reg0_pre m c, reg0_post m c, .rfl, .rfl, reg1_pre m c, reg1_post m c, sep_mono .rfl (rests_end c)⟩)
    (hinit := ?_) (QY := ends m) (hfin := fun c s' => ?_) (hQ := fun _ h hz => ⟨h, funext fun g => hz g (.inr (regions_no_unscoped g.2))⟩)
  · have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ emp))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (0 : CellTallies nD τ sig Unit) ∅ ∗ Pipeline.launchCred (fun _ => 0) c ∗ prngReg c (ρ c) ∗ emp))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (launch_rests ρ) $$ [Hr Hla] with HE
    · isplitl [Hr]; · iexact Hr
      iexact Hla
    imodintro
    rw [bigSep_sep']
    isplitl [Hh]; · iexact Hh
    iexact HE
  · unfold StableHlo.held
    iintro ⟨Hh, HSI⟩
    ihave Hr := (pointsTo_read_all (Pipeline.ucRefs τ sig) (fun b => ((c : Thread nD τ).1, b)) (V29 m (outs m) c) s') $$ [Hh HSI]
    · isplitl [Hh] <;> iassumption
    icases Hr with ⟨%h, HSI⟩
    imodintro
    isplitr
    · ipureintro
      have hr : ∀ b : Ref sig .tc, ¬ ((Proc.devRef .tc b : DevRef τ sig).isScoped = true) → s'.mem.mem ((c.tc : Thread nD τ).loc b) = V29 m (outs m) c (Proc.devRef .tc b) :=
        fun b hb => h (Proc.devRef .tc b) (Finset.mem_filter.mpr ⟨StableHlo.devRef_mem_tcRefs b, hb⟩)
      exact ⟨(hr main_arg0 (by decide)).trans (V29_main_arg0 m (outs m) c), (hr main_arg1 (by decide)).trans (V29_main_arg1 m (outs m) c), (hr main_arg2 (by decide)).trans (V29_main_arg2 m (outs m) c), (hr main_arg3 (by decide)).trans (V29_main_arg3 m (outs m) c), (hr main_arg4 (by decide)).trans (V29_main_arg4 m (outs m) c), (hr main_arg5 (by decide)).trans (V29_main_arg5 m (outs m) c), (hr main_arg6 (by decide)).trans (V29_main_arg6 m (outs m) c), hr main_v50 (by decide)⟩
    · iexact HSI

end Cert.KernelIdeal.Hand
-- ==== Proof.Ref.Frame.lean ====
/- The run of the reference: every buffer ends at the fold of its operations, the arguments stay. -/
module

public import proofs.«01_k».proof.Proof.Gen.ReferenceIdeal.Run

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe Idealize.SL.Sem Idealize.ShloMosaic.StableHlo

variable {F : FTy → Type} [FloatOps F]
variable (m : (ℓ : Loc nD τ sig) → Buf (Elt F) ℓ)

/-- The program has no semaphore. -/
theorem no_sem : ∀ sm : SemLoc sig, False := by decide

/-- What the stretches after the loop write. -/
abbrev last_W : List (Ref sig .tc) := [main_cst_21, main_call6_v0, main_call6_v1, main_v200, main_values_22, main_indices_23, main_c_24, main_v201, main_v202, main_c_25, main_v203, main_v204, main_v205, main_v206, main_v207, main_v208, main_v209]

theorem last_writes : (hostOps0_11 ++ (hostOps0_12 ++ hostOps0_13) : List (HloOp τ sig (Elt F))).Forall fun op => op.writes ⊆ (last_W.map (Proc.devRef (τ := τ) .tc)).toFinset :=
  StableHlo.forall_writes_sub_of_map rfl

/-- A buffer no operation before the loop writes keeps its contents up to the loop. -/
theorem entry_keep (V : Valuation τ sig (Elt F)) (r : Ref sig .tc)
    (h : r ∉ hostOps0_W ++ (hostOps0_1_W ++ (hostOps0_2_W ++ (hostOps0_3_W ++ (hostOps0_4_W ++ (hostOps0_5_W ++ (hostOps0_6_W ++ (hostOps0_7_W ++ (hostOps0_8_W ++ (hostOps0_9_W ++ (hostOps0_10_W))))))))))) :
    afterL preI V (Proc.devRef .tc r) = V (Proc.devRef .tc r) := by
  simp only [List.mem_append, not_or] at h
  obtain ⟨h0, h1, h2, h3, h4, h5, h6, h7, h8, h9, h10⟩ := h
  simp only [afterL_cons, afterL_nil]
  rw [after_of_writes_sub hostOps0_10 _ hostOps0_10_writes h10, after_of_writes_sub hostOps0_9 _ hostOps0_9_writes h9, after_of_writes_sub hostOps0_8 _ hostOps0_8_writes h8, after_of_writes_sub hostOps0_7 _ hostOps0_7_writes h7, after_of_writes_sub hostOps0_6 _ hostOps0_6_writes h6, after_of_writes_sub hostOps0_5 _ hostOps0_5_writes h5, after_of_writes_sub hostOps0_4 _ hostOps0_4_writes h4, after_of_writes_sub hostOps0_3 _ hostOps0_3_writes h3, after_of_writes_sub hostOps0_2 _ hostOps0_2_writes h2, after_of_writes_sub hostOps0_1 _ hostOps0_1_writes h1, after_of_writes_sub hostOps0 _ hostOps0_writes h0]

/-- A buffer the loop's trips do not write keeps its contents through a trip. -/
theorem trip_keep (V : Valuation τ sig (Elt F)) (r : Ref sig .tc) (h : r ∉ condOps_W ++ (while0Ops0_W ++ (while0Ops0_1_W ++ while0Ops0_2_W))) :
    afterL bodyI (after condOps V) (Proc.devRef .tc r) = V (Proc.devRef .tc r) := by
  simp only [List.mem_append, not_or] at h
  obtain ⟨h0, h1, h2, h3⟩ := h
  simp only [afterL_cons, afterL_nil]
  rw [after_of_writes_sub while0Ops0_2 _ while0Ops0_2_writes h3, after_of_writes_sub while0Ops0_1 _ while0Ops0_1_writes h2, after_of_writes_sub while0Ops0 _ while0Ops0_writes h1, after_of_writes_sub condOps _ condOps_writes h0]

/-- And through every trip and the last condition. -/
theorem loop_keep (W : Dev nD → Valuation τ sig (Elt F)) (c : Dev nD) (r : Ref sig .tc) (h : r ∉ condOps_W ++ (while0Ops0_W ++ (while0Ops0_1_W ++ while0Ops0_2_W))) :
    ∀ k, atTrip condOps bodyI W k c (Proc.devRef .tc r) = W c (Proc.devRef .tc r)
  | 0 => rfl
  | k + 1 => by rw [atTrip_succ, trip_keep _ r h, loop_keep W c r h k]

/-- The contents after the loop. -/
def atEnd (c : Dev nD) : Valuation τ sig (Elt F) := after condOps (atTrip condOps bodyI (entryContents preI m) 2000 c)

theorem atEnd_keep (c : Dev nD) (r : Ref sig .tc) (h : r ∉ condOps_W ++ (while0Ops0_W ++ (while0Ops0_1_W ++ while0Ops0_2_W))) :
    atEnd m c (Proc.devRef .tc r) = entryContents preI m c (Proc.devRef .tc r) := by
  unfold atEnd
  rw [after_of_writes_sub condOps _ condOps_writes (fun h' => h (List.mem_append_left _ h')), loop_keep _ _ _ h]

/-- The contents at the end. -/
def final (c : Dev nD) : Valuation τ sig (Elt F) := after (hostOps0_11 ++ (hostOps0_12 ++ hostOps0_13)) (atEnd m c)

theorem final_eq (c : Dev nD) : finalContents condOps preI bodyI postI 2000 m c = final m c := by
  unfold final
  rw [after_append, after_append]
  rfl

theorem final_arg (c : Dev nD) (r : Ref sig .tc) (h : r ∉ last_W) (h' : r ∉ condOps_W ++ (while0Ops0_W ++ (while0Ops0_1_W ++ while0Ops0_2_W)))
    (h'' : r ∉ hostOps0_W ++ (hostOps0_1_W ++ (hostOps0_2_W ++ (hostOps0_3_W ++ (hostOps0_4_W ++ (hostOps0_5_W ++ (hostOps0_6_W ++ (hostOps0_7_W ++ (hostOps0_8_W ++ (hostOps0_9_W ++ (hostOps0_10_W))))))))))) :
    final m c (Proc.devRef .tc r) = m ((c.tc : Thread nD τ).loc r) := by
  unfold final
  rw [after_of_writes_sub _ _ last_writes h, atEnd_keep m c r h', entryContents, entry_keep _ r h'']

/-- Every run ends with the arguments as launched, every counter at zero, and the result as the last contents say. -/
theorem run_total (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6)
      ∧ r.2.mem ((c.tc : Thread nD τ).loc main_v209) = final m c (Proc.devRef .tc main_v209)) ∧ r.2.sem = fun _ => 0) := by
  refine (θ_run _ _ _).mono ?_ (run_fold m ρ)
  intro r h
  refine ⟨fun c => ⟨?_, ?_, ?_, ?_, ?_, ?_, ?_, ?_⟩, funext fun g => (no_sem g.2).elim⟩
  · exact (h c main_arg0 (by decide)).trans ((congrFun (final_eq m c) _).trans (final_arg m c main_arg0 (by decide +kernel) (by decide +kernel) (by decide +kernel)))
  · exact (h c main_arg1 (by decide)).trans ((congrFun (final_eq m c) _).trans (final_arg m c main_arg1 (by decide +kernel) (by decide +kernel) (by decide +kernel)))
  · exact (h c main_arg2 (by decide)).trans ((congrFun (final_eq m c) _).trans (final_arg m c main_arg2 (by decide +kernel) (by decide +kernel) (by decide +kernel)))
  · exact (h c main_arg3 (by decide)).trans ((congrFun (final_eq m c) _).trans (final_arg m c main_arg3 (by decide +kernel) (by decide +kernel) (by decide +kernel)))
  · exact (h c main_arg4 (by decide)).trans ((congrFun (final_eq m c) _).trans (final_arg m c main_arg4 (by decide +kernel) (by decide +kernel) (by decide +kernel)))
  · exact (h c main_arg5 (by decide)).trans ((congrFun (final_eq m c) _).trans (final_arg m c main_arg5 (by decide +kernel) (by decide +kernel) (by decide +kernel)))
  · exact (h c main_arg6 (by decide)).trans ((congrFun (final_eq m c) _).trans (final_arg m c main_arg6 (by decide +kernel) (by decide +kernel) (by decide +kernel)))
  · exact (h c main_v209 (by decide)).trans (congrFun (final_eq m c) _)

end Cert.ReferenceIdeal.Hand
-- ==== Proof.Value.Spec.lean ====
/- The detector's numbers, element by element: what both programs compute before suppression, written over plain functions. -/
module
public import Idealize.ShloMosaic.PureOps.Ideal
@[expose] public section
noncomputable section
namespace Cert.Spec
open Idealize.ShloMosaic

/-- The feature map with a border of one zero on every side. -/
def padded (A : Fin 50 → Fin 50 → Fin 256 → EReal) (r s : ℕ) (k : Fin 256) : EReal :=
  if h : (1 ≤ r ∧ r - 1 < 50) ∧ 1 ≤ s ∧ s - 1 < 50 then A ⟨r - 1, h.1.2⟩ ⟨s - 1, h.2.2⟩ k
  else FloatOps.sitofp (F := Ideal) .f32 0#32

/-- One tap of the convolution, at row `r` and column `s` of the padded map. -/
def tap (P : ℕ → ℕ → Fin 256 → EReal) (W : Fin 9 → Fin 256 → Fin 256 → EReal) (t : Fin 9) (r s : ℕ) (d : Fin 256) : EReal :=
  ∑ k, P r s k * W t k d

/-- The hidden layer: nine taps, a bias, and the positive part. -/
def feat (P : ℕ → ℕ → Fin 256 → EReal) (W : Fin 9 → Fin 256 → Fin 256 → EReal) (b : Fin 256 → EReal) (y x : ℕ) (d : Fin 256) : EReal :=
  max (tap P W 0 y x d + tap P W 1 y (1 + x) d + tap P W 2 y (2 + x) d
    + tap P W 3 (1 + y) x d + tap P W 4 (1 + y) (1 + x) d + tap P W 5 (1 + y) (2 + x) d
    + tap P W 6 (2 + y) x d + tap P W 7 (2 + y) (1 + x) d + tap P W 8 (2 + y) (2 + x) d + b d) 0

/-- One output column of a head: a product with the hidden layer plus a bias. -/
def head (P : ℕ → ℕ → Fin 256 → EReal) (W : Fin 9 → Fin 256 → Fin 256 → EReal) (b : Fin 256 → EReal) (h : Fin 256 → EReal) (c : EReal) (y x : ℕ) : EReal :=
  ∑ d, feat P W b y x d * h d + c

/-- The anchor's centre along one axis: the cell number times the stride. -/
def centre (n : ℕ) : EReal := FloatOps.sitofp (F := Ideal) .f32 (BitVec.ofNat 32 n) * Ideal.ofBits .f32 1098907648#32

/-- Half the decoded extent of a box along one axis. -/
def extent (l w : EReal) : EReal := Ideal.ofBits .f32 1056964608#32 * (Ideal.exp (min l (Ideal.ofBits .f32 1082413897#32)) * w)

/-- The lower edge of a decoded box, clipped to the image. -/
def lo (d l w s : EReal) : EReal := min (Ideal.ofBits .f32 1145569280#32) (max 0 (d * w + s - extent l w))

/-- The upper edge of a decoded box, clipped to the image. -/
def hi (d l w s : EReal) : EReal := min (Ideal.ofBits .f32 1145569280#32) (max 0 (d * w + s + extent l w))

end Cert.Spec
-- ==== Proof.Value.Dense.lean ====
/- The dense call read at an index. -/
module

public import proofs.«01_k».proof.Proof.Run.Dense
public import Idealize.ShloMosaic.Lib.Pointwise
public import proofs.«01_k».proof.Proof.Value.Spec

@[expose] public section

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem

variable (x0 : FVec Ideal S2704x256 .f32) (x1 : FVec Ideal S9x256x256 .f32) (x2 : FVec Ideal S1x256 .f32) (x3 : FVec Ideal S256x80 .f32) (x4 : FVec Ideal S1x80 .f32) (x5 : FVec Ideal S1x16 .f32) (x6 : FVec Ideal S1x16 .f32)

/-- The kernel's word for a cell's column: the remainder by fifty. -/
theorem hpx (p : Fin 2500) : Scalar.select
                  (IntOp.andi
                    (IntOp.xori
                      (IntOp.cmpi CmpIPredicate.slt
                        (IntOp.remsi ArithUnit.vector (BitVec.ofNat 32 ↑p)
                          (Scalar.select (Scalar.cmpi CmpIPredicate.eq 50#32 0#32) 1#32 50#32))
                        0#32)
                      (Scalar.cmpi CmpIPredicate.slt
                        (Scalar.select (Scalar.cmpi CmpIPredicate.eq 50#32 0#32) 1#32 50#32) 0#32))
                    (IntOp.cmpi CmpIPredicate.ne
                      (IntOp.remsi ArithUnit.vector (BitVec.ofNat 32 ↑p)
                        (Scalar.select (Scalar.cmpi CmpIPredicate.eq 50#32 0#32) 1#32 50#32))
                      0#32))
                  (IntOp.addi
                    (IntOp.remsi ArithUnit.vector (BitVec.ofNat 32 ↑p)
                      (Scalar.select (Scalar.cmpi CmpIPredicate.eq 50#32 0#32) 1#32 50#32))
                    (Scalar.select (Scalar.cmpi CmpIPredicate.eq 50#32 0#32) 1#32 50#32))
                  (IntOp.remsi ArithUnit.vector (BitVec.ofNat 32 ↑p)
                    (Scalar.select (Scalar.cmpi CmpIPredicate.eq 50#32 0#32) 1#32 50#32)) = BitVec.ofNat 32 (p.val % 50) := by
  revert p
  decide +kernel

/-- The kernel's word for a cell's row: the quotient by fifty. -/
theorem hpy (p : Fin 2500) : Scalar.select
                  (IntOp.andi
                    (IntOp.cmpi CmpIPredicate.ne
                      (IntOp.subi (BitVec.setWidth 32 (IntOp.cmpi CmpIPredicate.sgt (BitVec.ofNat 32 ↑p) 0#32))
                        (BitVec.setWidth 32 (IntOp.cmpi CmpIPredicate.slt (BitVec.ofNat 32 ↑p) 0#32)))
                      (Scalar.subi (Scalar.extui (Scalar.cmpi CmpIPredicate.sgt 50#32 0#32))
                        (Scalar.extui (Scalar.cmpi CmpIPredicate.slt 50#32 0#32))))
                    (IntOp.cmpi CmpIPredicate.ne (IntOp.remsi ArithUnit.vector (BitVec.ofNat 32 ↑p) 50#32) 0#32))
                  (IntOp.subi (IntOp.divsi ArithUnit.vector (BitVec.ofNat 32 ↑p) 50#32) 1#32)
                  (IntOp.divsi ArithUnit.vector (BitVec.ofNat 32 ↑p) 50#32) = BitVec.ofNat 32 (p.val / 50) := by
  revert p
  decide +kernel

/-- The heads' columns at a cell, over any reading of the padded map by row and column. -/
theorem heads_at (P : ℕ → ℕ → Fin 256 → EReal) (hP : ∀ (e : ℕ) (h : e < 2704) (k : Fin 256), x0 (ix2 ⟨e, h⟩ k) = P (e / 52) (e % 52) k)
    (p : Fin 2500) (a : Fin 80) : heads (F := Ideal) x0 x1 x2 x3 x4 x5 x6 (ix2 p a) =
      Spec.head P (fun t k d => x1 (ix3 t k d)) (fun d => x2 (ix2 0 d)) (fun d => x3 (ix2 d a)) (x4 (ix2 0 a)) (p.val / 50) (p.val % 50) := by
  have e0 : (p.val / 50 * 52 + p.val % 50) / 52 = p.val / 50 := by omega
  have f0 : (p.val / 50 * 52 + p.val % 50) % 52 = p.val % 50 := by omega
  have e1 : (p.val / 50 * 52 + (1 + p.val % 50)) / 52 = p.val / 50 := by omega
  have f1 : (p.val / 50 * 52 + (1 + p.val % 50)) % 52 = 1 + p.val % 50 := by omega
  have e2 : (p.val / 50 * 52 + (2 + p.val % 50)) / 52 = p.val / 50 := by omega
  have f2 : (p.val / 50 * 52 + (2 + p.val % 50)) % 52 = 2 + p.val % 50 := by omega
  have e3 : ((1 + p.val / 50) * 52 + p.val % 50) / 52 = 1 + p.val / 50 := by omega
  have f3 : ((1 + p.val / 50) * 52 + p.val % 50) % 52 = p.val % 50 := by omega
  have e4 : ((1 + p.val / 50) * 52 + (1 + p.val % 50)) / 52 = 1 + p.val / 50 := by omega
  have f4 : ((1 + p.val / 50) * 52 + (1 + p.val % 50)) % 52 = 1 + p.val % 50 := by omega
  have e5 : ((1 + p.val / 50) * 52 + (2 + p.val % 50)) / 52 = 1 + p.val / 50 := by omega
  have f5 : ((1 + p.val / 50) * 52 + (2 + p.val % 50)) % 52 = 2 + p.val % 50 := by omega
  have e6 : ((2 + p.val / 50) * 52 + p.val % 50) / 52 = 2 + p.val / 50 := by omega
  have f6 : ((2 + p.val / 50) * 52 + p.val % 50) % 52 = p.val % 50 := by omega
  have e7 : ((2 + p.val / 50) * 52 + (1 + p.val % 50)) / 52 = 2 + p.val / 50 := by omega
  have f7 : ((2 + p.val / 50) * 52 + (1 + p.val % 50)) % 52 = 1 + p.val % 50 := by omega
  have e8 : ((2 + p.val / 50) * 52 + (2 + p.val % 50)) / 52 = 2 + p.val / 50 := by omega
  have f8 : ((2 + p.val / 50) * 52 + (2 + p.val % 50)) % 52 = 2 + p.val % 50 := by omega
  pointwise [heads, k0_pay5, k0_pay3, acc5, k0_pay4, aX, aB, aH, aHb, tap0, tap1, tap2, tap3, tap4, tap5, tap6, tap7, tap8]
  simp only [hP, e0, f0, e1, f1, e2, f2, e3, f3, e4, f4, e5, f5, e6, f6, e7, f7, e8, f8]
  rfl

/-- What the region's first output holds: the heads' first fifteen columns. -/
theorem val7_at (p : Fin 2500) (a : Fin 15) : val7 (F := Ideal) x0 x1 x2 x3 x4 x5 x6 (ix2 p ⟨a.val, by omega⟩) =
    heads (F := Ideal) x0 x1 x2 x3 x4 x5 x6 (ix2 p ⟨a.val, by omega⟩) := by
  have hS : hScore (F := Ideal) x0 x1 x2 x3 x4 x5 x6 = extractStridedSlice S2500x16 ![0, 0] (heads (F := Ideal) x0 x1 x2 x3 x4 x5 x6) slices_S2500x80_o0_0_S2500x16 := rfl
  rw [val7, hS]
  generalize heads (F := Ideal) x0 x1 x2 x3 x4 x5 x6 = H
  pointwise [k0_pay19]

/-- What the region's output val8 holds at a cell and an anchor. -/
theorem val8_at (p : Fin 2500) (a : Fin 15) : val8 (F := Ideal) x0 x1 x2 x3 x4 x5 x6 (ix2 p ⟨a.val, by omega⟩) =
    Spec.lo (heads (F := Ideal) x0 x1 x2 x3 x4 x5 x6 (ix2 p ⟨16 + a.val, by omega⟩)) (heads (F := Ideal) x0 x1 x2 x3 x4 x5 x6 (ix2 p ⟨48 + a.val, by omega⟩)) (x5 (ix2 0 ⟨a.val, by omega⟩)) (Spec.centre (p.val % 50)) := by
  have hD : hDx (F := Ideal) x0 x1 x2 x3 x4 x5 x6 = extractStridedSlice S2500x16 ![0, 16] (heads (F := Ideal) x0 x1 x2 x3 x4 x5 x6) slices_S2500x80_o0_16_S2500x16 := rfl
  rw [val8]
  try rw [hD]
  generalize heads (F := Ideal) x0 x1 x2 x3 x4 x5 x6 = H
  pointwise [k0_pay20, k0_pay11, k0_pay9, k0_pay15, k0_pay17, k0_pay1, aW]
  rw [hpx]
  rfl

/-- What the region's output val9 holds at a cell and an anchor. -/
theorem val9_at (p : Fin 2500) (a : Fin 15) : val9 (F := Ideal) x0 x1 x2 x3 x4 x5 x6 (ix2 p ⟨a.val, by omega⟩) =
    Spec.lo (heads (F := Ideal) x0 x1 x2 x3 x4 x5 x6 (ix2 p ⟨32 + a.val, by omega⟩)) (heads (F := Ideal) x0 x1 x2 x3 x4 x5 x6 (ix2 p ⟨64 + a.val, by omega⟩)) (x6 (ix2 0 ⟨a.val, by omega⟩)) (Spec.centre (p.val / 50)) := by
  have hD : hDx (F := Ideal) x0 x1 x2 x3 x4 x5 x6 = extractStridedSlice S2500x16 ![0, 16] (heads (F := Ideal) x0 x1 x2 x3 x4 x5 x6) slices_S2500x80_o0_16_S2500x16 := rfl
  rw [val9]
  try rw [hD]
  generalize heads (F := Ideal) x0 x1 x2 x3 x4 x5 x6 = H
  pointwise [k0_pay21, k0_pay2, k0_pay8, k0_pay12, k0_pay13, k0_pay14, k0_pay10, k0_pay16, k0_pay18, aHt]
  rw [hpy]
  rfl

/-- What the region's output val10 holds at a cell and an anchor. -/
theorem val10_at (p : Fin 2500) (a : Fin 15) : val10 (F := Ideal) x0 x1 x2 x3 x4 x5 x6 (ix2 p ⟨a.val, by omega⟩) =
    Spec.hi (heads (F := Ideal) x0 x1 x2 x3 x4 x5 x6 (ix2 p ⟨16 + a.val, by omega⟩)) (heads (F := Ideal) x0 x1 x2 x3 x4 x5 x6 (ix2 p ⟨48 + a.val, by omega⟩)) (x5 (ix2 0 ⟨a.val, by omega⟩)) (Spec.centre (p.val % 50)) := by
  have hD : hDx (F := Ideal) x0 x1 x2 x3 x4 x5 x6 = extractStridedSlice S2500x16 ![0, 16] (heads (F := Ideal) x0 x1 x2 x3 x4 x5 x6) slices_S2500x80_o0_16_S2500x16 := rfl
  rw [val10]
  try rw [hD]
  generalize heads (F := Ideal) x0 x1 x2 x3 x4 x5 x6 = H
  pointwise [k0_pay20, k0_pay11, k0_pay9, k0_pay15, k0_pay17, k0_pay1, aW]
  rw [hpx]
  rfl

/-- What the region's output val11 holds at a cell and an anchor. -/
theorem val11_at (p : Fin 2500) (a : Fin 15) : val11 (F := Ideal) x0 x1 x2 x3 x4 x5 x6 (ix2 p ⟨a.val, by omega⟩) =
    Spec.hi (heads (F := Ideal) x0 x1 x2 x3 x4 x5 x6 (ix2 p ⟨32 + a.val, by omega⟩)) (heads (F := Ideal) x0 x1 x2 x3 x4 x5 x6 (ix2 p ⟨64 + a.val, by omega⟩)) (x6 (ix2 0 ⟨a.val, by omega⟩)) (Spec.centre (p.val / 50)) := by
  have hD : hDx (F := Ideal) x0 x1 x2 x3 x4 x5 x6 = extractStridedSlice S2500x16 ![0, 16] (heads (F := Ideal) x0 x1 x2 x3 x4 x5 x6) slices_S2500x80_o0_16_S2500x16 := rfl
  rw [val11]
  try rw [hD]
  generalize heads (F := Ideal) x0 x1 x2 x3 x4 x5 x6 = H
  pointwise [k0_pay21, k0_pay2, k0_pay8, k0_pay12, k0_pay13, k0_pay14, k0_pay10, k0_pay16, k0_pay18, aHt]
  rw [hpy]
  rfl

end Cert.KernelIdeal.Val
-- ==== Proof.Value.Operands.lean ====
/- What the kernel's host operations leave before the dense call. -/
module

public import proofs.«01_k».proof.Proof.Run.Segments
public import Idealize.ShloMosaic.Lib.Pointwise
public import Idealize.ShloMosaic.Lib.StableHlo.ReadAt
public import proofs.«01_k».proof.Proof.Value.Spec

@[expose] public section

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem Idealize.ShloMosaic.StableHlo

variable (m : (ℓ : Loc nD τ sig) → Buf (Elt Ideal) ℓ) (c : Dev nD)

/-- The padded map, the taps, the bias, of the arguments. -/
def P : ℕ → ℕ → Fin 256 → EReal := Spec.padded (fun y x k => (V0 m c (Proc.devRef .tc main_arg0) : FVec Ideal S1x50x50x256 .f32) (ix4 0 y x k))
def W : Fin 9 → Fin 256 → Fin 256 → EReal := fun t k d => (V0 m c (Proc.devRef .tc main_arg1) : FVec Ideal S3x3x256x256 .f32) (ix4 ⟨t.val / 3, by omega⟩ ⟨t.val % 3, by omega⟩ k d)
def B : Fin 256 → EReal := fun d => (V0 m c (Proc.devRef .tc main_arg2) : FVec Ideal S256 .f32) (ix1 d)

theorem v2_at (e : ℕ) (he : e < 2704) (k : Fin 256) : (V23 m c (Proc.devRef .tc main_v2) : FVec Ideal S2704x256 .f32) (ix2 ⟨e, he⟩ k) = P m c (e / 52) (e % 52) k := by
  after_reads_at
  pointwise
  rfl
theorem v3_at (t : Fin 9) (k d : Fin 256) : (V23 m c (Proc.devRef .tc main_v3) : FVec Ideal S9x256x256 .f32) (ix3 t k d) = W m c t k d := by
  after_reads_at
  pointwise
  rfl
theorem v4_at (d : Fin 256) : (V23 m c (Proc.devRef .tc main_v4) : FVec Ideal S1x256 .f32) (ix2 0 d) = B m c d := by
  after_reads_at
  pointwise
  rfl
theorem cst_at (a : Fin 16) : (V23 m c (Proc.devRef .tc main_cst) : FVec Ideal S1x16 .f32) (ix2 0 a) = Ideal.ofBits .f32 (lit0 (S1x16.rowMajor (ix2 0 a))) := by
  after_reads_at
  try pointwise
  try rfl
theorem cst_0_at (a : Fin 16) : (V23 m c (Proc.devRef .tc main_cst_0) : FVec Ideal S1x16 .f32) (ix2 0 a) = Ideal.ofBits .f32 (lit1 (S1x16.rowMajor (ix2 0 a))) := by
  after_reads_at
  try pointwise
  try rfl

theorem v25_at0 (d : Fin 256) (a : Fin 15) : (V23 m c (Proc.devRef .tc main_v25) : FVec Ideal S256x80 .f32) (ix2 d ⟨a.val, by omega⟩) = (V0 m c (Proc.devRef .tc main_arg3) : FVec Ideal S1x1x256x15 .f32) (ix4 0 0 d a) := by
  after_reads_at
  try pointwise
  after_reads_at
  try pointwise
  split_ifs <;> first | (exfalso; omega) | skip
  all_goals first | rfl | idx_ext | (refine congrArg _ ?_; idx_ext)

theorem v27_at0 (a : Fin 15) : (V23 m c (Proc.devRef .tc main_v27) : FVec Ideal S1x80 .f32) (ix2 0 ⟨a.val, by omega⟩) = (V0 m c (Proc.devRef .tc main_arg4) : FVec Ideal S15 .f32) (ix1 a) := by
  after_reads_at
  try pointwise
  after_reads_at
  try pointwise
  split_ifs <;> first | (exfalso; omega) | skip
  all_goals first | rfl | idx_ext | (refine congrArg _ ?_; idx_ext)

theorem v25_at16 (d : Fin 256) (a : Fin 15) : (V23 m c (Proc.devRef .tc main_v25) : FVec Ideal S256x80 .f32) (ix2 d ⟨16 + a.val, by omega⟩) = (V0 m c (Proc.devRef .tc main_arg5) : FVec Ideal S1x1x256x60 .f32) (ix4 0 0 d ⟨a.val * 4 + 0, by omega⟩) := by
  after_reads_at
  try pointwise
  after_reads_at
  try pointwise
  split_ifs <;> first | (exfalso; omega) | skip
  all_goals first | rfl | idx_ext | (refine congrArg _ ?_; idx_ext)

theorem v27_at16 (a : Fin 15) : (V23 m c (Proc.devRef .tc main_v27) : FVec Ideal S1x80 .f32) (ix2 0 ⟨16 + a.val, by omega⟩) = (V0 m c (Proc.devRef .tc main_arg6) : FVec Ideal S60 .f32) (ix1 ⟨a.val * 4 + 0, by omega⟩) := by
  after_reads_at
  try pointwise
  after_reads_at
  try pointwise
  split_ifs <;> first | (exfalso; omega) | skip
  all_goals first | rfl | idx_ext | (refine congrArg _ ?_; idx_ext)

end Cert.KernelIdeal.Val
-- ==== Proof.Value.Columns.lean ====
/- What the kernel's host operations leave before the dense call. -/
module

public import proofs.«01_k».proof.Proof.Run.Segments
public import Idealize.ShloMosaic.Lib.Pointwise
public import Idealize.ShloMosaic.Lib.StableHlo.ReadAt
public import proofs.«01_k».proof.Proof.Value.Spec

@[expose] public section

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem Idealize.ShloMosaic.StableHlo

variable (m : (ℓ : Loc nD τ sig) → Buf (Elt Ideal) ℓ) (c : Dev nD)

theorem v25_at32 (d : Fin 256) (a : Fin 15) : (V23 m c (Proc.devRef .tc main_v25) : FVec Ideal S256x80 .f32) (ix2 d ⟨32 + a.val, by omega⟩) = (V0 m c (Proc.devRef .tc main_arg5) : FVec Ideal S1x1x256x60 .f32) (ix4 0 0 d ⟨a.val * 4 + 1, by omega⟩) := by
  after_reads_at
  try pointwise
  after_reads_at
  try pointwise
  split_ifs <;> first | (exfalso; omega) | skip
  all_goals first | rfl | idx_ext | (refine congrArg _ ?_; idx_ext)

theorem v27_at32 (a : Fin 15) : (V23 m c (Proc.devRef .tc main_v27) : FVec Ideal S1x80 .f32) (ix2 0 ⟨32 + a.val, by omega⟩) = (V0 m c (Proc.devRef .tc main_arg6) : FVec Ideal S60 .f32) (ix1 ⟨a.val * 4 + 1, by omega⟩) := by
  after_reads_at
  try pointwise
  after_reads_at
  try pointwise
  split_ifs <;> first | (exfalso; omega) | skip
  all_goals first | rfl | idx_ext | (refine congrArg _ ?_; idx_ext)

theorem v25_at48 (d : Fin 256) (a : Fin 15) : (V23 m c (Proc.devRef .tc main_v25) : FVec Ideal S256x80 .f32) (ix2 d ⟨48 + a.val, by omega⟩) = (V0 m c (Proc.devRef .tc main_arg5) : FVec Ideal S1x1x256x60 .f32) (ix4 0 0 d ⟨a.val * 4 + 2, by omega⟩) := by
  after_reads_at
  try pointwise
  after_reads_at
  try pointwise
  split_ifs <;> first | (exfalso; omega) | skip
  all_goals first | rfl | idx_ext | (refine congrArg _ ?_; idx_ext)

theorem v27_at48 (a : Fin 15) : (V23 m c (Proc.devRef .tc main_v27) : FVec Ideal S1x80 .f32) (ix2 0 ⟨48 + a.val, by omega⟩) = (V0 m c (Proc.devRef .tc main_arg6) : FVec Ideal S60 .f32) (ix1 ⟨a.val * 4 + 2, by omega⟩) := by
  after_reads_at
  try pointwise
  after_reads_at
  try pointwise
  split_ifs <;> first | (exfalso; omega) | skip
  all_goals first | rfl | idx_ext | (refine congrArg _ ?_; idx_ext)

theorem v25_at64 (d : Fin 256) (a : Fin 15) : (V23 m c (Proc.devRef .tc main_v25) : FVec Ideal S256x80 .f32) (ix2 d ⟨64 + a.val, by omega⟩) = (V0 m c (Proc.devRef .tc main_arg5) : FVec Ideal S1x1x256x60 .f32) (ix4 0 0 d ⟨a.val * 4 + 3, by omega⟩) := by
  after_reads_at
  try pointwise
  after_reads_at
  try pointwise
  split_ifs <;> first | (exfalso; omega) | skip
  all_goals first | rfl | idx_ext | (refine congrArg _ ?_; idx_ext)

theorem v27_at64 (a : Fin 15) : (V23 m c (Proc.devRef .tc main_v27) : FVec Ideal S1x80 .f32) (ix2 0 ⟨64 + a.val, by omega⟩) = (V0 m c (Proc.devRef .tc main_arg6) : FVec Ideal S60 .f32) (ix1 ⟨a.val * 4 + 3, by omega⟩) := by
  after_reads_at
  try pointwise
  after_reads_at
  try pointwise
  split_ifs <;> first | (exfalso; omega) | skip
  all_goals first | rfl | idx_ext | (refine congrArg _ ?_; idx_ext)

end Cert.KernelIdeal.Val
-- ==== Proof.Value.Region0.lean ====
/- What the dense call leaves in its output arrays. -/
module

public import proofs.«01_k».proof.Proof.Run.Segments
public import Idealize.ShloMosaic.Lib.Pointwise
public import Idealize.ShloMosaic.Lib.StableHlo.ReadAt
public import Idealize.ShloMosaic.Lib.Pipeline.ValueKit

@[expose] public section

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (c : Dev nD)

/-- The one grid point. -/
abbrev t0 : Fin cfg0.N := ⟨0, by decide⟩

theorem blk0_0 (V : Valuation τ sig (Elt Ideal)) (t : Fin cfg0.N) : blk0 V 0 t = V (Proc.devRef .tc main_v2) := by
  obtain rfl : t = t0 := by decide +revert
  have h0 : win0_0.index t0 0 = 0 := by decide +kernel
  have h1 : win0_0.index t0 1 = 0 := by decide +kernel
  blk_ext! [blk0, h0, h1]

theorem blk0_1 (V : Valuation τ sig (Elt Ideal)) (t : Fin cfg0.N) : blk0 V 1 t = V (Proc.devRef .tc main_v3) := by
  obtain rfl : t = t0 := by decide +revert
  have h0 : win0_1.index t0 0 = 0 := by decide +kernel
  have h1 : win0_1.index t0 1 = 0 := by decide +kernel
  have h2 : win0_1.index t0 2 = 0 := by decide +kernel
  blk_ext! [blk0, h0, h1, h2]

theorem blk0_2 (V : Valuation τ sig (Elt Ideal)) (t : Fin cfg0.N) : blk0 V 2 t = V (Proc.devRef .tc main_v4) := by
  obtain rfl : t = t0 := by decide +revert
  have h0 : win0_2.index t0 0 = 0 := by decide +kernel
  have h1 : win0_2.index t0 1 = 0 := by decide +kernel
  blk_ext! [blk0, h0, h1]

theorem blk0_3 (V : Valuation τ sig (Elt Ideal)) (t : Fin cfg0.N) : blk0 V 3 t = V (Proc.devRef .tc main_v25) := by
  obtain rfl : t = t0 := by decide +revert
  have h0 : win0_3.index t0 0 = 0 := by decide +kernel
  have h1 : win0_3.index t0 1 = 0 := by decide +kernel
  blk_ext! [blk0, h0, h1]

theorem blk0_4 (V : Valuation τ sig (Elt Ideal)) (t : Fin cfg0.N) : blk0 V 4 t = V (Proc.devRef .tc main_v27) := by
  obtain rfl : t = t0 := by decide +revert
  have h0 : win0_4.index t0 0 = 0 := by decide +kernel
  have h1 : win0_4.index t0 1 = 0 := by decide +kernel
  blk_ext! [blk0, h0, h1]

theorem blk0_5 (V : Valuation τ sig (Elt Ideal)) (t : Fin cfg0.N) : blk0 V 5 t = V (Proc.devRef .tc main_cst) := by
  obtain rfl : t = t0 := by decide +revert
  have h0 : win0_5.index t0 0 = 0 := by decide +kernel
  have h1 : win0_5.index t0 1 = 0 := by decide +kernel
  blk_ext! [blk0, h0, h1]

theorem blk0_6 (V : Valuation τ sig (Elt Ideal)) (t : Fin cfg0.N) : blk0 V 6 t = V (Proc.devRef .tc main_cst_0) := by
  obtain rfl : t = t0 := by decide +revert
  have h0 : win0_6.index t0 0 = 0 := by decide +kernel
  have h1 : win0_6.index t0 1 = 0 := by decide +kernel
  blk_ext! [blk0, h0, h1]

theorem canon_rOut (v : FVec Ideal S2500x15 .f32) : View.canon (Val := Elt Ideal) (s := S2500x15) (e := .f32) [⟨rOut, v⟩] = v := by
  unfold rOut
  exact View.canon_unit_zero (Val := Elt Ideal) (S := S2500x15) (e := .f32) (off := ![0, 0]) (funext (Fin.forall_fin_two.2 ⟨rfl, rfl⟩)) inb_S2500x15_S2500x15_0_0 v

theorem out0_7 : outs m 24 main_v28_0 c = val7 (F := Ideal) (V23 m c (Proc.devRef .tc main_v2)) (V23 m c (Proc.devRef .tc main_v3)) (V23 m c (Proc.devRef .tc main_v4)) (V23 m c (Proc.devRef .tc main_v25)) (V23 m c (Proc.devRef .tc main_v27)) (V23 m c (Proc.devRef .tc main_cst)) (V23 m c (Proc.devRef .tc main_cst_0)) := by
  refine (Pipeline.afterRegion_arr (dat0 (V23 m c) c) (V23 m c) launch0.win.arr_inj 7).trans ?_
  refine Dat.arrAt_eq_of_after_last (dat0 (V23 m c) c) 7 t0 (by decide +kernel) _ (fun j => ?_)
  rw [after0_7, canon_rOut, blk0_0, blk0_1, blk0_2, blk0_3, blk0_4, blk0_5, blk0_6]
  rfl

theorem out0_8 : outs m 24 main_v28_1 c = val8 (F := Ideal) (V23 m c (Proc.devRef .tc main_v2)) (V23 m c (Proc.devRef .tc main_v3)) (V23 m c (Proc.devRef .tc main_v4)) (V23 m c (Proc.devRef .tc main_v25)) (V23 m c (Proc.devRef .tc main_v27)) (V23 m c (Proc.devRef .tc main_cst)) (V23 m c (Proc.devRef .tc main_cst_0)) := by
  refine (Pipeline.afterRegion_arr (dat0 (V23 m c) c) (V23 m c) launch0.win.arr_inj 8).trans ?_
  refine Dat.arrAt_eq_of_after_last (dat0 (V23 m c) c) 8 t0 (by decide +kernel) _ (fun j => ?_)
  rw [after0_8, canon_rOut, blk0_0, blk0_1, blk0_2, blk0_3, blk0_4, blk0_5, blk0_6]
  rfl

theorem out0_9 : outs m 24 main_v28_2 c = val9 (F := Ideal) (V23 m c (Proc.devRef .tc main_v2)) (V23 m c (Proc.devRef .tc main_v3)) (V23 m c (Proc.devRef .tc main_v4)) (V23 m c (Proc.devRef .tc main_v25)) (V23 m c (Proc.devRef .tc main_v27)) (V23 m c (Proc.devRef .tc main_cst)) (V23 m c (Proc.devRef .tc main_cst_0)) := by
  refine (Pipeline.afterRegion_arr (dat0 (V23 m c) c) (V23 m c) launch0.win.arr_inj 9).trans ?_
  refine Dat.arrAt_eq_of_after_last (dat0 (V23 m c) c) 9 t0 (by decide +kernel) _ (fun j => ?_)
  rw [after0_9, canon_rOut, blk0_0, blk0_1, blk0_2, blk0_3, blk0_4, blk0_5, blk0_6]
  rfl

theorem out0_10 : outs m 24 main_v28_3 c = val10 (F := Ideal) (V23 m c (Proc.devRef .tc main_v2)) (V23 m c (Proc.devRef .tc main_v3)) (V23 m c (Proc.devRef .tc main_v4)) (V23 m c (Proc.devRef .tc main_v25)) (V23 m c (Proc.devRef .tc main_v27)) (V23 m c (Proc.devRef .tc main_cst)) (V23 m c (Proc.devRef .tc main_cst_0)) := by
  refine (Pipeline.afterRegion_arr (dat0 (V23 m c) c) (V23 m c) launch0.win.arr_inj 10).trans ?_
  refine Dat.arrAt_eq_of_after_last (dat0 (V23 m c) c) 10 t0 (by decide +kernel) _ (fun j => ?_)
  rw [after0_10, canon_rOut, blk0_0, blk0_1, blk0_2, blk0_3, blk0_4, blk0_5, blk0_6]
  rfl

theorem out0_11 : outs m 24 main_v28_4 c = val11 (F := Ideal) (V23 m c (Proc.devRef .tc main_v2)) (V23 m c (Proc.devRef .tc main_v3)) (V23 m c (Proc.devRef .tc main_v4)) (V23 m c (Proc.devRef .tc main_v25)) (V23 m c (Proc.devRef .tc main_v27)) (V23 m c (Proc.devRef .tc main_cst)) (V23 m c (Proc.devRef .tc main_cst_0)) := by
  refine (Pipeline.afterRegion_arr (dat0 (V23 m c) c) (V23 m c) launch0.win.arr_inj 11).trans ?_
  refine Dat.arrAt_eq_of_after_last (dat0 (V23 m c) c) 11 t0 (by decide +kernel) _ (fun j => ?_)
  rw [after0_11, canon_rOut, blk0_0, blk0_1, blk0_2, blk0_3, blk0_4, blk0_5, blk0_6]
  rfl

end Cert.KernelIdeal.Val
-- ==== Proof.Value.KerDense.lean ====
/- The kernel's scores and boxes before suppression, from the arguments. -/
module

public import proofs.«01_k».proof.Proof.Run.Segments
public import Idealize.ShloMosaic.Lib.Pointwise
public import Idealize.ShloMosaic.Lib.StableHlo.ReadAt
public import proofs.«01_k».proof.Proof.Value.Dense
public import proofs.«01_k».proof.Proof.Value.Operands
public import proofs.«01_k».proof.Proof.Value.Columns
public import proofs.«01_k».proof.Proof.Value.Region0

@[expose] public section

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem Idealize.ShloMosaic.StableHlo

variable (m : (ℓ : Loc nD τ sig) → Buf (Elt Ideal) ℓ) (c : Dev nD)

def cls (a : Fin 15) (y x : ℕ) : EReal := Spec.head (P m c) (W m c) (B m c) (fun d => (V0 m c (Proc.devRef .tc main_arg3) : FVec Ideal S1x1x256x15 .f32) (ix4 0 0 d a)) ((V0 m c (Proc.devRef .tc main_arg4) : FVec Ideal S15 .f32) (ix1 a)) y x
def box (a : Fin 60) (y x : ℕ) : EReal := Spec.head (P m c) (W m c) (B m c) (fun d => (V0 m c (Proc.devRef .tc main_arg5) : FVec Ideal S1x1x256x60 .f32) (ix4 0 0 d a)) ((V0 m c (Proc.devRef .tc main_arg6) : FVec Ideal S60 .f32) (ix1 a)) y x
/-- The width and the height of an anchor. -/
def wid (a : Fin 15) : EReal := Ideal.ofBits .f32 (lit0 (S1x16.rowMajor (ix2 0 ⟨a.val, by omega⟩)))
def hei (a : Fin 15) : EReal := Ideal.ofBits .f32 (lit1 (S1x16.rowMajor (ix2 0 ⟨a.val, by omega⟩)))

/-- The operands of the dense call. -/
abbrev o0 : FVec Ideal S2704x256 .f32 := V23 m c (Proc.devRef .tc main_v2)
abbrev o1 : FVec Ideal S9x256x256 .f32 := V23 m c (Proc.devRef .tc main_v3)
abbrev o2 : FVec Ideal S1x256 .f32 := V23 m c (Proc.devRef .tc main_v4)
abbrev o3 : FVec Ideal S256x80 .f32 := V23 m c (Proc.devRef .tc main_v25)
abbrev o4 : FVec Ideal S1x80 .f32 := V23 m c (Proc.devRef .tc main_v27)
abbrev o5 : FVec Ideal S1x16 .f32 := V23 m c (Proc.devRef .tc main_cst)
abbrev o6 : FVec Ideal S1x16 .f32 := V23 m c (Proc.devRef .tc main_cst_0)

theorem heads_eq (p : Fin 2500) (a : Fin 80) (h : Fin 256 → EReal) (q : EReal) (hh : ∀ d, o3 m c (ix2 d a) = h d) (hq : o4 m c (ix2 0 a) = q) :
    heads (F := Ideal) (o0 m c) (o1 m c) (o2 m c) (o3 m c) (o4 m c) (o5 m c) (o6 m c) (ix2 p a) = Spec.head (P m c) (W m c) (B m c) h q (p.val / 50) (p.val % 50) := by
  rw [heads_at (o0 m c) (o1 m c) (o2 m c) (o3 m c) (o4 m c) (o5 m c) (o6 m c) (P m c) (v2_at m c) p a]
  have e1 : (fun (t : Fin 9) (k d : Fin 256) => o1 m c (ix3 t k d)) = W m c := by funext t k d; exact v3_at m c t k d
  have e2 : (fun (d : Fin 256) => o2 m c (ix2 0 d)) = B m c := by funext d; exact v4_at m c d
  have e3 : (fun (d : Fin 256) => o3 m c (ix2 d a)) = h := by funext d; exact hh d
  rw [e1, e2, e3, hq]

theorem out7_at (p : Fin 2500) (a : Fin 15) : (outs m 24 main_v28_0 c : FVec Ideal S2500x15 .f32) (ix2 p a) = cls m c a (p.val / 50) (p.val % 50) := by
  rw [out0_7]
  refine (val7_at _ _ _ _ _ _ _ p a).trans ?_
  exact heads_eq m c p _ _ _ (fun d => v25_at0 m c d a) (v27_at0 m c a)

theorem out8_at (p : Fin 2500) (a : Fin 15) : (outs m 24 main_v28_1 c : FVec Ideal S2500x15 .f32) (ix2 p a) =
    Spec.lo (box m c ⟨a.val * 4 + 0, by omega⟩ (p.val / 50) (p.val % 50)) (box m c ⟨a.val * 4 + 2, by omega⟩ (p.val / 50) (p.val % 50)) (wid a) (Spec.centre (p.val % 50)) := by
  rw [out0_8]
  refine (val8_at _ _ _ _ _ _ _ p a).trans ?_
  rw [heads_eq m c p _ _ _ (fun d => v25_at16 m c d a) (v27_at16 m c a), heads_eq m c p _ _ _ (fun d => v25_at48 m c d a) (v27_at48 m c a), cst_at m c ⟨a.val, by omega⟩]
  rfl

theorem out9_at (p : Fin 2500) (a : Fin 15) : (outs m 24 main_v28_2 c : FVec Ideal S2500x15 .f32) (ix2 p a) =
    Spec.lo (box m c ⟨a.val * 4 + 1, by omega⟩ (p.val / 50) (p.val % 50)) (box m c ⟨a.val * 4 + 3, by omega⟩ (p.val / 50) (p.val % 50)) (hei a) (Spec.centre (p.val / 50)) := by
  rw [out0_9]
  refine (val9_at _ _ _ _ _ _ _ p a).trans ?_
  rw [heads_eq m c p _ _ _ (fun d => v25_at32 m c d a) (v27_at32 m c a), heads_eq m c p _ _ _ (fun d => v25_at64 m c d a) (v27_at64 m c a), cst_0_at m c ⟨a.val, by omega⟩]
  rfl

theorem out10_at (p : Fin 2500) (a : Fin 15) : (outs m 24 main_v28_3 c : FVec Ideal S2500x15 .f32) (ix2 p a) =
    Spec.hi (box m c ⟨a.val * 4 + 0, by omega⟩ (p.val / 50) (p.val % 50)) (box m c ⟨a.val * 4 + 2, by omega⟩ (p.val / 50) (p.val % 50)) (wid a) (Spec.centre (p.val % 50)) := by
  rw [out0_10]
  refine (val10_at _ _ _ _ _ _ _ p a).trans ?_
  rw [heads_eq m c p _ _ _ (fun d => v25_at16 m c d a) (v27_at16 m c a), heads_eq m c p _ _ _ (fun d => v25_at48 m c d a) (v27_at48 m c a), cst_at m c ⟨a.val, by omega⟩]
  rfl

theorem out11_at (p : Fin 2500) (a : Fin 15) : (outs m 24 main_v28_4 c : FVec Ideal S2500x15 .f32) (ix2 p a) =
    Spec.hi (box m c ⟨a.val * 4 + 1, by omega⟩ (p.val / 50) (p.val % 50)) (box m c ⟨a.val * 4 + 3, by omega⟩ (p.val / 50) (p.val % 50)) (hei a) (Spec.centre (p.val / 50)) := by
  rw [out0_11]
  refine (val11_at _ _ _ _ _ _ _ p a).trans ?_
  rw [heads_eq m c p _ _ _ (fun d => v25_at32 m c d a) (v27_at32 m c a), heads_eq m c p _ _ _ (fun d => v25_at64 m c d a) (v27_at64 m c a), cst_0_at m c ⟨a.val, by omega⟩]
  rfl

theorem V24_out0 : V24 m (outs m) c (Proc.devRef .tc main_v28_0) = outs m 24 main_v28_0 c := by
  unfold V24
  rw [Function.update_of_ne (by decide), Function.update_of_ne (by decide), Function.update_of_ne (by decide), Function.update_of_ne (by decide), Function.update_self]

theorem V24_out1 : V24 m (outs m) c (Proc.devRef .tc main_v28_1) = outs m 24 main_v28_1 c := by
  unfold V24
  rw [Function.update_of_ne (by decide), Function.update_of_ne (by decide), Function.update_of_ne (by decide), Function.update_self]

theorem V24_out2 : V24 m (outs m) c (Proc.devRef .tc main_v28_2) = outs m 24 main_v28_2 c := by
  unfold V24
  rw [Function.update_of_ne (by decide), Function.update_of_ne (by decide), Function.update_self]

theorem V24_out3 : V24 m (outs m) c (Proc.devRef .tc main_v28_3) = outs m 24 main_v28_3 c := by
  unfold V24
  rw [Function.update_of_ne (by decide), Function.update_self]

theorem V24_out4 : V24 m (outs m) c (Proc.devRef .tc main_v28_4) = outs m 24 main_v28_4 c := by
  unfold V24
  rw [Function.update_self]

theorem v29_at (i : Fin 37500) : (V25 m (outs m) c (Proc.devRef .tc main_v29) : FVec Ideal S37500 .f32) (ix1 i) = cls m c ⟨i.val % 15, by omega⟩ (i.val / 750) (i.val / 15 % 50) := by
  have h : (V25 m (outs m) c (Proc.devRef .tc main_v29) : FVec Ideal S37500 .f32) (ix1 i) = (outs m 24 main_v28_0 c : FVec Ideal S2500x15 .f32) (ix2 ⟨i.val / 15, by omega⟩ ⟨i.val % 15, by omega⟩) := by
    after_reads_at
    pointwise
    rw [V24_out0]
  rw [h, out7_at]
  rw [show i.val / 15 / 50 = i.val / 750 by omega]

theorem v35_at0 (i : Fin 37500) : (V25 m (outs m) c (Proc.devRef .tc main_v35) : FVec Ideal S37500x4 .f32) (ix2 i 0) =
    Spec.lo (box m c ⟨i.val % 15 * 4 + 0, by omega⟩ (i.val / 750) (i.val / 15 % 50)) (box m c ⟨i.val % 15 * 4 + 2, by omega⟩ (i.val / 750) (i.val / 15 % 50)) (wid ⟨i.val % 15, by omega⟩) (Spec.centre (i.val / 15 % 50)) := by
  have h : (V25 m (outs m) c (Proc.devRef .tc main_v35) : FVec Ideal S37500x4 .f32) (ix2 i 0) = (outs m 24 main_v28_1 c : FVec Ideal S2500x15 .f32) (ix2 ⟨i.val / 15, by omega⟩ ⟨i.val % 15, by omega⟩) := by
    after_reads_at
    pointwise
    after_reads_at
    pointwise
    rw [V24_out1]
  rw [h, out8_at]
  rw [show i.val / 15 / 50 = i.val / 750 by omega]

theorem v35_at1 (i : Fin 37500) : (V25 m (outs m) c (Proc.devRef .tc main_v35) : FVec Ideal S37500x4 .f32) (ix2 i 1) =
    Spec.lo (box m c ⟨i.val % 15 * 4 + 1, by omega⟩ (i.val / 750) (i.val / 15 % 50)) (box m c ⟨i.val % 15 * 4 + 3, by omega⟩ (i.val / 750) (i.val / 15 % 50)) (hei ⟨i.val % 15, by omega⟩) (Spec.centre (i.val / 750)) := by
  have h : (V25 m (outs m) c (Proc.devRef .tc main_v35) : FVec Ideal S37500x4 .f32) (ix2 i 1) = (outs m 24 main_v28_2 c : FVec Ideal S2500x15 .f32) (ix2 ⟨i.val / 15, by omega⟩ ⟨i.val % 15, by omega⟩) := by
    after_reads_at
    pointwise
    after_reads_at
    pointwise
    rw [V24_out2]
  rw [h, out9_at]
  rw [show i.val / 15 / 50 = i.val / 750 by omega]

theorem v35_at2 (i : Fin 37500) : (V25 m (outs m) c (Proc.devRef .tc main_v35) : FVec Ideal S37500x4 .f32) (ix2 i 2) =
    Spec.hi (box m c ⟨i.val % 15 * 4 + 0, by omega⟩ (i.val / 750) (i.val / 15 % 50)) (box m c ⟨i.val % 15 * 4 + 2, by omega⟩ (i.val / 750) (i.val / 15 % 50)) (wid ⟨i.val % 15, by omega⟩) (Spec.centre (i.val / 15 % 50)) := by
  have h : (V25 m (outs m) c (Proc.devRef .tc main_v35) : FVec Ideal S37500x4 .f32) (ix2 i 2) = (outs m 24 main_v28_3 c : FVec Ideal S2500x15 .f32) (ix2 ⟨i.val / 15, by omega⟩ ⟨i.val % 15, by omega⟩) := by
    after_reads_at
    pointwise
    after_reads_at
    pointwise
    rw [V24_out3]
  rw [h, out10_at]
  rw [show i.val / 15 / 50 = i.val / 750 by omega]

theorem v35_at3 (i : Fin 37500) : (V25 m (outs m) c (Proc.devRef .tc main_v35) : FVec Ideal S37500x4 .f32) (ix2 i 3) =
    Spec.hi (box m c ⟨i.val % 15 * 4 + 1, by omega⟩ (i.val / 750) (i.val / 15 % 50)) (box m c ⟨i.val % 15 * 4 + 3, by omega⟩ (i.val / 750) (i.val / 15 % 50)) (hei ⟨i.val % 15, by omega⟩) (Spec.centre (i.val / 750)) := by
  have h : (V25 m (outs m) c (Proc.devRef .tc main_v35) : FVec Ideal S37500x4 .f32) (ix2 i 3) = (outs m 24 main_v28_4 c : FVec Ideal S2500x15 .f32) (ix2 ⟨i.val / 15, by omega⟩ ⟨i.val % 15, by omega⟩) := by
    after_reads_at
    pointwise
    after_reads_at
    pointwise
    rw [V24_out4]
  rw [h, out11_at]
  rw [show i.val / 15 / 50 = i.val / 750 by omega]

end Cert.KernelIdeal.Val
-- ==== Proof.Value.Greedy.lean ====
/- One candidate after another: who is still standing, and the same in blocks. -/
module

public import Idealize.ShloMosaic.PureOps.Ideal
public import Idealize.ShloMosaic.Lib.IdealHost
public import Idealize.ShloMosaic.Lib.Pointwise

@[expose] public section

noncomputable section

namespace Cert.Greedy

/-- A flag as a number. -/
def b2e (b : Bool) : EReal := if b then 1 else 0

theorem b2e_mul (a b : Bool) : b2e a * b2e b = b2e (a && b) := by
  cases a <;> cases b <;> simp [b2e]

theorem b2e_not (a : Bool) : 1 - b2e a = b2e (!a) := by
  cases a
  · simp [b2e]
  · show (1 : EReal) - 1 = 0
    exact EReal.sub_self (by decide) (by decide)

theorem b2e_nonneg (a : Bool) : 0 ≤ b2e a := by
  cases a <;> simp [b2e]

/-- Is candidate `j` still standing once the first `n` have spoken?  A candidate that stands when its
turn comes strikes out whatever `H` says it strikes. -/
def kp (H : ℕ → ℕ → Bool) : ℕ → ℕ → Bool
  | 0, _ => true
  | n + 1, j => kp H n j && !(kp H n n && H n j)

variable {H : ℕ → ℕ → Bool}

/-- Nobody is struck after their own turn. -/
theorem kp_settled (hH : ∀ i j, H i j = true → i < j) (j d : ℕ) : kp H (j + d) j = kp H j j := by
  induction d with
  | zero => rfl
  | succ d ih =>
    show (kp H (j + d) j && !(kp H (j + d) (j + d) && H (j + d) j)) = _
    have : H (j + d) j = false := by
      by_contra h
      have := hH _ _ (by simpa using h)
      omega
    rw [this, ih]; simp

theorem kp_of_le (hH : ∀ i j, H i j = true → i < j) {j n : ℕ} (h : j ≤ n) : kp H n j = kp H j j := by
  obtain ⟨d, rfl⟩ := Nat.exists_eq_add_of_le h
  exact kp_settled hH j d

/-- A block of turns: standing after it is standing before it and struck by nobody of the block. -/
theorem kp_block (hH : ∀ i j, H i j = true → i < j) (lo j n : ℕ) :
    kp H (lo + n) j = (kp H lo j && decide (∀ l, l < n → (kp H (lo + l) (lo + l) && H (lo + l) j) = false)) := by
  induction n with
  | zero => simp
  | succ n ih =>
    show (kp H (lo + n) j && !(kp H (lo + n) (lo + n) && H (lo + n) j)) = _
    rw [ih, Bool.and_assoc]
    congr 1
    rw [Bool.eq_iff_iff]
    simp only [Bool.and_eq_true, decide_eq_true_eq, Bool.not_eq_true', Nat.lt_succ_iff_lt_or_eq]
    constructor
    · rintro ⟨h1, h2⟩ l (hl | rfl)
      · exact h1 l hl
      · exact h2
    · intro h
      exact ⟨fun l hl => h l (.inl hl), h n (.inr rfl)⟩

/-- The flags of one block, struck turn by turn as the kernel writes it. -/
theorem block_flags (lo : ℕ) (st : ℕ → Fin 128 → EReal)
    (h0 : ∀ l, st 0 l = b2e (kp H lo (lo + l)))
    (hs : ∀ k (hk : k < 128) l, st (k + 1) l = st k l * (1 - st k ⟨k, hk⟩ * b2e (H (lo + k) (lo + l)))) :
    ∀ n, n ≤ 128 → ∀ l, st n l = b2e (kp H (lo + n) (lo + l)) := by
  intro n
  induction n with
  | zero => intro _ l; exact h0 l
  | succ n ih =>
    intro hn l
    rw [hs n (by omega) l, ih (by omega) l, ih (by omega) ⟨n, by omega⟩, b2e_mul, b2e_not, b2e_mul]
    rfl

/-- What a block strikes outside itself: the count of those of the block that stand and strike `j` is
positive. -/
theorem block_strikes (hH : ∀ i j, H i j = true → i < j) (lo : ℕ) (b : Fin 128 → EReal) (s : Fin 128 → EReal)
    (v : EReal) (j : ℕ)
    (hb : ∀ l : Fin 128, b l = b2e (kp H (lo + 128) (lo + l))) (hs : ∀ l : Fin 128, s l = b2e (H (lo + l) j))
    (hv : v = b2e (kp H lo j)) :
    (v * if 0 < ∑ x, b x * s x then 0 else 1) = b2e (kp H (lo + 128) j) := by
  have hterm : ∀ x : Fin 128, b x * s x = b2e (kp H (lo + x) (lo + x) && H (lo + x) j) := fun x => by
    rw [hb, hs, b2e_mul, kp_of_le hH (by omega : lo + (x : ℕ) ≤ lo + 128)]
  rw [Finset.sum_congr rfl fun x _ => hterm x, kp_block hH lo j 128, ← b2e_mul, hv]
  congr 1
  by_cases h : ∀ l, l < 128 → (kp H (lo + l) (lo + l) && H (lo + l) j) = false
  · have : (∑ x : Fin 128, b2e (kp H (lo + x) (lo + x) && H (lo + x) j)) = 0 :=
      Finset.sum_eq_zero fun x _ => by rw [h x x.2]; rfl
    rw [this, if_neg (lt_irrefl _), decide_eq_true h]; rfl
  · have hpos : 0 < ∑ x : Fin 128, b2e (kp H (lo + x) (lo + x) && H (lo + x) j) := by
      push Not at h
      obtain ⟨l, hl, hl'⟩ := h
      have h1 : b2e (kp H (lo + l) (lo + l) && H (lo + l) j) = 1 := by
        rw [Bool.ne_false_iff.1 hl']; rfl
      calc (0 : EReal) < 1 := zero_lt_one
        _ = b2e (kp H (lo + (⟨l, hl⟩ : Fin 128)) (lo + (⟨l, hl⟩ : Fin 128)) && H (lo + (⟨l, hl⟩ : Fin 128)) j) := h1.symm
        _ ≤ _ := Finset.single_le_sum
            (f := fun x : Fin 128 => b2e (kp H (lo + x) (lo + x) && H (lo + x) j))
            (fun x _ => b2e_nonneg _) (Finset.mem_univ _)
    rw [if_pos hpos, decide_eq_false h]; rfl

end Cert.Greedy
-- ==== Proof.Value.Words.lean ====
/- Word comparisons of small numbers, and how far two boxes overlap. -/
module

public import proofs.«01_k».proof.Proof.Value.Greedy
public import Idealize.ShloMosaic.Lib.WordCmp

@[expose] public section

set_option maxRecDepth 16384

noncomputable section

namespace Cert.Spec

open Idealize.ShloMosaic Idealize.ShloMosaic.WordCmp Cert.Greedy

theorem toInt_small {a : ℕ} (ha : a < 2 ^ 31) : (BitVec.ofNat 32 a).toInt = (a : ℤ) := by
  have h : (BitVec.ofNat 32 a).toNat = a := by
    rw [BitVec.toNat_ofNat]; exact Nat.mod_eq_of_lt (by omega)
  rw [toInt_eq_toNat_of_lt_half (by rw [h]; exact ha), h]

/-- Signed greater-than on small numbers is greater-than. -/
theorem word_gt {a b : ℕ} (ha : a < 2 ^ 31) (hb : b < 2 ^ 31) :
    IntOp.cmpi .sgt (BitVec.ofNat 32 a) (BitVec.ofNat 32 b) = BitVec.ofBool (decide (b < a)) := by
  rw [cmpi_sgt_eq, toInt_small ha, toInt_small hb]
  simp

/-- Signed less-than on small numbers is less-than. -/
theorem word_lt {a b : ℕ} (ha : a < 2 ^ 31) (hb : b < 2 ^ 31) :
    IntOp.cmpi .slt (BitVec.ofNat 32 a) (BitVec.ofNat 32 b) = BitVec.ofBool (decide (a < b)) := by
  rw [cmpi_slt_eq, toInt_small ha, toInt_small hb]
  simp

/-- Equality of small numbers. -/
theorem word_eq {a b : ℕ} (ha : a < 2 ^ 32) (hb : b < 2 ^ 32) :
    IntOp.cmpi .eq (BitVec.ofNat 32 a) (BitVec.ofNat 32 b) = BitVec.ofBool (decide (a = b)) := by
  rw [cmpi_eq_eq]
  congr 1
  rw [decide_eq_decide]
  constructor
  · intro h
    have := congrArg BitVec.toNat h
    rwa [BitVec.toNat_ofNat, BitVec.toNat_ofNat, Nat.mod_eq_of_lt ha, Nat.mod_eq_of_lt hb] at this
  · rintro rfl; rfl

theorem andi_flags (a b : Bool) : IntOp.andi (BitVec.ofBool a) (BitVec.ofBool b) = BitVec.ofBool (a && b) := by
  cases a <;> cases b <;> rfl

theorem select_flag {α : Type} (a : Bool) (x y : α) : Scalar.select (BitVec.ofBool a) x y = if a then x else y := by
  cases a <;> rfl

/-- The overlap of two boxes over their union, as both programs write it. -/
def iou (a0 a1 a2 a3 b0 b1 b2 b3 : EReal) : EReal :=
  Ideal.div (max 0 (min a2 b2 - max a0 b0) * max 0 (min a3 b3 - max a1 b1))
    ((a2 - a0) * (a3 - a1) + (b2 - b0) * (b3 - b1)
      - max 0 (min a2 b2 - max a0 b0) * max 0 (min a3 b3 - max a1 b1) + Ideal.ofBits FTy.f32 0x3089705F#32)

/-- Box `i` strikes box `j`: it comes before, and they overlap by more than the threshold. -/
def strikes (D : ℕ → Fin 4 → EReal) (i j : ℕ) : Bool :=
  decide (Ideal.ofBits FTy.f32 0x3F333333#32
      < iou (D i 0) (D i 1) (D i 2) (D i 3) (D j 0) (D j 1) (D j 2) (D j 3)) && decide (i < j)

theorem strikes_lt (D : ℕ → Fin 4 → EReal) (i j : ℕ) (h : strikes D i j = true) : i < j := by
  simp only [strikes, Bool.and_eq_true, decide_eq_true_eq] at h
  exact h.2

/-- The sum that picks one candidate's flag out of a block. -/
theorem pick_flag (b : Fin 128 → EReal) (k : ℕ) (hk : k < 128) :
    (∑ _x : Fin 1, ∑ x : Fin 128,
      Scalar.select (IntOp.cmpi CmpIPredicate.eq (BitVec.ofNat 32 ↑x) (Scf.iv (0#32) (1#32) k)) (b x) 0) = b ⟨k, hk⟩ := by
  have hiv : Scf.iv (0#32) (1#32) k = BitVec.ofNat 32 k := by
    show 0#32 + BitVec.ofNat 32 k * 1#32 = _
    rw [BitVec.mul_one, BitVec.zero_add]
  rw [hiv]
  have h : ∀ x : Fin 128, Scalar.select (IntOp.cmpi CmpIPredicate.eq (BitVec.ofNat 32 ↑x) (BitVec.ofNat 32 k)) (b x) 0
      = if x = ⟨k, hk⟩ then b x else 0 := fun x => by
    rw [word_eq (by omega) (by omega), select_flag]
    by_cases hx : (x : ℕ) = k
    · have : x = ⟨k, hk⟩ := Fin.ext hx
      rw [if_pos this, decide_eq_true hx]; rfl
    · have : x ≠ ⟨k, hk⟩ := fun h => hx (congrArg Fin.val h)
      rw [if_neg this, decide_eq_false hx]; rfl
  rw [Finset.sum_congr rfl fun _ _ => Finset.sum_congr rfl fun x _ => h x]
  simp

end Cert.Spec
-- ==== Proof.Value.Table.lean ====
/- The kernel's table of who strikes whom, at an index. -/
module

public import proofs.«01_k».proof.Proof.Run.Segments
public import Idealize.ShloMosaic.Lib.Pointwise
public import Idealize.ShloMosaic.Lib.StableHlo.ReadAt
public import proofs.«01_k».proof.Proof.Run.StripsRun
public import proofs.«01_k».proof.Proof.Value.Words

@[expose] public section

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem Idealize.ShloMosaic.StableHlo

variable (m : (ℓ : Loc nD τ sig) → Buf (Elt Ideal) ℓ) (c : Dev nD)

open Cert.Greedy Cert.Spec

/-- A row's box, of the table with the boxes in rows. -/
def rowBox (x0 : Vec Ideal S2048x8 .f32) (i : ℕ) (k : Fin 4) : EReal :=
  if h : i < 2048 then x0 (ix2 (⟨i, h⟩ : Fin 2048) (⟨k, by omega⟩ : Fin 8)) else 0

theorem stripVal_at (w : BitVec 32) (off : ℕ) (hw : w = BitVec.ofNat 32 off)
    (r0 r1 r2 r3 : Vec Ideal S1x2048 .f32) (c0 c1 c2 c3 : Vec Ideal S128x1 .f32) (p : Fin 128) (j : Fin 2048) (ho : off + p < 2048) :
    (stripVal (F := Ideal) w r0 r1 r2 r3 c0 c1 c2 c3 : FVec Ideal S128x2048 .f32) (ix2 p j)
      = b2e (decide (Ideal.ofBits FTy.f32 0x3F333333#32 < iou (c0 (ix2 p 0)) (c1 (ix2 p 0)) (c2 (ix2 p 0)) (c3 (ix2 p 0))
          (r0 (ix2 0 j)) (r1 (ix2 0 j)) (r2 (ix2 0 j)) (r3 (ix2 0 j))) && decide (off + p < j)) := by
  subst hw
  pointwise [stripVal]
  have h : IntOp.addi (BitVec.ofNat 32 (p : ℕ)) (BitVec.ofNat 32 off) = BitVec.ofNat 32 (off + p) := by
    show BitVec.ofNat 32 (p : ℕ) + BitVec.ofNat 32 off = _
    rw [← BitVec.ofNat_add, Nat.add_comm]
  rw [h, word_gt (by omega) (by omega), andi_flags, select_flag]
  rfl

variable (x0 : Vec Ideal S2048x8 .f32) (x1 : Vec Ideal S4x2048 .f32)

/-- The two tables of boxes hold the same boxes. -/
def Turned : Prop := ∀ (k : Fin 4) (j : Fin 2048), x1 (ix2 k j) = x0 (ix2 j (⟨k, by omega⟩ : Fin 8))

variable {x0 x1}

theorem strip0_at (hx : Turned x0 x1) (p : Fin 128) (j : Fin 2048) :
    (strip0 x0 x1 : FVec Ideal S128x2048 .f32) (ix2 p j) = b2e (strikes (rowBox x0) (0 + p) j) := by
  rw [strip0, stripVal_at 0#32 0 rfl _ _ _ _ _ _ _ _ p j (by omega)]
  pointwise [bxRow0, bxRow1, bxRow2, bxRow3]
  have h0 : x1 (ix2 0 j) = _ := hx 0 j
  have h1 : x1 (ix2 1 j) = _ := hx 1 j
  have h2 : x1 (ix2 2 j) = _ := hx 2 j
  have h3 : x1 (ix2 3 j) = _ := hx 3 j
  rw [h0, h1, h2, h3]
  simp only [strikes, rowBox, Nat.zero_add, show (p : ℕ) < 2048 by omega, j.2, dif_pos]
  rfl

theorem strip1_at (hx : Turned x0 x1) (p : Fin 128) (j : Fin 2048) :
    (strip1 x0 x1 : FVec Ideal S128x2048 .f32) (ix2 p j) = b2e (strikes (rowBox x0) (128 + p) j) := by
  rw [strip1, stripVal_at 128#32 128 rfl _ _ _ _ _ _ _ _ p j (by omega)]
  pointwise [bxRow0, bxRow1, bxRow2, bxRow3]
  have h0 : x1 (ix2 0 j) = _ := hx 0 j
  have h1 : x1 (ix2 1 j) = _ := hx 1 j
  have h2 : x1 (ix2 2 j) = _ := hx 2 j
  have h3 : x1 (ix2 3 j) = _ := hx 3 j
  rw [h0, h1, h2, h3]
  simp only [strikes, rowBox, show 128 + (p : ℕ) < 2048 by omega, j.2, dif_pos]
  rfl

theorem strip2_at (hx : Turned x0 x1) (p : Fin 128) (j : Fin 2048) :
    (strip2 x0 x1 : FVec Ideal S128x2048 .f32) (ix2 p j) = b2e (strikes (rowBox x0) (256 + p) j) := by
  rw [strip2, stripVal_at 256#32 256 rfl _ _ _ _ _ _ _ _ p j (by omega)]
  pointwise [bxRow0, bxRow1, bxRow2, bxRow3]
  have h0 : x1 (ix2 0 j) = _ := hx 0 j
  have h1 : x1 (ix2 1 j) = _ := hx 1 j
  have h2 : x1 (ix2 2 j) = _ := hx 2 j
  have h3 : x1 (ix2 3 j) = _ := hx 3 j
  rw [h0, h1, h2, h3]
  simp only [strikes, rowBox, show 256 + (p : ℕ) < 2048 by omega, j.2, dif_pos]
  rfl

theorem strip3_at (hx : Turned x0 x1) (p : Fin 128) (j : Fin 2048) :
    (strip3 x0 x1 : FVec Ideal S128x2048 .f32) (ix2 p j) = b2e (strikes (rowBox x0) (384 + p) j) := by
  rw [strip3, stripVal_at 384#32 384 rfl _ _ _ _ _ _ _ _ p j (by omega)]
  pointwise [bxRow0, bxRow1, bxRow2, bxRow3]
  have h0 : x1 (ix2 0 j) = _ := hx 0 j
  have h1 : x1 (ix2 1 j) = _ := hx 1 j
  have h2 : x1 (ix2 2 j) = _ := hx 2 j
  have h3 : x1 (ix2 3 j) = _ := hx 3 j
  rw [h0, h1, h2, h3]
  simp only [strikes, rowBox, show 384 + (p : ℕ) < 2048 by omega, j.2, dif_pos]
  rfl

theorem strip4_at (hx : Turned x0 x1) (p : Fin 128) (j : Fin 2048) :
    (strip4 x0 x1 : FVec Ideal S128x2048 .f32) (ix2 p j) = b2e (strikes (rowBox x0) (512 + p) j) := by
  rw [strip4, stripVal_at 512#32 512 rfl _ _ _ _ _ _ _ _ p j (by omega)]
  pointwise [bxRow0, bxRow1, bxRow2, bxRow3]
  have h0 : x1 (ix2 0 j) = _ := hx 0 j
  have h1 : x1 (ix2 1 j) = _ := hx 1 j
  have h2 : x1 (ix2 2 j) = _ := hx 2 j
  have h3 : x1 (ix2 3 j) = _ := hx 3 j
  rw [h0, h1, h2, h3]
  simp only [strikes, rowBox, show 512 + (p : ℕ) < 2048 by omega, j.2, dif_pos]
  rfl

theorem strip5_at (hx : Turned x0 x1) (p : Fin 128) (j : Fin 2048) :
    (strip5 x0 x1 : FVec Ideal S128x2048 .f32) (ix2 p j) = b2e (strikes (rowBox x0) (640 + p) j) := by
  rw [strip5, stripVal_at 640#32 640 rfl _ _ _ _ _ _ _ _ p j (by omega)]
  pointwise [bxRow0, bxRow1, bxRow2, bxRow3]
  have h0 : x1 (ix2 0 j) = _ := hx 0 j
  have h1 : x1 (ix2 1 j) = _ := hx 1 j
  have h2 : x1 (ix2 2 j) = _ := hx 2 j
  have h3 : x1 (ix2 3 j) = _ := hx 3 j
  rw [h0, h1, h2, h3]
  simp only [strikes, rowBox, show 640 + (p : ℕ) < 2048 by omega, j.2, dif_pos]
  rfl

theorem strip6_at (hx : Turned x0 x1) (p : Fin 128) (j : Fin 2048) :
    (strip6 x0 x1 : FVec Ideal S128x2048 .f32) (ix2 p j) = b2e (strikes (rowBox x0) (768 + p) j) := by
  rw [strip6, stripVal_at 768#32 768 rfl _ _ _ _ _ _ _ _ p j (by omega)]
  pointwise [bxRow0, bxRow1, bxRow2, bxRow3]
  have h0 : x1 (ix2 0 j) = _ := hx 0 j
  have h1 : x1 (ix2 1 j) = _ := hx 1 j
  have h2 : x1 (ix2 2 j) = _ := hx 2 j
  have h3 : x1 (ix2 3 j) = _ := hx 3 j
  rw [h0, h1, h2, h3]
  simp only [strikes, rowBox, show 768 + (p : ℕ) < 2048 by omega, j.2, dif_pos]
  rfl

theorem strip7_at (hx : Turned x0 x1) (p : Fin 128) (j : Fin 2048) :
    (strip7 x0 x1 : FVec Ideal S128x2048 .f32) (ix2 p j) = b2e (strikes (rowBox x0) (896 + p) j) := by
  rw [strip7, stripVal_at 896#32 896 rfl _ _ _ _ _ _ _ _ p j (by omega)]
  pointwise [bxRow0, bxRow1, bxRow2, bxRow3]
  have h0 : x1 (ix2 0 j) = _ := hx 0 j
  have h1 : x1 (ix2 1 j) = _ := hx 1 j
  have h2 : x1 (ix2 2 j) = _ := hx 2 j
  have h3 : x1 (ix2 3 j) = _ := hx 3 j
  rw [h0, h1, h2, h3]
  simp only [strikes, rowBox, show 896 + (p : ℕ) < 2048 by omega, j.2, dif_pos]
  rfl

theorem strip8_at (hx : Turned x0 x1) (p : Fin 128) (j : Fin 2048) :
    (strip8 x0 x1 : FVec Ideal S128x2048 .f32) (ix2 p j) = b2e (strikes (rowBox x0) (1024 + p) j) := by
  rw [strip8, stripVal_at 1024#32 1024 rfl _ _ _ _ _ _ _ _ p j (by omega)]
  pointwise [bxRow0, bxRow1, bxRow2, bxRow3]
  have h0 : x1 (ix2 0 j) = _ := hx 0 j
  have h1 : x1 (ix2 1 j) = _ := hx 1 j
  have h2 : x1 (ix2 2 j) = _ := hx 2 j
  have h3 : x1 (ix2 3 j) = _ := hx 3 j
  rw [h0, h1, h2, h3]
  simp only [strikes, rowBox, show 1024 + (p : ℕ) < 2048 by omega, j.2, dif_pos]
  rfl

theorem strip9_at (hx : Turned x0 x1) (p : Fin 128) (j : Fin 2048) :
    (strip9 x0 x1 : FVec Ideal S128x2048 .f32) (ix2 p j) = b2e (strikes (rowBox x0) (1152 + p) j) := by
  rw [strip9, stripVal_at 1152#32 1152 rfl _ _ _ _ _ _ _ _ p j (by omega)]
  pointwise [bxRow0, bxRow1, bxRow2, bxRow3]
  have h0 : x1 (ix2 0 j) = _ := hx 0 j
  have h1 : x1 (ix2 1 j) = _ := hx 1 j
  have h2 : x1 (ix2 2 j) = _ := hx 2 j
  have h3 : x1 (ix2 3 j) = _ := hx 3 j
  rw [h0, h1, h2, h3]
  simp only [strikes, rowBox, show 1152 + (p : ℕ) < 2048 by omega, j.2, dif_pos]
  rfl

theorem strip10_at (hx : Turned x0 x1) (p : Fin 128) (j : Fin 2048) :
    (strip10 x0 x1 : FVec Ideal S128x2048 .f32) (ix2 p j) = b2e (strikes (rowBox x0) (1280 + p) j) := by
  rw [strip10, stripVal_at 1280#32 1280 rfl _ _ _ _ _ _ _ _ p j (by omega)]
  pointwise [bxRow0, bxRow1, bxRow2, bxRow3]
  have h0 : x1 (ix2 0 j) = _ := hx 0 j
  have h1 : x1 (ix2 1 j) = _ := hx 1 j
  have h2 : x1 (ix2 2 j) = _ := hx 2 j
  have h3 : x1 (ix2 3 j) = _ := hx 3 j
  rw [h0, h1, h2, h3]
  simp only [strikes, rowBox, show 1280 + (p : ℕ) < 2048 by omega, j.2, dif_pos]
  rfl

theorem strip11_at (hx : Turned x0 x1) (p : Fin 128) (j : Fin 2048) :
    (strip11 x0 x1 : FVec Ideal S128x2048 .f32) (ix2 p j) = b2e (strikes (rowBox x0) (1408 + p) j) := by
  rw [strip11, stripVal_at 1408#32 1408 rfl _ _ _ _ _ _ _ _ p j (by omega)]
  pointwise [bxRow0, bxRow1, bxRow2, bxRow3]
  have h0 : x1 (ix2 0 j) = _ := hx 0 j
  have h1 : x1 (ix2 1 j) = _ := hx 1 j
  have h2 : x1 (ix2 2 j) = _ := hx 2 j
  have h3 : x1 (ix2 3 j) = _ := hx 3 j
  rw [h0, h1, h2, h3]
  simp only [strikes, rowBox, show 1408 + (p : ℕ) < 2048 by omega, j.2, dif_pos]
  rfl

theorem strip12_at (hx : Turned x0 x1) (p : Fin 128) (j : Fin 2048) :
    (strip12 x0 x1 : FVec Ideal S128x2048 .f32) (ix2 p j) = b2e (strikes (rowBox x0) (1536 + p) j) := by
  rw [strip12, stripVal_at 1536#32 1536 rfl _ _ _ _ _ _ _ _ p j (by omega)]
  pointwise [bxRow0, bxRow1, bxRow2, bxRow3]
  have h0 : x1 (ix2 0 j) = _ := hx 0 j
  have h1 : x1 (ix2 1 j) = _ := hx 1 j
  have h2 : x1 (ix2 2 j) = _ := hx 2 j
  have h3 : x1 (ix2 3 j) = _ := hx 3 j
  rw [h0, h1, h2, h3]
  simp only [strikes, rowBox, show 1536 + (p : ℕ) < 2048 by omega, j.2, dif_pos]
  rfl

theorem strip13_at (hx : Turned x0 x1) (p : Fin 128) (j : Fin 2048) :
    (strip13 x0 x1 : FVec Ideal S128x2048 .f32) (ix2 p j) = b2e (strikes (rowBox x0) (1664 + p) j) := by
  rw [strip13, stripVal_at 1664#32 1664 rfl _ _ _ _ _ _ _ _ p j (by omega)]
  pointwise [bxRow0, bxRow1, bxRow2, bxRow3]
  have h0 : x1 (ix2 0 j) = _ := hx 0 j
  have h1 : x1 (ix2 1 j) = _ := hx 1 j
  have h2 : x1 (ix2 2 j) = _ := hx 2 j
  have h3 : x1 (ix2 3 j) = _ := hx 3 j
  rw [h0, h1, h2, h3]
  simp only [strikes, rowBox, show 1664 + (p : ℕ) < 2048 by omega, j.2, dif_pos]
  rfl

theorem strip14_at (hx : Turned x0 x1) (p : Fin 128) (j : Fin 2048) :
    (strip14 x0 x1 : FVec Ideal S128x2048 .f32) (ix2 p j) = b2e (strikes (rowBox x0) (1792 + p) j) := by
  rw [strip14, stripVal_at 1792#32 1792 rfl _ _ _ _ _ _ _ _ p j (by omega)]
  pointwise [bxRow0, bxRow1, bxRow2, bxRow3]
  have h0 : x1 (ix2 0 j) = _ := hx 0 j
  have h1 : x1 (ix2 1 j) = _ := hx 1 j
  have h2 : x1 (ix2 2 j) = _ := hx 2 j
  have h3 : x1 (ix2 3 j) = _ := hx 3 j
  rw [h0, h1, h2, h3]
  simp only [strikes, rowBox, show 1792 + (p : ℕ) < 2048 by omega, j.2, dif_pos]
  rfl

theorem strip15_at (hx : Turned x0 x1) (p : Fin 128) (j : Fin 2048) :
    (strip15 x0 x1 : FVec Ideal S128x2048 .f32) (ix2 p j) = b2e (strikes (rowBox x0) (1920 + p) j) := by
  rw [strip15, stripVal_at 1920#32 1920 rfl _ _ _ _ _ _ _ _ p j (by omega)]
  pointwise [bxRow0, bxRow1, bxRow2, bxRow3]
  have h0 : x1 (ix2 0 j) = _ := hx 0 j
  have h1 : x1 (ix2 1 j) = _ := hx 1 j
  have h2 : x1 (ix2 2 j) = _ := hx 2 j
  have h3 : x1 (ix2 3 j) = _ := hx 3 j
  rw [h0, h1, h2, h3]
  simp only [strikes, rowBox, show 1920 + (p : ℕ) < 2048 by omega, j.2, dif_pos]
  rfl

/-- The table at a pair. -/
theorem table_at (hx : Turned x0 x1) (i j : Fin 2048) :
    (table x0 x1 : FVec Ideal S2048x2048 .f32) (ix2 i j) = b2e (strikes (rowBox x0) i j) := by
  refine (View.canon_apply_of_pieces (Val := Elt Ideal) (S := S2048x2048) (e := .f32)
    (fun y => b2e (strikes (rowBox x0) (y 0) (y 1))) (stripList x0 x1) ?_ (ix2 i j) (stripList_cover x0 x1 (ix2 i j)))
  intro p hp
  simp only [stripList, List.mem_cons, List.not_mem_nil, or_false] at hp
  rcases hp with rfl | rfl | rfl | rfl | rfl | rfl | rfl | rfl | rfl | rfl | rfl | rfl | rfl | rfl | rfl | rfl
  · intro x
    obtain ⟨p, j, rfl⟩ : ∃ (p : Fin 128) (j : Fin 2048), x = ix2 p j := ⟨x 0, x 1, eq_ix2 x⟩
    refine (strip15_at hx p j).trans (congrArg b2e (congrArg₂ (strikes (rowBox x0)) ?_ ?_))
    · show 1920 + (p : ℕ) = 1920 + 1 * (p : ℕ); omega
    · show (j : ℕ) = 0 + 1 * (j : ℕ); omega
  · intro x
    obtain ⟨p, j, rfl⟩ : ∃ (p : Fin 128) (j : Fin 2048), x = ix2 p j := ⟨x 0, x 1, eq_ix2 x⟩
    refine (strip14_at hx p j).trans (congrArg b2e (congrArg₂ (strikes (rowBox x0)) ?_ ?_))
    · show 1792 + (p : ℕ) = 1792 + 1 * (p : ℕ); omega
    · show (j : ℕ) = 0 + 1 * (j : ℕ); omega
  · intro x
    obtain ⟨p, j, rfl⟩ : ∃ (p : Fin 128) (j : Fin 2048), x = ix2 p j := ⟨x 0, x 1, eq_ix2 x⟩
    refine (strip13_at hx p j).trans (congrArg b2e (congrArg₂ (strikes (rowBox x0)) ?_ ?_))
    · show 1664 + (p : ℕ) = 1664 + 1 * (p : ℕ); omega
    · show (j : ℕ) = 0 + 1 * (j : ℕ); omega
  · intro x
    obtain ⟨p, j, rfl⟩ : ∃ (p : Fin 128) (j : Fin 2048), x = ix2 p j := ⟨x 0, x 1, eq_ix2 x⟩
    refine (strip12_at hx p j).trans (congrArg b2e (congrArg₂ (strikes (rowBox x0)) ?_ ?_))
    · show 1536 + (p : ℕ) = 1536 + 1 * (p : ℕ); omega
    · show (j : ℕ) = 0 + 1 * (j : ℕ); omega
  · intro x
    obtain ⟨p, j, rfl⟩ : ∃ (p : Fin 128) (j : Fin 2048), x = ix2 p j := ⟨x 0, x 1, eq_ix2 x⟩
    refine (strip11_at hx p j).trans (congrArg b2e (congrArg₂ (strikes (rowBox x0)) ?_ ?_))
    · show 1408 + (p : ℕ) = 1408 + 1 * (p : ℕ); omega
    · show (j : ℕ) = 0 + 1 * (j : ℕ); omega
  · intro x
    obtain ⟨p, j, rfl⟩ : ∃ (p : Fin 128) (j : Fin 2048), x = ix2 p j := ⟨x 0, x 1, eq_ix2 x⟩
    refine (strip10_at hx p j).trans (congrArg b2e (congrArg₂ (strikes (rowBox x0)) ?_ ?_))
    · show 1280 + (p : ℕ) = 1280 + 1 * (p : ℕ); omega
    · show (j : ℕ) = 0 + 1 * (j : ℕ); omega
  · intro x
    obtain ⟨p, j, rfl⟩ : ∃ (p : Fin 128) (j : Fin 2048), x = ix2 p j := ⟨x 0, x 1, eq_ix2 x⟩
    refine (strip9_at hx p j).trans (congrArg b2e (congrArg₂ (strikes (rowBox x0)) ?_ ?_))
    · show 1152 + (p : ℕ) = 1152 + 1 * (p : ℕ); omega
    · show (j : ℕ) = 0 + 1 * (j : ℕ); omega
  · intro x
    obtain ⟨p, j, rfl⟩ : ∃ (p : Fin 128) (j : Fin 2048), x = ix2 p j := ⟨x 0, x 1, eq_ix2 x⟩
    refine (strip8_at hx p j).trans (congrArg b2e (congrArg₂ (strikes (rowBox x0)) ?_ ?_))
    · show 1024 + (p : ℕ) = 1024 + 1 * (p : ℕ); omega
    · show (j : ℕ) = 0 + 1 * (j : ℕ); omega
  · intro x
    obtain ⟨p, j, rfl⟩ : ∃ (p : Fin 128) (j : Fin 2048), x = ix2 p j := ⟨x 0, x 1, eq_ix2 x⟩
    refine (strip7_at hx p j).trans (congrArg b2e (congrArg₂ (strikes (rowBox x0)) ?_ ?_))
    · show 896 + (p : ℕ) = 896 + 1 * (p : ℕ); omega
    · show (j : ℕ) = 0 + 1 * (j : ℕ); omega
  · intro x
    obtain ⟨p, j, rfl⟩ : ∃ (p : Fin 128) (j : Fin 2048), x = ix2 p j := ⟨x 0, x 1, eq_ix2 x⟩
    refine (strip6_at hx p j).trans (congrArg b2e (congrArg₂ (strikes (rowBox x0)) ?_ ?_))
    · show 768 + (p : ℕ) = 768 + 1 * (p : ℕ); omega
    · show (j : ℕ) = 0 + 1 * (j : ℕ); omega
  · intro x
    obtain ⟨p, j, rfl⟩ : ∃ (p : Fin 128) (j : Fin 2048), x = ix2 p j := ⟨x 0, x 1, eq_ix2 x⟩
    refine (strip5_at hx p j).trans (congrArg b2e (congrArg₂ (strikes (rowBox x0)) ?_ ?_))
    · show 640 + (p : ℕ) = 640 + 1 * (p : ℕ); omega
    · show (j : ℕ) = 0 + 1 * (j : ℕ); omega
  · intro x
    obtain ⟨p, j, rfl⟩ : ∃ (p : Fin 128) (j : Fin 2048), x = ix2 p j := ⟨x 0, x 1, eq_ix2 x⟩
    refine (strip4_at hx p j).trans (congrArg b2e (congrArg₂ (strikes (rowBox x0)) ?_ ?_))
    · show 512 + (p : ℕ) = 512 + 1 * (p : ℕ); omega
    · show (j : ℕ) = 0 + 1 * (j : ℕ); omega
  · intro x
    obtain ⟨p, j, rfl⟩ : ∃ (p : Fin 128) (j : Fin 2048), x = ix2 p j := ⟨x 0, x 1, eq_ix2 x⟩
    refine (strip3_at hx p j).trans (congrArg b2e (congrArg₂ (strikes (rowBox x0)) ?_ ?_))
    · show 384 + (p : ℕ) = 384 + 1 * (p : ℕ); omega
    · show (j : ℕ) = 0 + 1 * (j : ℕ); omega
  · intro x
    obtain ⟨p, j, rfl⟩ : ∃ (p : Fin 128) (j : Fin 2048), x = ix2 p j := ⟨x 0, x 1, eq_ix2 x⟩
    refine (strip2_at hx p j).trans (congrArg b2e (congrArg₂ (strikes (rowBox x0)) ?_ ?_))
    · show 256 + (p : ℕ) = 256 + 1 * (p : ℕ); omega
    · show (j : ℕ) = 0 + 1 * (j : ℕ); omega
  · intro x
    obtain ⟨p, j, rfl⟩ : ∃ (p : Fin 128) (j : Fin 2048), x = ix2 p j := ⟨x 0, x 1, eq_ix2 x⟩
    refine (strip1_at hx p j).trans (congrArg b2e (congrArg₂ (strikes (rowBox x0)) ?_ ?_))
    · show 128 + (p : ℕ) = 128 + 1 * (p : ℕ); omega
    · show (j : ℕ) = 0 + 1 * (j : ℕ); omega
  · intro x
    obtain ⟨p, j, rfl⟩ : ∃ (p : Fin 128) (j : Fin 2048), x = ix2 p j := ⟨x 0, x 1, eq_ix2 x⟩
    refine (strip0_at hx p j).trans (congrArg b2e (congrArg₂ (strikes (rowBox x0)) ?_ ?_))
    · show 0 + (p : ℕ) = 0 + 1 * (p : ℕ); omega
    · show (j : ℕ) = 0 + 1 * (j : ℕ); omega

end Cert.KernelIdeal.Val
-- ==== Proof.Value.KerHost.lean ====
/- What the kernel's host operations leave between the dense call and the suppression. -/
module

public import proofs.«01_k».proof.Proof.Run.Segments
public import Idealize.ShloMosaic.Lib.Pointwise
public import proofs.«01_k».proof.Proof.Value.Table
public import Idealize.ShloMosaic.Lib.StableHlo.ReadAt

@[expose] public section

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem Idealize.ShloMosaic.StableHlo

variable (m : (ℓ : Loc nD τ sig) → Buf (Elt Ideal) ℓ) (c : Dev nD)

variable (V : Valuation τ sig (Elt Ideal))

/-- The boxes of the chosen positions, from the scores and every box. -/
def chosen (T : FVec Ideal S37500 .f32) (D : FVec Ideal S37500x4 .f32) : FVec Ideal S2000x4 .f32 :=
  Host.gather gather_S37500x4_S2000x1_S2000x4_1_0_n_n_0_1_14 D
    (broadcastInDim S2000x1 ![0] bcast_S2000_S2000x1_0
      (select (cmpi .slt (Host.topK S2000 0 (FloatOps.cmpfTotal (F := Ideal) (φ := .f32) .gt) T sliceFits_S37500_S2000).2 (broadcastInDim S2000 ![] bcast_S_S2000 (constantI S_ 32 0#32)))
        (addi (Host.topK S2000 0 (FloatOps.cmpfTotal (F := Ideal) (φ := .f32) .gt) T sliceFits_S37500_S2000).2 (broadcastInDim S2000 ![] bcast_S_S2000 (constantI S_ 32 37500#32)))
        (Host.topK S2000 0 (FloatOps.cmpfTotal (F := Ideal) (φ := .f32) .gt) T sliceFits_S37500_S2000).2))

theorem v42_eq : (after hostOps1 V (Proc.devRef .tc main_v42) : FVec Ideal S2000x4 .f32) = chosen (after hostOps1 V (Proc.devRef .tc main_v29)) (after hostOps1 V (Proc.devRef .tc main_v35)) := by
  unfold chosen
  after_results_simp

theorem values_eq : (after hostOps1 V (Proc.devRef .tc main_values) : FVec Ideal S2000 .f32) = (Host.topK S2000 0 (FloatOps.cmpfTotal (F := Ideal) (φ := .f32) .gt) (after hostOps1 V (Proc.devRef .tc main_v29) : FVec Ideal S37500 .f32) sliceFits_S37500_S2000).1 := by
  after_results_simp

theorem cat3 {a a' : FVec Ideal S2000x4 .f32} {b b' : FVec Ideal S2000x1 .f32} {z : FVec Ideal S2000x3 .f32} (ha : a = a') (hb : b = b') :
    concatenate S2000x8 1 [⟨S2000x4, a⟩, ⟨S2000x1, b⟩, ⟨S2000x3, z⟩] concatenates_S2000x4_S2000x1_S2000x3_S2000x8_d1
      = concatenate S2000x8 1 [⟨S2000x4, a'⟩, ⟨S2000x1, b'⟩, ⟨S2000x3, z⟩] concatenates_S2000x4_S2000x1_S2000x3_S2000x8_d1 := by
  rw [ha, hb]

theorem v45_eq : (after hostOps1 V (Proc.devRef .tc main_v45) : FVec Ideal S2000x8 .f32) = concatenate S2000x8 1 [⟨S2000x4, (after hostOps1 V (Proc.devRef .tc main_v42) : FVec Ideal S2000x4 .f32)⟩, ⟨S2000x1, broadcastInDim S2000x1 ![0] bcast_S2000_S2000x1_0 (after hostOps1 V (Proc.devRef .tc main_values) : FVec Ideal S2000 .f32)⟩, ⟨S2000x3, broadcastInDim S2000x3 ![] bcast_S_S2000x3 (constant (F := Ideal) S_ .f32 0x00000000#32)⟩] concatenates_S2000x4_S2000x1_S2000x3_S2000x8_d1 := by
  after_results_simp
  refine cat3 ?_ ?_
  · show HloOp.result _ _ (Proc.devRef .tc main_v42) = _
    after_results_simp
  · show HloOp.result _ _ (Proc.devRef .tc main_v43) = _
    after_results_simp

theorem v45_at (i : Fin 2000) (k : Fin 8) : (after hostOps1 V (Proc.devRef .tc main_v45) : FVec Ideal S2000x8 .f32) (ix2 i k)
    = if h : (k : ℕ) < 4 then (after hostOps1 V (Proc.devRef .tc main_v42) : FVec Ideal S2000x4 .f32) (ix2 i ⟨k, h⟩)
      else if (k : ℕ) = 4 then (after hostOps1 V (Proc.devRef .tc main_values) : FVec Ideal S2000 .f32) (ix1 i) else (0 : EReal) := by
  rw [v45_eq]
  generalize (after hostOps1 V (Proc.devRef .tc main_v42) : FVec Ideal S2000x4 .f32) = A
  generalize (after hostOps1 V (Proc.devRef .tc main_values) : FVec Ideal S2000 .f32) = B
  pointwise
  split_ifs <;> first | rfl | (exfalso; omega)

theorem c14_eq : (after hostOps1 V (Proc.devRef .tc main_c_14) : IVec S_ 32) = constantI S_ 32 0#32 := by
  after_results_simp

theorem v46_at (hc : (V (Proc.devRef .tc main_c_14) : IVec S_ 32) = constantI S_ 32 0#32) (i : Fin 2048) (k : Fin 8) : (after hostOps1_1 V (Proc.devRef .tc main_v46) : FVec Ideal S2048x8 .f32) (ix2 i k)
    = if h : (i : ℕ) < 2000 then (V (Proc.devRef .tc main_v45) : FVec Ideal S2000x8 .f32) (ix2 ⟨i, h⟩ k) else (0 : EReal) := by
  after_reads_at
  rw [hc]
  pointwise
  have h0 : @Eq EReal (FloatOps.sitofp (F := Ideal) FTy.f32 0#32) 0 := by
    show (((0#32).toInt : ℝ) : EReal) = 0
    simp
  rw [h0]

theorem v48_at (k : Fin 4) (j : Fin 2048) : (after hostOps1_2 V (Proc.devRef .tc main_v48) : FVec Ideal S4x2048 .f32) (ix2 k j)
    = (V (Proc.devRef .tc main_v46) : FVec Ideal S2048x8 .f32) (ix2 j ⟨k, by omega⟩) := by
  after_results_simp
  pointwise
  try rfl

theorem v50_at (r : Fin 1000) (k : Fin 5) : (after hostOps2 V (Proc.devRef .tc main_v50) : FVec Ideal S1000x5 .f32) (ix2 r k)
    = (V (Proc.devRef .tc main_v49) : FVec Ideal S2048x8 .f32) (ix2 ⟨r, by omega⟩ ⟨k, by omega⟩) := by
  after_results_simp
  pointwise
  try rfl

end Cert.KernelIdeal.Val
-- ==== Proof.Value.Region1.lean ====
/- What the suppression call leaves in its output array. -/
module

public import proofs.«01_k».proof.Proof.Run.Segments
public import Idealize.ShloMosaic.Lib.Pointwise
public import Idealize.ShloMosaic.Lib.StableHlo.ReadAt
public import Idealize.ShloMosaic.Lib.Pipeline.ValueKit

@[expose] public section

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (c : Dev nD)

/-- The one grid point. -/
abbrev u0 : Fin cfg1.N := ⟨0, by decide⟩

theorem blk1_0 (V : Valuation τ sig (Elt Ideal)) (t : Fin cfg1.N) : blk1 V 0 t = V (Proc.devRef .tc main_v46) := by
  obtain rfl : t = u0 := by decide +revert
  have h0 : win1_0.index u0 0 = 0 := by decide +kernel
  have h1 : win1_0.index u0 1 = 0 := by decide +kernel
  blk_ext! [blk1, h0, h1]

theorem blk1_1 (V : Valuation τ sig (Elt Ideal)) (t : Fin cfg1.N) : blk1 V 1 t = V (Proc.devRef .tc main_v48) := by
  obtain rfl : t = u0 := by decide +revert
  have h0 : win1_1.index u0 0 = 0 := by decide +kernel
  have h1 : win1_1.index u0 1 = 0 := by decide +kernel
  blk_ext! [blk1, h0, h1]

theorem canon_rNms (v : FVec Ideal S2048x8 .f32) : View.canon (Val := Elt Ideal) (s := S2048x8) (e := .f32) [⟨rNms, v⟩] = v := by
  unfold rNms
  exact View.canon_unit_zero (Val := Elt Ideal) (S := S2048x8) (e := .f32) (off := ![0, 0]) (funext (Fin.forall_fin_two.2 ⟨rfl, rfl⟩)) inb_S2048x8_S2048x8_0_0 v

theorem out1_2 : outs m 28 main_v49 c = nmsVal (F := Ideal) (table (V27 m (outs0 m) c (Proc.devRef .tc main_v46)) (V27 m (outs0 m) c (Proc.devRef .tc main_v48))) (V27 m (outs0 m) c (Proc.devRef .tc main_v46)) := by
  refine (Pipeline.afterRegion_arr (dat1 (V27 m (outs0 m) c) c) (V27 m (outs0 m) c) launch1.win.arr_inj 2).trans ?_
  refine Dat.arrAt_eq_of_after_last (dat1 (V27 m (outs0 m) c) c) 2 u0 (by decide +kernel) _ (fun j => ?_)
  rw [after1_2, canon_rNms, blk1_0, blk1_1]
  rfl

end Cert.KernelIdeal.Val
-- ==== Proof.Value.Turns.lean ====
/- The kernel's loops over each block of boxes, turn by turn. -/
module

public import proofs.«01_k».proof.Proof.Run.Segments
public import Idealize.ShloMosaic.Lib.Pointwise
public import Idealize.ShloMosaic.Lib.StableHlo.ReadAt
public import proofs.«01_k».proof.Proof.Run.Loops
public import proofs.«01_k».proof.Proof.Run.Rest
public import proofs.«01_k».proof.Proof.Value.Words

@[expose] public section

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem Idealize.ShloMosaic.StableHlo

variable (m : (ℓ : Loc nD τ sig) → Buf (Elt Ideal) ℓ) (c : Dev nD)

open Cert.Greedy Cert.Spec

theorem off1 : ∀ k : Fin k1_t1_loop.trips, k1_off1 k 0 = 0 + k ∧ k1_off1 k 1 = 0 := by decide +kernel

/-- A turn of block 0. -/
theorem st1_step (S : Vec Ideal S2048x2048 .f32) (init : FVec Ideal S1x128 .f32) (k : ℕ) (hk : k < 128) (l : Fin 128) :
    st1 (F := Ideal) S init (k + 1) (ix2 0 l)
      = @HMul.hMul EReal EReal EReal _ (st1 (F := Ideal) S init k (ix2 0 l))
        (1 - @HMul.hMul EReal EReal EReal _ (st1 (F := Ideal) S init k (ix2 0 (⟨k, hk⟩ : Fin 128)))
          (S (ix2 (⟨0 + k, by omega⟩ : Fin 2048) (⟨0 + l, by omega⟩ : Fin 2048)))) := by
  rw [st1, dif_pos (show k < k1_t1_loop.trips from hk)]
  pointwise [k1_pay105, nv828]
  refine congrArg₂ (fun a b : EReal => a * (1 - b)) rfl (congrArg₂ (fun a b : EReal => a * b) (pick_flag _ k hk) (congrArg S ?_))
  refine congrArg₂ ix2 (Fin.ext ?_) (Fin.ext ?_)
  · exact (off1 ⟨k, hk⟩).1.trans (Nat.zero_add k)
  · have h := (off1 ⟨k, hk⟩).2
    simp only [h]; omega

/-- Block 0 after its turns. -/
theorem st1_flags {H : ℕ → ℕ → Bool} (S : Vec Ideal S2048x2048 .f32)
    (hS : ∀ i j : Fin 2048, S (ix2 i j) = b2e (H i j)) (init : FVec Ideal S1x128 .f32)
    (h0 : ∀ l : Fin 128, init (ix2 0 l) = b2e (kp H 0 (0 + l))) (l : Fin 128) :
    st1 (F := Ideal) S init k1_t1_loop.trips (ix2 0 l) = b2e (kp H (0 + 128) (0 + l)) :=
  block_flags 0 (fun k l => st1 (F := Ideal) S init k (ix2 0 l)) h0
    (fun k hk l => (st1_step S init k hk l).trans (by rw [hS])) 128 le_rfl l

theorem off2 : ∀ k : Fin k1_t2_loop.trips, k1_off2 k 0 = 128 + k ∧ k1_off2 k 1 = 0 := by decide +kernel

/-- A turn of block 1. -/
theorem st2_step (S : Vec Ideal S2048x2048 .f32) (init : FVec Ideal S1x128 .f32) (k : ℕ) (hk : k < 128) (l : Fin 128) :
    st2 (F := Ideal) (nv828 (F := Ideal) S) S init (k + 1) (ix2 0 l)
      = @HMul.hMul EReal EReal EReal _ (st2 (F := Ideal) (nv828 (F := Ideal) S) S init k (ix2 0 l))
        (1 - @HMul.hMul EReal EReal EReal _ (st2 (F := Ideal) (nv828 (F := Ideal) S) S init k (ix2 0 (⟨k, hk⟩ : Fin 128)))
          (S (ix2 (⟨128 + k, by omega⟩ : Fin 2048) (⟨128 + l, by omega⟩ : Fin 2048)))) := by
  rw [st2, dif_pos (show k < k1_t2_loop.trips from hk)]
  pointwise [k1_pay109, nv828]
  refine congrArg₂ (fun a b : EReal => a * (1 - b)) rfl (congrArg₂ (fun a b : EReal => a * b) (pick_flag _ k hk) (congrArg S ?_))
  refine congrArg₂ ix2 (Fin.ext ?_) (Fin.ext ?_)
  · exact (off2 ⟨k, hk⟩).1
  · have h := (off2 ⟨k, hk⟩).2
    simp only [h]; omega

/-- Block 1 after its turns. -/
theorem st2_flags {H : ℕ → ℕ → Bool} (S : Vec Ideal S2048x2048 .f32)
    (hS : ∀ i j : Fin 2048, S (ix2 i j) = b2e (H i j)) (init : FVec Ideal S1x128 .f32)
    (h0 : ∀ l : Fin 128, init (ix2 0 l) = b2e (kp H 128 (128 + l))) (l : Fin 128) :
    st2 (F := Ideal) (nv828 (F := Ideal) S) S init k1_t2_loop.trips (ix2 0 l) = b2e (kp H (128 + 128) (128 + l)) :=
  block_flags 128 (fun k l => st2 (F := Ideal) (nv828 (F := Ideal) S) S init k (ix2 0 l)) h0
    (fun k hk l => (st2_step S init k hk l).trans (by rw [hS])) 128 le_rfl l

theorem off3 : ∀ k : Fin k1_t3_loop.trips, k1_off3 k 0 = 256 + k ∧ k1_off3 k 1 = 0 := by decide +kernel

/-- A turn of block 2. -/
theorem st3_step (S : Vec Ideal S2048x2048 .f32) (init : FVec Ideal S1x128 .f32) (k : ℕ) (hk : k < 128) (l : Fin 128) :
    st3 (F := Ideal) (nv828 (F := Ideal) S) S init (k + 1) (ix2 0 l)
      = @HMul.hMul EReal EReal EReal _ (st3 (F := Ideal) (nv828 (F := Ideal) S) S init k (ix2 0 l))
        (1 - @HMul.hMul EReal EReal EReal _ (st3 (F := Ideal) (nv828 (F := Ideal) S) S init k (ix2 0 (⟨k, hk⟩ : Fin 128)))
          (S (ix2 (⟨256 + k, by omega⟩ : Fin 2048) (⟨256 + l, by omega⟩ : Fin 2048)))) := by
  rw [st3, dif_pos (show k < k1_t3_loop.trips from hk)]
  pointwise [k1_pay112, nv828]
  refine congrArg₂ (fun a b : EReal => a * (1 - b)) rfl (congrArg₂ (fun a b : EReal => a * b) (pick_flag _ k hk) (congrArg S ?_))
  refine congrArg₂ ix2 (Fin.ext ?_) (Fin.ext ?_)
  · exact (off3 ⟨k, hk⟩).1
  · have h := (off3 ⟨k, hk⟩).2
    simp only [h]; omega

/-- Block 2 after its turns. -/
theorem st3_flags {H : ℕ → ℕ → Bool} (S : Vec Ideal S2048x2048 .f32)
    (hS : ∀ i j : Fin 2048, S (ix2 i j) = b2e (H i j)) (init : FVec Ideal S1x128 .f32)
    (h0 : ∀ l : Fin 128, init (ix2 0 l) = b2e (kp H 256 (256 + l))) (l : Fin 128) :
    st3 (F := Ideal) (nv828 (F := Ideal) S) S init k1_t3_loop.trips (ix2 0 l) = b2e (kp H (256 + 128) (256 + l)) :=
  block_flags 256 (fun k l => st3 (F := Ideal) (nv828 (F := Ideal) S) S init k (ix2 0 l)) h0
    (fun k hk l => (st3_step S init k hk l).trans (by rw [hS])) 128 le_rfl l

theorem off4 : ∀ k : Fin k1_t4_loop.trips, k1_off4 k 0 = 384 + k ∧ k1_off4 k 1 = 0 := by decide +kernel

/-- A turn of block 3. -/
theorem st4_step (S : Vec Ideal S2048x2048 .f32) (init : FVec Ideal S1x128 .f32) (k : ℕ) (hk : k < 128) (l : Fin 128) :
    st4 (F := Ideal) (nv828 (F := Ideal) S) S init (k + 1) (ix2 0 l)
      = @HMul.hMul EReal EReal EReal _ (st4 (F := Ideal) (nv828 (F := Ideal) S) S init k (ix2 0 l))
        (1 - @HMul.hMul EReal EReal EReal _ (st4 (F := Ideal) (nv828 (F := Ideal) S) S init k (ix2 0 (⟨k, hk⟩ : Fin 128)))
          (S (ix2 (⟨384 + k, by omega⟩ : Fin 2048) (⟨384 + l, by omega⟩ : Fin 2048)))) := by
  rw [st4, dif_pos (show k < k1_t4_loop.trips from hk)]
  pointwise [k1_pay115, nv828]
  refine congrArg₂ (fun a b : EReal => a * (1 - b)) rfl (congrArg₂ (fun a b : EReal => a * b) (pick_flag _ k hk) (congrArg S ?_))
  refine congrArg₂ ix2 (Fin.ext ?_) (Fin.ext ?_)
  · exact (off4 ⟨k, hk⟩).1
  · have h := (off4 ⟨k, hk⟩).2
    simp only [h]; omega

/-- Block 3 after its turns. -/
theorem st4_flags {H : ℕ → ℕ → Bool} (S : Vec Ideal S2048x2048 .f32)
    (hS : ∀ i j : Fin 2048, S (ix2 i j) = b2e (H i j)) (init : FVec Ideal S1x128 .f32)
    (h0 : ∀ l : Fin 128, init (ix2 0 l) = b2e (kp H 384 (384 + l))) (l : Fin 128) :
    st4 (F := Ideal) (nv828 (F := Ideal) S) S init k1_t4_loop.trips (ix2 0 l) = b2e (kp H (384 + 128) (384 + l)) :=
  block_flags 384 (fun k l => st4 (F := Ideal) (nv828 (F := Ideal) S) S init k (ix2 0 l)) h0
    (fun k hk l => (st4_step S init k hk l).trans (by rw [hS])) 128 le_rfl l

theorem off5 : ∀ k : Fin k1_t5_loop.trips, k1_off5 k 0 = 512 + k ∧ k1_off5 k 1 = 0 := by decide +kernel

/-- A turn of block 4. -/
theorem st5_step (S : Vec Ideal S2048x2048 .f32) (init : FVec Ideal S1x128 .f32) (k : ℕ) (hk : k < 128) (l : Fin 128) :
    st5 (F := Ideal) (nv828 (F := Ideal) S) S init (k + 1) (ix2 0 l)
      = @HMul.hMul EReal EReal EReal _ (st5 (F := Ideal) (nv828 (F := Ideal) S) S init k (ix2 0 l))
        (1 - @HMul.hMul EReal EReal EReal _ (st5 (F := Ideal) (nv828 (F := Ideal) S) S init k (ix2 0 (⟨k, hk⟩ : Fin 128)))
          (S (ix2 (⟨512 + k, by omega⟩ : Fin 2048) (⟨512 + l, by omega⟩ : Fin 2048)))) := by
  rw [st5, dif_pos (show k < k1_t5_loop.trips from hk)]
  pointwise [k1_pay118, nv828]
  refine congrArg₂ (fun a b : EReal => a * (1 - b)) rfl (congrArg₂ (fun a b : EReal => a * b) (pick_flag _ k hk) (congrArg S ?_))
  refine congrArg₂ ix2 (Fin.ext ?_) (Fin.ext ?_)
  · exact (off5 ⟨k, hk⟩).1
  · have h := (off5 ⟨k, hk⟩).2
    simp only [h]; omega

/-- Block 4 after its turns. -/
theorem st5_flags {H : ℕ → ℕ → Bool} (S : Vec Ideal S2048x2048 .f32)
    (hS : ∀ i j : Fin 2048, S (ix2 i j) = b2e (H i j)) (init : FVec Ideal S1x128 .f32)
    (h0 : ∀ l : Fin 128, init (ix2 0 l) = b2e (kp H 512 (512 + l))) (l : Fin 128) :
    st5 (F := Ideal) (nv828 (F := Ideal) S) S init k1_t5_loop.trips (ix2 0 l) = b2e (kp H (512 + 128) (512 + l)) :=
  block_flags 512 (fun k l => st5 (F := Ideal) (nv828 (F := Ideal) S) S init k (ix2 0 l)) h0
    (fun k hk l => (st5_step S init k hk l).trans (by rw [hS])) 128 le_rfl l

theorem off6 : ∀ k : Fin k1_t6_loop.trips, k1_off6 k 0 = 640 + k ∧ k1_off6 k 1 = 0 := by decide +kernel

/-- A turn of block 5. -/
theorem st6_step (S : Vec Ideal S2048x2048 .f32) (init : FVec Ideal S1x128 .f32) (k : ℕ) (hk : k < 128) (l : Fin 128) :
    st6 (F := Ideal) (nv828 (F := Ideal) S) S init (k + 1) (ix2 0 l)
      = @HMul.hMul EReal EReal EReal _ (st6 (F := Ideal) (nv828 (F := Ideal) S) S init k (ix2 0 l))
        (1 - @HMul.hMul EReal EReal EReal _ (st6 (F := Ideal) (nv828 (F := Ideal) S) S init k (ix2 0 (⟨k, hk⟩ : Fin 128)))
          (S (ix2 (⟨640 + k, by omega⟩ : Fin 2048) (⟨640 + l, by omega⟩ : Fin 2048)))) := by
  rw [st6, dif_pos (show k < k1_t6_loop.trips from hk)]
  pointwise [k1_pay121, nv828]
  refine congrArg₂ (fun a b : EReal => a * (1 - b)) rfl (congrArg₂ (fun a b : EReal => a * b) (pick_flag _ k hk) (congrArg S ?_))
  refine congrArg₂ ix2 (Fin.ext ?_) (Fin.ext ?_)
  · exact (off6 ⟨k, hk⟩).1
  · have h := (off6 ⟨k, hk⟩).2
    simp only [h]; omega

/-- Block 5 after its turns. -/
theorem st6_flags {H : ℕ → ℕ → Bool} (S : Vec Ideal S2048x2048 .f32)
    (hS : ∀ i j : Fin 2048, S (ix2 i j) = b2e (H i j)) (init : FVec Ideal S1x128 .f32)
    (h0 : ∀ l : Fin 128, init (ix2 0 l) = b2e (kp H 640 (640 + l))) (l : Fin 128) :
    st6 (F := Ideal) (nv828 (F := Ideal) S) S init k1_t6_loop.trips (ix2 0 l) = b2e (kp H (640 + 128) (640 + l)) :=
  block_flags 640 (fun k l => st6 (F := Ideal) (nv828 (F := Ideal) S) S init k (ix2 0 l)) h0
    (fun k hk l => (st6_step S init k hk l).trans (by rw [hS])) 128 le_rfl l

theorem off7 : ∀ k : Fin k1_t7_loop.trips, k1_off7 k 0 = 768 + k ∧ k1_off7 k 1 = 0 := by decide +kernel

/-- A turn of block 6. -/
theorem st7_step (S : Vec Ideal S2048x2048 .f32) (init : FVec Ideal S1x128 .f32) (k : ℕ) (hk : k < 128) (l : Fin 128) :
    st7 (F := Ideal) (nv828 (F := Ideal) S) S init (k + 1) (ix2 0 l)
      = @HMul.hMul EReal EReal EReal _ (st7 (F := Ideal) (nv828 (F := Ideal) S) S init k (ix2 0 l))
        (1 - @HMul.hMul EReal EReal EReal _ (st7 (F := Ideal) (nv828 (F := Ideal) S) S init k (ix2 0 (⟨k, hk⟩ : Fin 128)))
          (S (ix2 (⟨768 + k, by omega⟩ : Fin 2048) (⟨768 + l, by omega⟩ : Fin 2048)))) := by
  rw [st7, dif_pos (show k < k1_t7_loop.trips from hk)]
  pointwise [k1_pay124, nv828]
  refine congrArg₂ (fun a b : EReal => a * (1 - b)) rfl (congrArg₂ (fun a b : EReal => a * b) (pick_flag _ k hk) (congrArg S ?_))
  refine congrArg₂ ix2 (Fin.ext ?_) (Fin.ext ?_)
  · exact (off7 ⟨k, hk⟩).1
  · have h := (off7 ⟨k, hk⟩).2
    simp only [h]; omega

/-- Block 6 after its turns. -/
theorem st7_flags {H : ℕ → ℕ → Bool} (S : Vec Ideal S2048x2048 .f32)
    (hS : ∀ i j : Fin 2048, S (ix2 i j) = b2e (H i j)) (init : FVec Ideal S1x128 .f32)
    (h0 : ∀ l : Fin 128, init (ix2 0 l) = b2e (kp H 768 (768 + l))) (l : Fin 128) :
    st7 (F := Ideal) (nv828 (F := Ideal) S) S init k1_t7_loop.trips (ix2 0 l) = b2e (kp H (768 + 128) (768 + l)) :=
  block_flags 768 (fun k l => st7 (F := Ideal) (nv828 (F := Ideal) S) S init k (ix2 0 l)) h0
    (fun k hk l => (st7_step S init k hk l).trans (by rw [hS])) 128 le_rfl l

theorem off8 : ∀ k : Fin k1_t8_loop.trips, k1_off8 k 0 = 896 + k ∧ k1_off8 k 1 = 0 := by decide +kernel

/-- A turn of block 7. -/
theorem st8_step (S : Vec Ideal S2048x2048 .f32) (init : FVec Ideal S1x128 .f32) (k : ℕ) (hk : k < 128) (l : Fin 128) :
    st8 (F := Ideal) (nv828 (F := Ideal) S) S init (k + 1) (ix2 0 l)
      = @HMul.hMul EReal EReal EReal _ (st8 (F := Ideal) (nv828 (F := Ideal) S) S init k (ix2 0 l))
        (1 - @HMul.hMul EReal EReal EReal _ (st8 (F := Ideal) (nv828 (F := Ideal) S) S init k (ix2 0 (⟨k, hk⟩ : Fin 128)))
          (S (ix2 (⟨896 + k, by omega⟩ : Fin 2048) (⟨896 + l, by omega⟩ : Fin 2048)))) := by
  rw [st8, dif_pos (show k < k1_t8_loop.trips from hk)]
  pointwise [k1_pay127, nv828]
  refine congrArg₂ (fun a b : EReal => a * (1 - b)) rfl (congrArg₂ (fun a b : EReal => a * b) (pick_flag _ k hk) (congrArg S ?_))
  refine congrArg₂ ix2 (Fin.ext ?_) (Fin.ext ?_)
  · exact (off8 ⟨k, hk⟩).1
  · have h := (off8 ⟨k, hk⟩).2
    simp only [h]; omega

/-- Block 7 after its turns. -/
theorem st8_flags {H : ℕ → ℕ → Bool} (S : Vec Ideal S2048x2048 .f32)
    (hS : ∀ i j : Fin 2048, S (ix2 i j) = b2e (H i j)) (init : FVec Ideal S1x128 .f32)
    (h0 : ∀ l : Fin 128, init (ix2 0 l) = b2e (kp H 896 (896 + l))) (l : Fin 128) :
    st8 (F := Ideal) (nv828 (F := Ideal) S) S init k1_t8_loop.trips (ix2 0 l) = b2e (kp H (896 + 128) (896 + l)) :=
  block_flags 896 (fun k l => st8 (F := Ideal) (nv828 (F := Ideal) S) S init k (ix2 0 l)) h0
    (fun k hk l => (st8_step S init k hk l).trans (by rw [hS])) 128 le_rfl l

theorem off9 : ∀ k : Fin k1_t9_loop.trips, k1_off9 k 0 = 1024 + k ∧ k1_off9 k 1 = 0 := by decide +kernel

/-- A turn of block 8. -/
theorem st9_step (S : Vec Ideal S2048x2048 .f32) (init : FVec Ideal S1x128 .f32) (k : ℕ) (hk : k < 128) (l : Fin 128) :
    st9 (F := Ideal) (nv828 (F := Ideal) S) S init (k + 1) (ix2 0 l)
      = @HMul.hMul EReal EReal EReal _ (st9 (F := Ideal) (nv828 (F := Ideal) S) S init k (ix2 0 l))
        (1 - @HMul.hMul EReal EReal EReal _ (st9 (F := Ideal) (nv828 (F := Ideal) S) S init k (ix2 0 (⟨k, hk⟩ : Fin 128)))
          (S (ix2 (⟨1024 + k, by omega⟩ : Fin 2048) (⟨1024 + l, by omega⟩ : Fin 2048)))) := by
  rw [st9, dif_pos (show k < k1_t9_loop.trips from hk)]
  pointwise [k1_pay130, nv828]
  refine congrArg₂ (fun a b : EReal => a * (1 - b)) rfl (congrArg₂ (fun a b : EReal => a * b) (pick_flag _ k hk) (congrArg S ?_))
  refine congrArg₂ ix2 (Fin.ext ?_) (Fin.ext ?_)
  · exact (off9 ⟨k, hk⟩).1
  · have h := (off9 ⟨k, hk⟩).2
    simp only [h]; omega

/-- Block 8 after its turns. -/
theorem st9_flags {H : ℕ → ℕ → Bool} (S : Vec Ideal S2048x2048 .f32)
    (hS : ∀ i j : Fin 2048, S (ix2 i j) = b2e (H i j)) (init : FVec Ideal S1x128 .f32)
    (h0 : ∀ l : Fin 128, init (ix2 0 l) = b2e (kp H 1024 (1024 + l))) (l : Fin 128) :
    st9 (F := Ideal) (nv828 (F := Ideal) S) S init k1_t9_loop.trips (ix2 0 l) = b2e (kp H (1024 + 128) (1024 + l)) :=
  block_flags 1024 (fun k l => st9 (F := Ideal) (nv828 (F := Ideal) S) S init k (ix2 0 l)) h0
    (fun k hk l => (st9_step S init k hk l).trans (by rw [hS])) 128 le_rfl l

theorem off10 : ∀ k : Fin k1_t10_loop.trips, k1_off10 k 0 = 1152 + k ∧ k1_off10 k 1 = 0 := by decide +kernel

/-- A turn of block 9. -/
theorem st10_step (S : Vec Ideal S2048x2048 .f32) (init : FVec Ideal S1x128 .f32) (k : ℕ) (hk : k < 128) (l : Fin 128) :
    st10 (F := Ideal) (nv828 (F := Ideal) S) 0#32 S init (k + 1) (ix2 0 l)
      = @HMul.hMul EReal EReal EReal _ (st10 (F := Ideal) (nv828 (F := Ideal) S) 0#32 S init k (ix2 0 l))
        (1 - @HMul.hMul EReal EReal EReal _ (st10 (F := Ideal) (nv828 (F := Ideal) S) 0#32 S init k (ix2 0 (⟨k, hk⟩ : Fin 128)))
          (S (ix2 (⟨1152 + k, by omega⟩ : Fin 2048) (⟨1152 + l, by omega⟩ : Fin 2048)))) := by
  rw [st10, dif_pos (show k < k1_t10_loop.trips from hk)]
  pointwise [k1_pay133, nv828]
  refine congrArg₂ (fun a b : EReal => a * (1 - b)) rfl (congrArg₂ (fun a b : EReal => a * b) (pick_flag _ k hk) (congrArg S ?_))
  refine congrArg₂ ix2 (Fin.ext ?_) (Fin.ext ?_)
  · exact (off10 ⟨k, hk⟩).1
  · have h := (off10 ⟨k, hk⟩).2
    simp only [h]; omega

/-- Block 9 after its turns. -/
theorem st10_flags {H : ℕ → ℕ → Bool} (S : Vec Ideal S2048x2048 .f32)
    (hS : ∀ i j : Fin 2048, S (ix2 i j) = b2e (H i j)) (init : FVec Ideal S1x128 .f32)
    (h0 : ∀ l : Fin 128, init (ix2 0 l) = b2e (kp H 1152 (1152 + l))) (l : Fin 128) :
    st10 (F := Ideal) (nv828 (F := Ideal) S) 0#32 S init k1_t10_loop.trips (ix2 0 l) = b2e (kp H (1152 + 128) (1152 + l)) :=
  block_flags 1152 (fun k l => st10 (F := Ideal) (nv828 (F := Ideal) S) 0#32 S init k (ix2 0 l)) h0
    (fun k hk l => (st10_step S init k hk l).trans (by rw [hS])) 128 le_rfl l

theorem off11 : ∀ k : Fin k1_t11_loop.trips, k1_off11 k 0 = 1280 + k ∧ k1_off11 k 1 = 0 := by decide +kernel

/-- A turn of block 10. -/
theorem st11_step (S : Vec Ideal S2048x2048 .f32) (init : FVec Ideal S1x128 .f32) (k : ℕ) (hk : k < 128) (l : Fin 128) :
    st11 (F := Ideal) (nv828 (F := Ideal) S) S init (k + 1) (ix2 0 l)
      = @HMul.hMul EReal EReal EReal _ (st11 (F := Ideal) (nv828 (F := Ideal) S) S init k (ix2 0 l))
        (1 - @HMul.hMul EReal EReal EReal _ (st11 (F := Ideal) (nv828 (F := Ideal) S) S init k (ix2 0 (⟨k, hk⟩ : Fin 128)))
          (S (ix2 (⟨1280 + k, by omega⟩ : Fin 2048) (⟨1280 + l, by omega⟩ : Fin 2048)))) := by
  rw [st11, dif_pos (show k < k1_t11_loop.trips from hk)]
  pointwise [k1_pay136, nv828]
  refine congrArg₂ (fun a b : EReal => a * (1 - b)) rfl (congrArg₂ (fun a b : EReal => a * b) (pick_flag _ k hk) (congrArg S ?_))
  refine congrArg₂ ix2 (Fin.ext ?_) (Fin.ext ?_)
  · exact (off11 ⟨k, hk⟩).1
  · have h := (off11 ⟨k, hk⟩).2
    simp only [h]; omega

/-- Block 10 after its turns. -/
theorem st11_flags {H : ℕ → ℕ → Bool} (S : Vec Ideal S2048x2048 .f32)
    (hS : ∀ i j : Fin 2048, S (ix2 i j) = b2e (H i j)) (init : FVec Ideal S1x128 .f32)
    (h0 : ∀ l : Fin 128, init (ix2 0 l) = b2e (kp H 1280 (1280 + l))) (l : Fin 128) :
    st11 (F := Ideal) (nv828 (F := Ideal) S) S init k1_t11_loop.trips (ix2 0 l) = b2e (kp H (1280 + 128) (1280 + l)) :=
  block_flags 1280 (fun k l => st11 (F := Ideal) (nv828 (F := Ideal) S) S init k (ix2 0 l)) h0
    (fun k hk l => (st11_step S init k hk l).trans (by rw [hS])) 128 le_rfl l

theorem off12 : ∀ k : Fin k1_t12_loop.trips, k1_off12 k 0 = 1408 + k ∧ k1_off12 k 1 = 0 := by decide +kernel

/-- A turn of block 11. -/
theorem st12_step (S : Vec Ideal S2048x2048 .f32) (init : FVec Ideal S1x128 .f32) (k : ℕ) (hk : k < 128) (l : Fin 128) :
    st12 (F := Ideal) (nv828 (F := Ideal) S) S init (k + 1) (ix2 0 l)
      = @HMul.hMul EReal EReal EReal _ (st12 (F := Ideal) (nv828 (F := Ideal) S) S init k (ix2 0 l))
        (1 - @HMul.hMul EReal EReal EReal _ (st12 (F := Ideal) (nv828 (F := Ideal) S) S init k (ix2 0 (⟨k, hk⟩ : Fin 128)))
          (S (ix2 (⟨1408 + k, by omega⟩ : Fin 2048) (⟨1408 + l, by omega⟩ : Fin 2048)))) := by
  rw [st12, dif_pos (show k < k1_t12_loop.trips from hk)]
  pointwise [k1_pay139, nv828]
  refine congrArg₂ (fun a b : EReal => a * (1 - b)) rfl (congrArg₂ (fun a b : EReal => a * b) (pick_flag _ k hk) (congrArg S ?_))
  refine congrArg₂ ix2 (Fin.ext ?_) (Fin.ext ?_)
  · exact (off12 ⟨k, hk⟩).1
  · have h := (off12 ⟨k, hk⟩).2
    simp only [h]; omega

/-- Block 11 after its turns. -/
theorem st12_flags {H : ℕ → ℕ → Bool} (S : Vec Ideal S2048x2048 .f32)
    (hS : ∀ i j : Fin 2048, S (ix2 i j) = b2e (H i j)) (init : FVec Ideal S1x128 .f32)
    (h0 : ∀ l : Fin 128, init (ix2 0 l) = b2e (kp H 1408 (1408 + l))) (l : Fin 128) :
    st12 (F := Ideal) (nv828 (F := Ideal) S) S init k1_t12_loop.trips (ix2 0 l) = b2e (kp H (1408 + 128) (1408 + l)) :=
  block_flags 1408 (fun k l => st12 (F := Ideal) (nv828 (F := Ideal) S) S init k (ix2 0 l)) h0
    (fun k hk l => (st12_step S init k hk l).trans (by rw [hS])) 128 le_rfl l

theorem off13 : ∀ k : Fin k1_t13_loop.trips, k1_off13 k 0 = 1536 + k ∧ k1_off13 k 1 = 0 := by decide +kernel

/-- A turn of block 12. -/
theorem st13_step (S : Vec Ideal S2048x2048 .f32) (init : FVec Ideal S1x128 .f32) (k : ℕ) (hk : k < 128) (l : Fin 128) :
    st13 (F := Ideal) (nv828 (F := Ideal) S) S init (k + 1) (ix2 0 l)
      = @HMul.hMul EReal EReal EReal _ (st13 (F := Ideal) (nv828 (F := Ideal) S) S init k (ix2 0 l))
        (1 - @HMul.hMul EReal EReal EReal _ (st13 (F := Ideal) (nv828 (F := Ideal) S) S init k (ix2 0 (⟨k, hk⟩ : Fin 128)))
          (S (ix2 (⟨1536 + k, by omega⟩ : Fin 2048) (⟨1536 + l, by omega⟩ : Fin 2048)))) := by
  rw [st13, dif_pos (show k < k1_t13_loop.trips from hk)]
  pointwise [k1_pay142, nv828]
  refine congrArg₂ (fun a b : EReal => a * (1 - b)) rfl (congrArg₂ (fun a b : EReal => a * b) (pick_flag _ k hk) (congrArg S ?_))
  refine congrArg₂ ix2 (Fin.ext ?_) (Fin.ext ?_)
  · exact (off13 ⟨k, hk⟩).1
  · have h := (off13 ⟨k, hk⟩).2
    simp only [h]; omega

/-- Block 12 after its turns. -/
theorem st13_flags {H : ℕ → ℕ → Bool} (S : Vec Ideal S2048x2048 .f32)
    (hS : ∀ i j : Fin 2048, S (ix2 i j) = b2e (H i j)) (init : FVec Ideal S1x128 .f32)
    (h0 : ∀ l : Fin 128, init (ix2 0 l) = b2e (kp H 1536 (1536 + l))) (l : Fin 128) :
    st13 (F := Ideal) (nv828 (F := Ideal) S) S init k1_t13_loop.trips (ix2 0 l) = b2e (kp H (1536 + 128) (1536 + l)) :=
  block_flags 1536 (fun k l => st13 (F := Ideal) (nv828 (F := Ideal) S) S init k (ix2 0 l)) h0
    (fun k hk l => (st13_step S init k hk l).trans (by rw [hS])) 128 le_rfl l

theorem off14 : ∀ k : Fin k1_t14_loop.trips, k1_off14 k 0 = 1664 + k ∧ k1_off14 k 1 = 0 := by decide +kernel

/-- A turn of block 13. -/
theorem st14_step (S : Vec Ideal S2048x2048 .f32) (init : FVec Ideal S1x128 .f32) (k : ℕ) (hk : k < 128) (l : Fin 128) :
    st14 (F := Ideal) (nv828 (F := Ideal) S) S init (k + 1) (ix2 0 l)
      = @HMul.hMul EReal EReal EReal _ (st14 (F := Ideal) (nv828 (F := Ideal) S) S init k (ix2 0 l))
        (1 - @HMul.hMul EReal EReal EReal _ (st14 (F := Ideal) (nv828 (F := Ideal) S) S init k (ix2 0 (⟨k, hk⟩ : Fin 128)))
          (S (ix2 (⟨1664 + k, by omega⟩ : Fin 2048) (⟨1664 + l, by omega⟩ : Fin 2048)))) := by
  rw [st14, dif_pos (show k < k1_t14_loop.trips from hk)]
  pointwise [k1_pay145, nv828]
  refine congrArg₂ (fun a b : EReal => a * (1 - b)) rfl (congrArg₂ (fun a b : EReal => a * b) (pick_flag _ k hk) (congrArg S ?_))
  refine congrArg₂ ix2 (Fin.ext ?_) (Fin.ext ?_)
  · exact (off14 ⟨k, hk⟩).1
  · have h := (off14 ⟨k, hk⟩).2
    simp only [h]; omega

/-- Block 13 after its turns. -/
theorem st14_flags {H : ℕ → ℕ → Bool} (S : Vec Ideal S2048x2048 .f32)
    (hS : ∀ i j : Fin 2048, S (ix2 i j) = b2e (H i j)) (init : FVec Ideal S1x128 .f32)
    (h0 : ∀ l : Fin 128, init (ix2 0 l) = b2e (kp H 1664 (1664 + l))) (l : Fin 128) :
    st14 (F := Ideal) (nv828 (F := Ideal) S) S init k1_t14_loop.trips (ix2 0 l) = b2e (kp H (1664 + 128) (1664 + l)) :=
  block_flags 1664 (fun k l => st14 (F := Ideal) (nv828 (F := Ideal) S) S init k (ix2 0 l)) h0
    (fun k hk l => (st14_step S init k hk l).trans (by rw [hS])) 128 le_rfl l

theorem off15 : ∀ k : Fin k1_t15_loop.trips, k1_off15 k 0 = 1792 + k ∧ k1_off15 k 1 = 0 := by decide +kernel

/-- A turn of block 14. -/
theorem st15_step (S : Vec Ideal S2048x2048 .f32) (init : FVec Ideal S1x128 .f32) (k : ℕ) (hk : k < 128) (l : Fin 128) :
    st15 (F := Ideal) (nv828 (F := Ideal) S) S init (k + 1) (ix2 0 l)
      = @HMul.hMul EReal EReal EReal _ (st15 (F := Ideal) (nv828 (F := Ideal) S) S init k (ix2 0 l))
        (1 - @HMul.hMul EReal EReal EReal _ (st15 (F := Ideal) (nv828 (F := Ideal) S) S init k (ix2 0 (⟨k, hk⟩ : Fin 128)))
          (S (ix2 (⟨1792 + k, by omega⟩ : Fin 2048) (⟨1792 + l, by omega⟩ : Fin 2048)))) := by
  rw [st15, dif_pos (show k < k1_t15_loop.trips from hk)]
  pointwise [k1_pay148, nv828]
  refine congrArg₂ (fun a b : EReal => a * (1 - b)) rfl (congrArg₂ (fun a b : EReal => a * b) (pick_flag _ k hk) (congrArg S ?_))
  refine congrArg₂ ix2 (Fin.ext ?_) (Fin.ext ?_)
  · exact (off15 ⟨k, hk⟩).1
  · have h := (off15 ⟨k, hk⟩).2
    simp only [h]; omega

/-- Block 14 after its turns. -/
theorem st15_flags {H : ℕ → ℕ → Bool} (S : Vec Ideal S2048x2048 .f32)
    (hS : ∀ i j : Fin 2048, S (ix2 i j) = b2e (H i j)) (init : FVec Ideal S1x128 .f32)
    (h0 : ∀ l : Fin 128, init (ix2 0 l) = b2e (kp H 1792 (1792 + l))) (l : Fin 128) :
    st15 (F := Ideal) (nv828 (F := Ideal) S) S init k1_t15_loop.trips (ix2 0 l) = b2e (kp H (1792 + 128) (1792 + l)) :=
  block_flags 1792 (fun k l => st15 (F := Ideal) (nv828 (F := Ideal) S) S init k (ix2 0 l)) h0
    (fun k hk l => (st15_step S init k hk l).trans (by rw [hS])) 128 le_rfl l

theorem off16 : ∀ k : Fin k1_t16_loop.trips, k1_off16 k 0 = 1920 + k ∧ k1_off16 k 1 = 0 := by decide +kernel

/-- A turn of block 15. -/
theorem st16_step (S : Vec Ideal S2048x2048 .f32) (init : FVec Ideal S1x128 .f32) (k : ℕ) (hk : k < 128) (l : Fin 128) :
    st16 (F := Ideal) (nv828 (F := Ideal) S) S init (k + 1) (ix2 0 l)
      = @HMul.hMul EReal EReal EReal _ (st16 (F := Ideal) (nv828 (F := Ideal) S) S init k (ix2 0 l))
        (1 - @HMul.hMul EReal EReal EReal _ (st16 (F := Ideal) (nv828 (F := Ideal) S) S init k (ix2 0 (⟨k, hk⟩ : Fin 128)))
          (S (ix2 (⟨1920 + k, by omega⟩ : Fin 2048) (⟨1920 + l, by omega⟩ : Fin 2048)))) := by
  rw [st16, dif_pos (show k < k1_t16_loop.trips from hk)]
  pointwise [k1_pay154, nv828]
  refine congrArg₂ (fun a b : EReal => a * (1 - b)) rfl (congrArg₂ (fun a b : EReal => a * b) (pick_flag _ k hk) (congrArg S ?_))
  refine congrArg₂ ix2 (Fin.ext ?_) (Fin.ext ?_)
  · exact (off16 ⟨k, hk⟩).1
  · have h := (off16 ⟨k, hk⟩).2
    simp only [h]; omega

/-- Block 15 after its turns. -/
theorem st16_flags {H : ℕ → ℕ → Bool} (S : Vec Ideal S2048x2048 .f32)
    (hS : ∀ i j : Fin 2048, S (ix2 i j) = b2e (H i j)) (init : FVec Ideal S1x128 .f32)
    (h0 : ∀ l : Fin 128, init (ix2 0 l) = b2e (kp H 1920 (1920 + l))) (l : Fin 128) :
    st16 (F := Ideal) (nv828 (F := Ideal) S) S init k1_t16_loop.trips (ix2 0 l) = b2e (kp H (1920 + 128) (1920 + l)) :=
  block_flags 1920 (fun k l => st16 (F := Ideal) (nv828 (F := Ideal) S) S init k (ix2 0 l)) h0
    (fun k hk l => (st16_step S init k hk l).trans (by rw [hS])) 128 le_rfl l

end Cert.KernelIdeal.Val
-- ==== Proof.Value.Blocks.lean ====
/- Who stands after each block of boxes. -/
module

public import proofs.«01_k».proof.Proof.Run.Segments
public import Idealize.ShloMosaic.Lib.Pointwise
public import Idealize.ShloMosaic.Lib.StableHlo.ReadAt
public import proofs.«01_k».proof.Proof.Value.Turns

@[expose] public section

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem Idealize.ShloMosaic.StableHlo

variable (m : (ℓ : Loc nD τ sig) → Buf (Elt Ideal) ℓ) (c : Dev nD)

open Cert.Greedy Cert.Spec

/-- The flags `v` are those after `n` turns. -/
def Standing (H : ℕ → ℕ → Bool) (v : FVec Ideal S1x2048 .f32) (n : ℕ) : Prop :=
  ∀ j : Fin 2048, v (ix2 0 j) = b2e (kp H n j)

variable {H : ℕ → ℕ → Bool} (hH : ∀ i j, H i j = true → i < j) (S : Vec Ideal S2048x2048 .f32)
  (hS : ∀ i j : Fin 2048, S (ix2 i j) = b2e (H i j))

theorem keep0 : Standing H (nv829 (F := Ideal) S) 0 := fun j => by
  pointwise [nv829, k1_pay103]
  rfl

include hH hS in
/-- Block 0's own flags when its turns are over. -/
theorem blk1 (l : Fin 128) : (nv832 (F := Ideal) S : FVec Ideal S1x128 .f32) (ix2 0 l) = b2e (kp H (0 + 128) (0 + l)) := by
  refine st1_flags S hS _ (fun l => ?_) l
  pointwise [k1_pay104, k1_pay103]
  rfl

include hH hS in
theorem keep1 : Standing H (k1_pay107 (nv829 S) (nv834 S) (ncst_251 S) : FVec Ideal S1x2048 .f32) 128 := fun j => by
  refine Eq.trans (b := @HMul.hMul EReal EReal EReal _ ((nv829 S : FVec Ideal S1x2048 .f32) (ix2 0 j))
    (if 0 < ∑ x : Fin 128, @HMul.hMul EReal EReal EReal _ ((nv832 (F := Ideal) S : FVec Ideal S1x128 .f32) (ix2 0 x)) ((nv833 (F := Ideal) S : FVec Ideal S128x2048 .f32) (ix2 x j)) then 0 else 1)) ?_
    (block_strikes hH 0 _ _ _ j (blk1 hH S hS) (fun l => ?_) (keep0 S j))
  · pointwise [k1_pay107, nv834, k1_pay106, ncst_251]
  · pointwise [nv833]
    exact hS (⟨l, by omega⟩ : Fin 2048) j

include hH hS in
/-- Block 1's own flags when its turns are over. -/
theorem blk2 (l : Fin 128) : (nv843 (F := Ideal) S : FVec Ideal S1x128 .f32) (ix2 0 l) = b2e (kp H (128 + 128) (128 + l)) := by
  refine st2_flags S hS _ (fun l => ?_) l
  have h := keep1 hH S hS (⟨128 + l, by omega⟩ : Fin 2048)
  refine Eq.trans ?_ h
  pointwise [k1_pay108]

include hH hS in
theorem keep2 : Standing H (k1_pay110 (nv829 S) (nv834 S) (ncst_251 S) (nv843 S) (nv844 S) : FVec Ideal S1x2048 .f32) 256 := fun j => by
  refine Eq.trans (b := @HMul.hMul EReal EReal EReal _ ((k1_pay107 (nv829 S) (nv834 S) (ncst_251 S) : FVec Ideal S1x2048 .f32) (ix2 0 j))
    (if 0 < ∑ x : Fin 128, @HMul.hMul EReal EReal EReal _ ((nv843 (F := Ideal) S : FVec Ideal S1x128 .f32) (ix2 0 x)) ((nv844 (F := Ideal) S : FVec Ideal S128x2048 .f32) (ix2 x j)) then 0 else 1)) ?_
    (block_strikes hH 128 _ _ _ j (blk2 hH S hS) (fun l => ?_) (keep1 hH S hS j))
  · pointwise [k1_pay110]
  · pointwise [nv844]
    exact hS (⟨128 + l, by omega⟩ : Fin 2048) j

include hH hS in
/-- Block 2's own flags when its turns are over. -/
theorem blk3 (l : Fin 128) : (nv854 (F := Ideal) S : FVec Ideal S1x128 .f32) (ix2 0 l) = b2e (kp H (256 + 128) (256 + l)) := by
  refine st3_flags S hS _ (fun l => ?_) l
  have h := keep2 hH S hS (⟨256 + l, by omega⟩ : Fin 2048)
  refine Eq.trans ?_ h
  pointwise [k1_pay111]

include hH hS in
theorem keep3 : Standing H (nv862 S : FVec Ideal S1x2048 .f32) 384 := fun j => by
  refine Eq.trans (b := @HMul.hMul EReal EReal EReal _ ((k1_pay110 (nv829 S) (nv834 S) (ncst_251 S) (nv843 S) (nv844 S) : FVec Ideal S1x2048 .f32) (ix2 0 j))
    (if 0 < ∑ x : Fin 128, @HMul.hMul EReal EReal EReal _ ((nv854 (F := Ideal) S : FVec Ideal S1x128 .f32) (ix2 0 x)) ((nv855 (F := Ideal) S : FVec Ideal S128x2048 .f32) (ix2 x j)) then 0 else 1)) ?_
    (block_strikes hH 256 _ _ _ j (blk3 hH S hS) (fun l => ?_) (keep2 hH S hS j))
  · pointwise [nv862, k1_pay113]
  · pointwise [nv855]
    exact hS (⟨256 + l, by omega⟩ : Fin 2048) j

include hH hS in
/-- Block 3's own flags when its turns are over. -/
theorem blk4 (l : Fin 128) : (nv865 (F := Ideal) S : FVec Ideal S1x128 .f32) (ix2 0 l) = b2e (kp H (384 + 128) (384 + l)) := by
  refine st4_flags S hS _ (fun l => ?_) l
  have h := keep3 hH S hS (⟨384 + l, by omega⟩ : Fin 2048)
  refine Eq.trans ?_ h
  pointwise [k1_pay114, nv862]

include hH hS in
theorem keep4 : Standing H (k1_pay116 (nv862 S) (nv865 S) (nv866 S) : FVec Ideal S1x2048 .f32) 512 := fun j => by
  refine Eq.trans (b := @HMul.hMul EReal EReal EReal _ ((nv862 S : FVec Ideal S1x2048 .f32) (ix2 0 j))
    (if 0 < ∑ x : Fin 128, @HMul.hMul EReal EReal EReal _ ((nv865 (F := Ideal) S : FVec Ideal S1x128 .f32) (ix2 0 x)) ((nv866 (F := Ideal) S : FVec Ideal S128x2048 .f32) (ix2 x j)) then 0 else 1)) ?_
    (block_strikes hH 384 _ _ _ j (blk4 hH S hS) (fun l => ?_) (keep3 hH S hS j))
  · pointwise [k1_pay116]
  · pointwise [nv866]
    exact hS (⟨384 + l, by omega⟩ : Fin 2048) j

include hH hS in
/-- Block 4's own flags when its turns are over. -/
theorem blk5 (l : Fin 128) : (nv876 (F := Ideal) S : FVec Ideal S1x128 .f32) (ix2 0 l) = b2e (kp H (512 + 128) (512 + l)) := by
  refine st5_flags S hS _ (fun l => ?_) l
  have h := keep4 hH S hS (⟨512 + l, by omega⟩ : Fin 2048)
  refine Eq.trans ?_ h
  pointwise [k1_pay117]

include hH hS in
theorem keep5 : Standing H (k1_pay119 (nv862 S) (nv865 S) (nv866 S) (nv876 S) (nv877 S) : FVec Ideal S1x2048 .f32) 640 := fun j => by
  refine Eq.trans (b := @HMul.hMul EReal EReal EReal _ ((k1_pay116 (nv862 S) (nv865 S) (nv866 S) : FVec Ideal S1x2048 .f32) (ix2 0 j))
    (if 0 < ∑ x : Fin 128, @HMul.hMul EReal EReal EReal _ ((nv876 (F := Ideal) S : FVec Ideal S1x128 .f32) (ix2 0 x)) ((nv877 (F := Ideal) S : FVec Ideal S128x2048 .f32) (ix2 x j)) then 0 else 1)) ?_
    (block_strikes hH 512 _ _ _ j (blk5 hH S hS) (fun l => ?_) (keep4 hH S hS j))
  · pointwise [k1_pay119]
  · pointwise [nv877]
    exact hS (⟨512 + l, by omega⟩ : Fin 2048) j

include hH hS in
/-- Block 5's own flags when its turns are over. -/
theorem blk6 (l : Fin 128) : (nv887 (F := Ideal) S : FVec Ideal S1x128 .f32) (ix2 0 l) = b2e (kp H (640 + 128) (640 + l)) := by
  refine st6_flags S hS _ (fun l => ?_) l
  have h := keep5 hH S hS (⟨640 + l, by omega⟩ : Fin 2048)
  refine Eq.trans ?_ h
  pointwise [k1_pay120]

include hH hS in
theorem keep6 : Standing H (nv895 S : FVec Ideal S1x2048 .f32) 768 := fun j => by
  refine Eq.trans (b := @HMul.hMul EReal EReal EReal _ ((k1_pay119 (nv862 S) (nv865 S) (nv866 S) (nv876 S) (nv877 S) : FVec Ideal S1x2048 .f32) (ix2 0 j))
    (if 0 < ∑ x : Fin 128, @HMul.hMul EReal EReal EReal _ ((nv887 (F := Ideal) S : FVec Ideal S1x128 .f32) (ix2 0 x)) ((nv888 (F := Ideal) S : FVec Ideal S128x2048 .f32) (ix2 x j)) then 0 else 1)) ?_
    (block_strikes hH 640 _ _ _ j (blk6 hH S hS) (fun l => ?_) (keep5 hH S hS j))
  · pointwise [nv895, k1_pay122]
  · pointwise [nv888]
    exact hS (⟨640 + l, by omega⟩ : Fin 2048) j

include hH hS in
/-- Block 6's own flags when its turns are over. -/
theorem blk7 (l : Fin 128) : (nv898 (F := Ideal) S : FVec Ideal S1x128 .f32) (ix2 0 l) = b2e (kp H (768 + 128) (768 + l)) := by
  refine st7_flags S hS _ (fun l => ?_) l
  have h := keep6 hH S hS (⟨768 + l, by omega⟩ : Fin 2048)
  refine Eq.trans ?_ h
  pointwise [k1_pay123, nv895]

include hH hS in
theorem keep7 : Standing H (k1_pay125 (nv895 S) (nv898 S) (nv899 S) : FVec Ideal S1x2048 .f32) 896 := fun j => by
  refine Eq.trans (b := @HMul.hMul EReal EReal EReal _ ((nv895 S : FVec Ideal S1x2048 .f32) (ix2 0 j))
    (if 0 < ∑ x : Fin 128, @HMul.hMul EReal EReal EReal _ ((nv898 (F := Ideal) S : FVec Ideal S1x128 .f32) (ix2 0 x)) ((nv899 (F := Ideal) S : FVec Ideal S128x2048 .f32) (ix2 x j)) then 0 else 1)) ?_
    (block_strikes hH 768 _ _ _ j (blk7 hH S hS) (fun l => ?_) (keep6 hH S hS j))
  · pointwise [k1_pay125]
  · pointwise [nv899]
    exact hS (⟨768 + l, by omega⟩ : Fin 2048) j

include hH hS in
/-- Block 7's own flags when its turns are over. -/
theorem blk8 (l : Fin 128) : (nv909 (F := Ideal) S : FVec Ideal S1x128 .f32) (ix2 0 l) = b2e (kp H (896 + 128) (896 + l)) := by
  refine st8_flags S hS _ (fun l => ?_) l
  have h := keep7 hH S hS (⟨896 + l, by omega⟩ : Fin 2048)
  refine Eq.trans ?_ h
  pointwise [k1_pay126]

include hH hS in
theorem keep8 : Standing H (k1_pay128 (nv895 S) (nv898 S) (nv899 S) (nv909 S) (nv910 S) : FVec Ideal S1x2048 .f32) 1024 := fun j => by
  refine Eq.trans (b := @HMul.hMul EReal EReal EReal _ ((k1_pay125 (nv895 S) (nv898 S) (nv899 S) : FVec Ideal S1x2048 .f32) (ix2 0 j))
    (if 0 < ∑ x : Fin 128, @HMul.hMul EReal EReal EReal _ ((nv909 (F := Ideal) S : FVec Ideal S1x128 .f32) (ix2 0 x)) ((nv910 (F := Ideal) S : FVec Ideal S128x2048 .f32) (ix2 x j)) then 0 else 1)) ?_
    (block_strikes hH 896 _ _ _ j (blk8 hH S hS) (fun l => ?_) (keep7 hH S hS j))
  · pointwise [k1_pay128]
  · pointwise [nv910]
    exact hS (⟨896 + l, by omega⟩ : Fin 2048) j

include hH hS in
/-- Block 8's own flags when its turns are over. -/
theorem blk9 (l : Fin 128) : (nv920 (F := Ideal) S : FVec Ideal S1x128 .f32) (ix2 0 l) = b2e (kp H (1024 + 128) (1024 + l)) := by
  refine st9_flags S hS _ (fun l => ?_) l
  have h := keep8 hH S hS (⟨1024 + l, by omega⟩ : Fin 2048)
  refine Eq.trans ?_ h
  pointwise [k1_pay129]

include hH hS in
theorem keep9 : Standing H (nv928 S : FVec Ideal S1x2048 .f32) 1152 := fun j => by
  refine Eq.trans (b := @HMul.hMul EReal EReal EReal _ ((k1_pay128 (nv895 S) (nv898 S) (nv899 S) (nv909 S) (nv910 S) : FVec Ideal S1x2048 .f32) (ix2 0 j))
    (if 0 < ∑ x : Fin 128, @HMul.hMul EReal EReal EReal _ ((nv920 (F := Ideal) S : FVec Ideal S1x128 .f32) (ix2 0 x)) ((nv921 (F := Ideal) S : FVec Ideal S128x2048 .f32) (ix2 x j)) then 0 else 1)) ?_
    (block_strikes hH 1024 _ _ _ j (blk9 hH S hS) (fun l => ?_) (keep8 hH S hS j))
  · pointwise [nv928, k1_pay131]
  · pointwise [nv921]
    exact hS (⟨1024 + l, by omega⟩ : Fin 2048) j

include hH hS in
/-- Block 9's own flags when its turns are over. -/
theorem blk10 (l : Fin 128) : (nv931 (F := Ideal) S : FVec Ideal S1x128 .f32) (ix2 0 l) = b2e (kp H (1152 + 128) (1152 + l)) := by
  refine st10_flags S hS _ (fun l => ?_) l
  have h := keep9 hH S hS (⟨1152 + l, by omega⟩ : Fin 2048)
  refine Eq.trans ?_ h
  pointwise [nv929, k1_pay132, nv928]

include hH hS in
theorem keep10 : Standing H (k1_pay134 (nv928 S) (nv931 S) (nv932 S) : FVec Ideal S1x2048 .f32) 1280 := fun j => by
  refine Eq.trans (b := @HMul.hMul EReal EReal EReal _ ((nv928 S : FVec Ideal S1x2048 .f32) (ix2 0 j))
    (if 0 < ∑ x : Fin 128, @HMul.hMul EReal EReal EReal _ ((nv931 (F := Ideal) S : FVec Ideal S1x128 .f32) (ix2 0 x)) ((nv932 (F := Ideal) S : FVec Ideal S128x2048 .f32) (ix2 x j)) then 0 else 1)) ?_
    (block_strikes hH 1152 _ _ _ j (blk10 hH S hS) (fun l => ?_) (keep9 hH S hS j))
  · pointwise [k1_pay134]
  · pointwise [nv932]
    exact hS (⟨1152 + l, by omega⟩ : Fin 2048) j

include hH hS in
/-- Block 10's own flags when its turns are over. -/
theorem blk11 (l : Fin 128) : (nv942 (F := Ideal) S : FVec Ideal S1x128 .f32) (ix2 0 l) = b2e (kp H (1280 + 128) (1280 + l)) := by
  refine st11_flags S hS _ (fun l => ?_) l
  have h := keep10 hH S hS (⟨1280 + l, by omega⟩ : Fin 2048)
  refine Eq.trans ?_ h
  pointwise [k1_pay135]

include hH hS in
theorem keep11 : Standing H (k1_pay137 (nv928 S) (nv931 S) (nv932 S) (nv942 S) (nv943 S) : FVec Ideal S1x2048 .f32) 1408 := fun j => by
  refine Eq.trans (b := @HMul.hMul EReal EReal EReal _ ((k1_pay134 (nv928 S) (nv931 S) (nv932 S) : FVec Ideal S1x2048 .f32) (ix2 0 j))
    (if 0 < ∑ x : Fin 128, @HMul.hMul EReal EReal EReal _ ((nv942 (F := Ideal) S : FVec Ideal S1x128 .f32) (ix2 0 x)) ((nv943 (F := Ideal) S : FVec Ideal S128x2048 .f32) (ix2 x j)) then 0 else 1)) ?_
    (block_strikes hH 1280 _ _ _ j (blk11 hH S hS) (fun l => ?_) (keep10 hH S hS j))
  · pointwise [k1_pay137]
  · pointwise [nv943]
    exact hS (⟨1280 + l, by omega⟩ : Fin 2048) j

include hH hS in
/-- Block 11's own flags when its turns are over. -/
theorem blk12 (l : Fin 128) : (nv953 (F := Ideal) S : FVec Ideal S1x128 .f32) (ix2 0 l) = b2e (kp H (1408 + 128) (1408 + l)) := by
  refine st12_flags S hS _ (fun l => ?_) l
  have h := keep11 hH S hS (⟨1408 + l, by omega⟩ : Fin 2048)
  refine Eq.trans ?_ h
  pointwise [k1_pay138]

include hH hS in
theorem keep12 : Standing H (nv961 S : FVec Ideal S1x2048 .f32) 1536 := fun j => by
  refine Eq.trans (b := @HMul.hMul EReal EReal EReal _ ((k1_pay137 (nv928 S) (nv931 S) (nv932 S) (nv942 S) (nv943 S) : FVec Ideal S1x2048 .f32) (ix2 0 j))
    (if 0 < ∑ x : Fin 128, @HMul.hMul EReal EReal EReal _ ((nv953 (F := Ideal) S : FVec Ideal S1x128 .f32) (ix2 0 x)) ((nv954 (F := Ideal) S : FVec Ideal S128x2048 .f32) (ix2 x j)) then 0 else 1)) ?_
    (block_strikes hH 1408 _ _ _ j (blk12 hH S hS) (fun l => ?_) (keep11 hH S hS j))
  · pointwise [nv961, k1_pay140]
  · pointwise [nv954]
    exact hS (⟨1408 + l, by omega⟩ : Fin 2048) j

include hH hS in
/-- Block 12's own flags when its turns are over. -/
theorem blk13 (l : Fin 128) : (nv964 (F := Ideal) S : FVec Ideal S1x128 .f32) (ix2 0 l) = b2e (kp H (1536 + 128) (1536 + l)) := by
  refine st13_flags S hS _ (fun l => ?_) l
  have h := keep12 hH S hS (⟨1536 + l, by omega⟩ : Fin 2048)
  refine Eq.trans ?_ h
  pointwise [nv962, k1_pay141, nv961]

include hH hS in
theorem keep13 : Standing H (k1_pay143 (nv961 S) (nv964 S) (nv965 S) : FVec Ideal S1x2048 .f32) 1664 := fun j => by
  refine Eq.trans (b := @HMul.hMul EReal EReal EReal _ ((nv961 S : FVec Ideal S1x2048 .f32) (ix2 0 j))
    (if 0 < ∑ x : Fin 128, @HMul.hMul EReal EReal EReal _ ((nv964 (F := Ideal) S : FVec Ideal S1x128 .f32) (ix2 0 x)) ((nv965 (F := Ideal) S : FVec Ideal S128x2048 .f32) (ix2 x j)) then 0 else 1)) ?_
    (block_strikes hH 1536 _ _ _ j (blk13 hH S hS) (fun l => ?_) (keep12 hH S hS j))
  · pointwise [k1_pay143]
  · pointwise [nv965]
    exact hS (⟨1536 + l, by omega⟩ : Fin 2048) j

include hH hS in
/-- Block 13's own flags when its turns are over. -/
theorem blk14 (l : Fin 128) : (nv975 (F := Ideal) S : FVec Ideal S1x128 .f32) (ix2 0 l) = b2e (kp H (1664 + 128) (1664 + l)) := by
  refine st14_flags S hS _ (fun l => ?_) l
  have h := keep13 hH S hS (⟨1664 + l, by omega⟩ : Fin 2048)
  refine Eq.trans ?_ h
  pointwise [k1_pay144]

include hH hS in
theorem keep14 : Standing H (nv983 S : FVec Ideal S1x2048 .f32) 1792 := fun j => by
  refine Eq.trans (b := @HMul.hMul EReal EReal EReal _ ((k1_pay143 (nv961 S) (nv964 S) (nv965 S) : FVec Ideal S1x2048 .f32) (ix2 0 j))
    (if 0 < ∑ x : Fin 128, @HMul.hMul EReal EReal EReal _ ((nv975 (F := Ideal) S : FVec Ideal S1x128 .f32) (ix2 0 x)) ((nv976 (F := Ideal) S : FVec Ideal S128x2048 .f32) (ix2 x j)) then 0 else 1)) ?_
    (block_strikes hH 1664 _ _ _ j (blk14 hH S hS) (fun l => ?_) (keep13 hH S hS j))
  · pointwise [nv983, k1_pay146]
  · pointwise [nv976]
    exact hS (⟨1664 + l, by omega⟩ : Fin 2048) j

include hH hS in
/-- Block 14's own flags when its turns are over. -/
theorem blk15 (l : Fin 128) : (nv986 (F := Ideal) S : FVec Ideal S1x128 .f32) (ix2 0 l) = b2e (kp H (1792 + 128) (1792 + l)) := by
  refine st15_flags S hS _ (fun l => ?_) l
  have h := keep14 hH S hS (⟨1792 + l, by omega⟩ : Fin 2048)
  refine Eq.trans ?_ h
  pointwise [k1_pay147, nv983]

include hH hS in
theorem keep15 : Standing H (k1_pay152 (nv983 S) (nv990 S) (nv991 S) (nv992 S) : FVec Ideal S1x2048 .f32) 1920 := fun j => by
  refine Eq.trans (b := @HMul.hMul EReal EReal EReal _ ((nv983 S : FVec Ideal S1x2048 .f32) (ix2 0 j))
    (if 0 < ∑ x : Fin 128, @HMul.hMul EReal EReal EReal _ ((nv986 (F := Ideal) S : FVec Ideal S1x128 .f32) (ix2 0 x)) ((nv987 (F := Ideal) S : FVec Ideal S128x2048 .f32) (ix2 x j)) then 0 else 1)) ?_
    (block_strikes hH 1792 _ _ _ j (blk15 hH S hS) (fun l => ?_) (keep14 hH S hS j))
  · pointwise [k1_pay152, nv990, k1_pay149, nv991, k1_pay150, nv992, k1_pay151]
  · pointwise [nv987]
    exact hS (⟨1792 + l, by omega⟩ : Fin 2048) j

include hH hS in
/-- Block 15's own flags when its turns are over. -/
theorem blk16 (l : Fin 128) : (nv997 (F := Ideal) S : FVec Ideal S1x128 .f32) (ix2 0 l) = b2e (kp H (1920 + 128) (1920 + l)) := by
  refine st16_flags S hS _ (fun l => ?_) l
  have h := keep15 hH S hS (⟨1920 + l, by omega⟩ : Fin 2048)
  refine Eq.trans ?_ h
  pointwise [k1_pay153]

include hH hS in
theorem keep16 : Standing H (k1_pay155 (nv983 S) (nv990 S) (nv991 S) (nv992 S) (nv997 S) (nv998 S) : FVec Ideal S1x2048 .f32) 2048 := fun j => by
  refine Eq.trans (b := @HMul.hMul EReal EReal EReal _ ((k1_pay152 (nv983 S) (nv990 S) (nv991 S) (nv992 S) : FVec Ideal S1x2048 .f32) (ix2 0 j))
    (if 0 < ∑ x : Fin 128, @HMul.hMul EReal EReal EReal _ ((nv997 (F := Ideal) S : FVec Ideal S1x128 .f32) (ix2 0 x)) ((nv998 (F := Ideal) S : FVec Ideal S128x2048 .f32) (ix2 x j)) then 0 else 1)) ?_
    (block_strikes hH 1920 _ _ _ j (blk16 hH S hS) (fun l => ?_) (keep15 hH S hS j))
  · pointwise [k1_pay155]
  · pointwise [nv998]
    exact hS (⟨1920 + l, by omega⟩ : Fin 2048) j

end Cert.KernelIdeal.Val
-- ==== Proof.Value.Rank.lean ====
/- Those standing first, in order, then the rest in order: the place of each, and the stable sort that puts them there. -/
module

public import proofs.«01_k».proof.Proof.Value.Greedy
public import Idealize.ShloMosaic.Lib.SortFacts

@[expose] public section

noncomputable section

namespace Cert.Greedy

open Idealize.ShloMosaic

/-- How many of the first `n` numbers `f` picks. -/
def cnt (f : ℕ → Bool) (n : ℕ) : ℕ := ∑ i ∈ Finset.range n, if f i then 1 else 0

theorem cnt_succ (f : ℕ → Bool) (n : ℕ) : cnt f (n + 1) = cnt f n + if f n then 1 else 0 :=
  Finset.sum_range_succ _ _

theorem cnt_congr {f g : ℕ → Bool} {n : ℕ} (h : ∀ i, i < n → f i = g i) : cnt f n = cnt g n :=
  Finset.sum_congr rfl fun i hi => by rw [h i (Finset.mem_range.1 hi)]

theorem cnt_add_cnt_not (f : ℕ → Bool) (n : ℕ) : cnt f n + cnt (fun i => !f i) n = n := by
  induction n with
  | zero => rfl
  | succ n ih =>
    rw [cnt_succ, cnt_succ]
    cases f n <;> simp <;> omega

theorem sum_flags (f : ℕ → Bool) (n : ℕ) : (∑ i ∈ Finset.range n, b2e (f i)) = ((cnt f n : ℕ) : EReal) := by
  rw [cnt, Nat.cast_sum]
  refine Finset.sum_congr rfl fun i _ => ?_
  cases f i <;> simp [b2e]

theorem sum_below {M : Type} [AddCommMonoid M] (g : ℕ → M) {n q : ℕ} (hq : q ≤ n) :
    (∑ y : Fin n, if (y : ℕ) < q then g y else 0) = ∑ y ∈ Finset.range q, g y := by
  rw [Fin.sum_univ_eq_sum_range (fun y => if y < q then g y else 0) n, ← Finset.sum_filter]
  refine Finset.sum_congr ?_ fun _ _ => rfl
  ext y
  simp only [Finset.mem_filter, Finset.mem_range]
  omega

theorem sum_rows {M : Type} [AddCommMonoid M] (g : ℕ → M) (p : ℕ) :
    (∑ x ∈ Finset.range p, ∑ y : Fin 128, g (128 * x + y)) = ∑ i ∈ Finset.range (128 * p), g i := by
  induction p with
  | zero => rfl
  | succ p ih =>
    rw [Finset.sum_range_succ, ih, Nat.mul_succ, Finset.sum_range_add, Fin.sum_univ_eq_sum_range (fun y => g (128 * p + y)) 128]

/-- The count before place `q` of row `p` of 128, as a row's part and the rows above. -/
theorem sum_blocks {M : Type} [AddCommMonoid M] (g : ℕ → M) {p q : ℕ} (hp : p < 16) (hq : q < 128) :
    (∑ y : Fin 128, if (y : ℕ) < q then g (128 * p + y) else 0)
      + (∑ x : Fin 16, if (x : ℕ) < p then ∑ y : Fin 128, g (128 * x + y) else 0)
      = ∑ i ∈ Finset.range (128 * p + q), g i := by
  rw [sum_below (fun y => g (128 * p + y)) hq.le, sum_below (fun x => ∑ y : Fin 128, g (128 * x + y)) hp.le, sum_rows,
    Finset.sum_range_add, add_comm]

theorem filter_length (f : ℕ → Bool) (n : ℕ) : ((List.range n).filter f).length = cnt f n := by
  induction n with
  | zero => rfl
  | succ n ih =>
    rw [List.range_succ, List.filter_append, List.length_append, ih, cnt_succ]
    cases h : f n <;> simp [h]

/-- The number picked `r`-th has `r` picked before it. -/
theorem cnt_filter (f : ℕ → Bool) (n r : ℕ) (h : r < ((List.range n).filter f).length) :
    cnt f (((List.range n).filter f)[r]) = r := by
  induction n with
  | zero => simp at h
  | succ n ih =>
    simp only [List.range_succ, List.filter_append] at h ⊢
    by_cases hr : r < ((List.range n).filter f).length
    · rw [List.getElem_append_left hr]; exact ih hr
    · cases hf : f n
      · simp [hf] at h; exact absurd h hr
      · have hl : ([n] : List ℕ).filter f = [n] := by simp [hf]
        simp only [hl, List.length_append, List.length_singleton] at h
        rw [List.getElem_append_right (by omega)]
        simp only [hl, List.getElem_singleton]
        have := filter_length f n
        omega

/-- Those `f` picks among the first `N`, then the others. -/
def order (f : ℕ → Bool) (N : ℕ) : List ℕ := (List.range N).filter f ++ (List.range N).filter fun i => !f i

/-- Where each goes. -/
def dest (f : ℕ → Bool) (N x : ℕ) : ℕ := if f x then cnt f x else cnt f N + cnt (fun i => !f i) x

theorem order_length (f : ℕ → Bool) (N : ℕ) : (order f N).length = N := by
  rw [order, List.length_append, filter_length, filter_length, cnt_add_cnt_not]

theorem mem_order (f : ℕ → Bool) {N x : ℕ} : x ∈ order f N ↔ x < N := by
  simp only [order, List.mem_append, List.mem_filter, List.mem_range]
  cases f x <;> simp

theorem order_picked (f : ℕ → Bool) {N r : ℕ} (h : r < (order f N).length) : f ((order f N)[r]) = decide (r < cnt f N) := by
  by_cases hr : r < cnt f N
  · have hr' : r < ((List.range N).filter f).length := by rwa [filter_length]
    rw [decide_eq_true hr]
    simp only [order]
    rw [List.getElem_append_left hr']
    exact (List.mem_filter.1 (List.getElem_mem hr')).2
  · have hr' : ((List.range N).filter f).length ≤ r := by rw [filter_length]; omega
    rw [decide_eq_false hr]
    simp only [order] at h ⊢
    rw [List.getElem_append_right hr']
    have := (List.mem_filter.1 (List.getElem_mem
      (l := (List.range N).filter fun i => !f i) (n := r - ((List.range N).filter f).length)
      (by rw [List.length_append] at h; omega))).2
    simpa using this

theorem dest_order (f : ℕ → Bool) {N r : ℕ} (h : r < (order f N).length) : dest f N ((order f N)[r]) = r := by
  have hp := order_picked f h
  by_cases hr : r < cnt f N
  · have hr' : r < ((List.range N).filter f).length := by rwa [filter_length]
    rw [decide_eq_true hr] at hp
    rw [dest, if_pos hp]
    simp only [order]
    rw [List.getElem_append_left hr']
    exact cnt_filter f N r hr'
  · have hr' : ((List.range N).filter f).length ≤ r := by rw [filter_length]; omega
    rw [decide_eq_false hr] at hp
    rw [dest, hp]
    simp only [order] at h ⊢
    rw [List.getElem_append_right hr', if_neg (by decide), cnt_filter, filter_length]
    omega

/-- Only one goes to place `r`. -/
theorem dest_eq_iff (f : ℕ → Bool) {N x r : ℕ} (hx : x < N) (h : r < (order f N).length) :
    dest f N x = r ↔ x = (order f N)[r] := by
  constructor
  · intro hd
    obtain ⟨r', h', rfl⟩ := List.getElem_of_mem ((mem_order f).2 hx)
    rw [dest_order f h'] at hd
    subst hd; rfl
  · rintro rfl; exact dest_order f h

/-- A stable sort that only tells those picked from the others. -/
theorem stableSort_split {ι : Type} (before : ι → ι → Bool) (kept : ι → Bool) (l : List ι)
    (h1 : l.Pairwise fun a b => kept a = true → before b a = false)
    (h2 : ∀ a b, kept a = false → before b a = kept b) :
    stableSort before l = l.filter kept ++ l.filter fun i => !kept i := by
  have ins : ∀ (a : ι) (k s : List ι), kept a = false → (∀ b ∈ k, kept b = true) → (∀ b ∈ s, kept b = false) →
      insertBefore before a (k ++ s) = k ++ a :: s := by
    intro a k s ha
    induction k with
    | nil =>
      intro _ hs
      cases s with
      | nil => rfl
      | cons b s =>
        show (if before b a then _ else _) = _
        rw [h2 a b ha, hs b (by simp)]; rfl
    | cons b k ih =>
      intro hk hs
      show (if before b a then _ else _) = _
      rw [h2 a b ha, hk b (by simp), if_pos rfl]
      exact congrArg (b :: ·) (ih (fun c hc => hk c (by simp [hc])) hs)
  induction l with
  | nil => rfl
  | cons a l ih =>
    rw [List.pairwise_cons] at h1
    show insertBefore before a (stableSort before l) = _
    rw [ih h1.2]
    cases ha : kept a
    · rw [ins a _ _ ha (fun b hb => (List.mem_filter.1 hb).2) (fun b hb => by simpa using (List.mem_filter.1 hb).2)]
      simp [ha]
    · have : ∀ b ∈ l.filter kept ++ l.filter (fun i => !kept i), before b a = false := by
        intro b hb
        rw [List.mem_append, List.mem_filter, List.mem_filter] at hb
        exact h1.1 b (by rcases hb with h | h <;> exact h.1) ha
      have hins : insertBefore before a (l.filter kept ++ l.filter fun i => !kept i)
          = a :: (l.filter kept ++ l.filter fun i => !kept i) := by
        cases hl : l.filter kept ++ l.filter (fun i => !kept i) with
        | nil => rfl
        | cons b m =>
          show (if before b a then _ else _) = _
          rw [this b (by rw [hl]; simp)]; rfl
      rw [hins]
      simp [ha]

/-- The same, of positions. -/
theorem sortedFrom_split {N : ℕ} (before : Fin N → Fin N → Bool) (f : ℕ → Bool)
    (h1 : ∀ a b : Fin N, a < b → f a = true → before b a = false)
    (h2 : ∀ a b : Fin N, f a = false → before b a = f b) (r : Fin N) :
    ((sortedFrom before r : Fin N) : ℕ) = (order f N)[(r : ℕ)]'(by rw [order_length]; exact r.2) := by
  have hs : sortPositions N before = (List.finRange N).filter (fun i : Fin N => f i.val) ++ (List.finRange N).filter fun i : Fin N => !f i.val :=
    stableSort_split before (fun i : Fin N => f i.val) _ ((List.pairwise_lt_finRange N).imp fun {a b} hab ha => h1 a b hab ha) h2
  have hm : (sortPositions N before).map Fin.val = order f N := by
    have hr : (List.finRange N).map Fin.val = List.range N := List.map_coe_finRange_eq_range
    rw [hs, order, ← hr, List.map_append, List.filter_map, List.filter_map]
    rfl
  have : ∀ (l : List ℕ) (hl : (sortPositions N before).map Fin.val = l) (h : (r : ℕ) < l.length),
      ((sortedFrom before r : Fin N) : ℕ) = l[(r : ℕ)] := by
    intro l hl h
    subst hl
    rw [List.getElem_map]
    rfl
  exact this _ hm _

end Cert.Greedy
-- ==== Proof.Value.Lit.lean ====
/- Float literals as reals: an anchor's half-extent word, its negation and its double. -/
module
public import Idealize.ShloMosaic.PureOps.Ideal
public import Idealize.ShloMosaic.Lib.IdealHost
public import Idealize.ShloMosaic.Lib.Pointwise
public import proofs.«01_k».proof.Proof.Gen.KernelIdeal
public import proofs.«01_k».proof.Proof.Gen.ReferenceIdeal
@[expose] public section
noncomputable section
namespace Cert.Lit
open Idealize.ShloMosaic

/-- The exponent field of a word. -/
def ex (b : BitVec 32) : ℕ := (BitVec.extractLsb' 23 8 b).toNat
/-- The fraction field of a word. -/
def fr (b : BitVec 32) : ℕ := (BitVec.extractLsb' 0 23 b).toNat
/-- The sign bit of a word. -/
def ng (b : BitVec 32) : Bool := BitVec.extractLsb' 31 1 b == 1#1

/-- A word with an exponent strictly between its bounds reads as a signed multiple of a power of two. -/
theorem ofBits_normal (b : BitVec 32) (h1 : ex b ≠ 255) (h0 : ex b ≠ 0) :
    Ideal.ofBits .f32 b = (((if ng b then -1 else 1) * ((2 ^ 23 + fr b : ℕ) : ℝ) * (2 : ℝ) ^ ((ex b : ℤ) - 127 - 23) : ℝ) : EReal) := by
  unfold ex at h1 h0
  unfold Ideal.ofBits
  dsimp only
  unfold Ideal.ieee ng fr ex
  dsimp only
  rw [if_neg (by simpa using h1), if_neg h0]
  norm_num

/-- The relation between the three words of an anchor: half an extent, its negation, and the whole extent. -/
def Anchor (b bn bw : BitVec 32) : Prop :=
  ex b ≠ 0 ∧ ex bw = ex b + 1 ∧ ex bw ≠ 255 ∧ ex b ≠ 255 ∧ ex bn = ex b ∧ fr bn = fr b ∧ fr bw = fr b ∧ ng b = false ∧ ng bw = false ∧ ng bn = true

instance (b bn bw : BitVec 32) : Decidable (Anchor b bn bw) := by unfold Anchor; infer_instance

theorem anchor_reals (b bn bw : BitVec 32) (h : Anchor b bn bw) :
    ∃ r : ℝ, Ideal.ofBits .f32 b = (r : EReal) ∧ Ideal.ofBits .f32 bn = ((-r : ℝ) : EReal) ∧ Ideal.ofBits .f32 bw = ((2 * r : ℝ) : EReal) := by
  obtain ⟨h0, hw, hw1, h1, hn, f1, f2, g1, g2, g3⟩ := h
  refine ⟨((2 ^ 23 + fr b : ℕ) : ℝ) * (2 : ℝ) ^ ((ex b : ℤ) - 127 - 23), ?_, ?_, ?_⟩
  · rw [ofBits_normal b h1 h0, g1]; norm_num
  · rw [ofBits_normal bn (by omega) (by omega), g3, hn, f1]
    apply congrArg; simp only [if_true]; ring
  · rw [ofBits_normal bw hw1 (by omega), g2, hw, f2]
    have : (2 : ℝ) ^ (((ex b + 1 : ℕ) : ℤ) - 127 - 23) = 2 * (2 : ℝ) ^ ((ex b : ℤ) - 127 - 23) := by
      rw [show (((ex b + 1 : ℕ) : ℤ) - 127 - 23) = 1 + ((ex b : ℤ) - 127 - 23) by push_cast; ring, zpow_add₀ (by norm_num)]; norm_num
    rw [this]
    apply congrArg; simp only [Bool.false_eq_true, if_false]; ring

theorem half_real : Ideal.ofBits .f32 1056964608#32 = ((1 / 2 : ℝ) : EReal) := by
  rw [ofBits_normal _ (by decide) (by decide)]
  have h1 : ex 1056964608#32 = 126 := by decide
  have h2 : fr 1056964608#32 = 0 := by decide
  have h3 : ng 1056964608#32 = false := by decide
  rw [h1, h2, h3]; congr 1; norm_num

theorem sixteen_real : ∃ r : ℝ, Ideal.ofBits .f32 1098907648#32 = (r : EReal) := ⟨_, ofBits_normal _ (by decide) (by decide)⟩

/-- The widths and heights the kernel carries are the doubles of the reference's anchor edges. -/
theorem anchor_x (a : Fin 15) : Anchor (Cert.ReferenceIdeal.lit0 (Cert.ReferenceIdeal.S15x4.rowMajor (ix2 a 2))) (Cert.ReferenceIdeal.lit0 (Cert.ReferenceIdeal.S15x4.rowMajor (ix2 a 0))) (Cert.KernelIdeal.lit0 (Cert.KernelIdeal.S1x16.rowMajor (ix2 0 ⟨a.val, by omega⟩))) := by
  revert a; decide +kernel
theorem anchor_y (a : Fin 15) : Anchor (Cert.ReferenceIdeal.lit0 (Cert.ReferenceIdeal.S15x4.rowMajor (ix2 a 3))) (Cert.ReferenceIdeal.lit0 (Cert.ReferenceIdeal.S15x4.rowMajor (ix2 a 1))) (Cert.KernelIdeal.lit1 (Cert.KernelIdeal.S1x16.rowMajor (ix2 0 ⟨a.val, by omega⟩))) := by
  revert a; decide +kernel

/-- From an anchor's edges: its extent and its centre. -/
theorem anchor_edges (s : EReal) (hs : ∃ q : ℝ, s = (q : EReal)) (b bn bw : BitVec 32) (h : Anchor b bn bw) :
    (s + Ideal.ofBits .f32 b) - (s + Ideal.ofBits .f32 bn) = Ideal.ofBits .f32 bw ∧
    (s + Ideal.ofBits .f32 bn) + Ideal.ofBits .f32 1056964608#32 * Ideal.ofBits .f32 bw = s := by
  obtain ⟨r, e1, e2, e3⟩ := anchor_reals b bn bw h
  obtain ⟨q, rfl⟩ := hs
  rw [e1, e2, e3, half_real]
  constructor
  · rw [← EReal.coe_add, ← EReal.coe_add, ← EReal.coe_sub]; congr 1; ring
  · rw [← EReal.coe_add, ← EReal.coe_mul, ← EReal.coe_add]; congr 1; ring

end Cert.Lit
-- ==== Proof.Value.Place.lean ====
/- Where the kernel puts each box, and what it writes there. -/
module

public import proofs.«01_k».proof.Proof.Run.Segments
public import proofs.«01_k».proof.Proof.Value.Blocks
public import proofs.«01_k».proof.Proof.Value.Rank
public import proofs.«01_k».proof.Proof.Value.Lit
public import Idealize.ShloMosaic.Lib.Pointwise
public import Idealize.ShloMosaic.Lib.StableHlo.ReadAt

@[expose] public section

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem Idealize.ShloMosaic.StableHlo

variable (m : (ℓ : Loc nD τ sig) → Buf (Elt Ideal) ℓ) (c : Dev nD)

open Cert.Greedy Cert.Spec

theorem sitofp_small {r : ℕ} (hr : r < 2 ^ 31) :
    @Eq EReal (FloatOps.sitofp (F := Ideal) FTy.f32 (BitVec.ofNat 32 r)) ((r : ℕ) : EReal) := by
  show (((BitVec.ofNat 32 r).toInt : ℝ) : EReal) = _
  rw [toInt_small hr]
  simp

theorem half_lt (b : Bool) : (Ideal.ofBits FTy.f32 1056964608#32 < b2e b) ↔ b = true := by
  rw [Cert.Lit.half_real]
  cases b
  · simp only [b2e, Bool.false_eq_true, if_false, iff_false, not_lt]
    exact_mod_cast (by norm_num : (0 : ℝ) ≤ 1 / 2)
  · simp only [b2e, if_true, iff_true]
    exact_mod_cast (by norm_num : (1 / 2 : ℝ) < 1)

theorem pad_place : Ideal.ofBits FTy.f32 1157619712#32 = ((2047 : ℕ) : EReal) := by
  rw [Cert.Lit.ofBits_normal _ (by decide) (by decide)]
  have : ((2047 : ℕ) : EReal) = ((2047 : ℝ) : EReal) := by norm_cast
  have h1 : Cert.Lit.ex 1157619712#32 = 137 := by decide
  have h2 : Cert.Lit.fr 1157619712#32 = 8380416 := by decide
  have h3 : Cert.Lit.ng 1157619712#32 = false := by decide
  rw [this, h1, h2, h3]
  congr 1
  norm_num

variable {H : ℕ → ℕ → Bool} (hH : ∀ i j, H i j = true → i < j) (S : Vec Ideal S2048x2048 .f32)
  (hS : ∀ i j : Fin 2048, S (ix2 i j) = b2e (H i j))

/-- The real boxes left standing. -/
def left (H : ℕ → ℕ → Bool) (x : ℕ) : Bool := kp H 2048 x && decide (x < 2000)
/-- The real boxes struck out. -/
def struck (H : ℕ → ℕ → Bool) (x : ℕ) : Bool := !kp H 2048 x && decide (x < 2000)

theorem masked (x : ℕ) (hx : x < 2048) (b : Bool) :
    Scalar.select (IntOp.cmpi CmpIPredicate.slt (BitVec.ofNat 32 x) 2000#32) (b2e b) 0 = b2e (b && decide (x < 2000)) := by
  rw [show (2000#32 : BitVec 32) = BitVec.ofNat 32 2000 from rfl, word_lt (by omega) (by omega), select_flag]
  cases b <;> by_cases h : x < 2000 <;> simp [h, b2e]

include hH hS in
theorem total_at : (nv1017 (F := Ideal) S : EReal) = ((cnt (left H) 2048 : ℕ) : EReal) := by
  pointwise [nv1017, k1_pay158, k1_pay157, k1_pay156, nv827]
  have h : ∀ x : Fin 2048, Scalar.select (IntOp.cmpi CmpIPredicate.slt (BitVec.ofNat 32 ↑x) 2000#32)
      (k1_pay155 (nv983 S) (nv990 S) (nv991 S) (nv992 S) (nv997 S) (nv998 S) (ix2 0 x) : EReal) 0 = b2e (left H x) := fun x => by
    rw [keep16 hH S hS x]; exact masked x x.2 _
  refine (Finset.sum_congr rfl fun _ _ => Finset.sum_congr rfl fun x _ => h x).trans ?_
  rw [Finset.sum_const, Finset.card_univ, Fintype.card_fin, one_smul, Fin.sum_univ_eq_sum_range (fun x => b2e (left H x)) 2048,
    sum_flags]

include hH hS in
theorem kp_at (p : Fin 16) (q : Fin 128) : (nv1018 (F := Ideal) S : FVec Ideal S16x128 .f32) (ix2 p q) = b2e (left H (128 * p + q)) := by
  pointwise [nv1018, k1_pay159, k1_pay157, k1_pay156, nv827]
  rw [keep16 hH S hS]
  have h : (p : ℕ) * 128 + q = 128 * p + q := by omega
  simp only [h]
  exact masked (128 * p + q) (by omega) _

include hH hS in
theorem sp_at (p : Fin 16) (q : Fin 128) : (nv1019 (F := Ideal) S : FVec Ideal S16x128 .f32) (ix2 p q) = b2e (struck H (128 * p + q)) := by
  pointwise [nv1019, k1_pay160, k1_pay157, k1_pay156, nv827]
  rw [keep16 hH S hS, b2e_not]
  have h : (p : ℕ) * 128 + q = 128 * p + q := by omega
  simp only [h]
  exact masked (128 * p + q) (by omega) _

theorem slt_at (a b : Fin 128) : (nv1025 (F := Ideal) S : FVec Ideal S128x128 .f32) (ix2 a b) = b2e (decide ((a : ℕ) < b)) := by
  pointwise [nv1025, k1_pay161]
  rw [word_lt (by omega) (by omega), select_flag]; rfl

theorem row_at (a b : Fin 16) : (nv1031 (F := Ideal) S : FVec Ideal S16x16 .f32) (ix2 a b) = b2e (decide ((b : ℕ) < a)) := by
  pointwise [nv1031, k1_pay162]
  rw [word_lt (by omega) (by omega), select_flag]; rfl

/-- The count before a place, as the kernel adds it up. -/
theorem count_at (f : ℕ → Bool) (p : Fin 16) (q : Fin 128) :
    (∑ y : Fin 128, b2e (f (128 * p + y)) * b2e (decide ((y : ℕ) < q)))
      + (∑ x : Fin 16, b2e (decide ((x : ℕ) < p)) * ∑ y : Fin 128, b2e (f (128 * x + y)))
      = ((cnt f (128 * p + q) : ℕ) : EReal) := by
  rw [← sum_flags, ← sum_blocks (fun i => b2e (f i)) p.2 q.2]
  congr 1
  · refine Finset.sum_congr rfl fun y _ => ?_
    by_cases h : (y : ℕ) < q <;> simp [h, b2e]
  · refine Finset.sum_congr rfl fun x _ => ?_
    by_cases h : (x : ℕ) < p <;> simp [h, b2e]

/-- Where the kernel sends box `x`. -/
def sent (H : ℕ → ℕ → Bool) (x : ℕ) : ℕ :=
  if x < 2000 then (if left H x then cnt (left H) x else cnt (left H) 2048 + cnt (struck H) x) else 2047

include hH hS in
theorem sent_at (x : Fin 2048) :
    Scalar.select
      (IntOp.cmpi CmpIPredicate.slt
        (IntOp.addi (IntOp.muli (BitVec.ofNat 32 (↑x / 128)) 128#32) (BitVec.ofNat 32 (↑x % 128))) 2000#32)
      (if Ideal.ofBits FTy.f32 1056964608#32 < nv1018 (F := Ideal) S (ix2 (⟨x / 128, by omega⟩ : Fin 16) (⟨x % 128, by omega⟩ : Fin 128)) then
        @HAdd.hAdd EReal EReal EReal _ (nv1032 (F := Ideal) S (ix2 (⟨x / 128, by omega⟩ : Fin 16) (⟨x % 128, by omega⟩ : Fin 128)))
          (∑ x_1 : Fin 16, @HMul.hMul EReal EReal EReal _ (nv1031 (F := Ideal) S (ix2 (⟨x / 128, by omega⟩ : Fin 16) x_1))
            (∑ x : Fin 128, (nv1018 (F := Ideal) S (ix2 x_1 x) : EReal)))
      else
        @HAdd.hAdd EReal EReal EReal _ (nv1017 (F := Ideal) S)
          (@HAdd.hAdd EReal EReal EReal _ (∑ x_1 : Fin 128, @HMul.hMul EReal EReal EReal _ (nv1019 (F := Ideal) S (ix2 (⟨x / 128, by omega⟩ : Fin 16) x_1)) (nv1025 (F := Ideal) S (ix2 x_1 (⟨x % 128, by omega⟩ : Fin 128))))
            (∑ x_1 : Fin 16, @HMul.hMul EReal EReal EReal _ (nv1031 (F := Ideal) S (ix2 (⟨x / 128, by omega⟩ : Fin 16) x_1)) (∑ x : Fin 128, (nv1019 (F := Ideal) S (ix2 x_1 x) : EReal)))))
      (Ideal.ofBits FTy.f32 1157619712#32) = ((sent H x : ℕ) : EReal) := by
  have hw : IntOp.addi (IntOp.muli (BitVec.ofNat 32 (↑x / 128)) 128#32) (BitVec.ofNat 32 (↑x % 128)) = BitVec.ofNat 32 x := by
    show BitVec.ofNat 32 (↑x / 128) * BitVec.ofNat 32 128 + BitVec.ofNat 32 (↑x % 128) = _
    rw [← BitVec.ofNat_mul, ← BitVec.ofNat_add]
    congr 1
    omega
  have hx : 128 * ((x : ℕ) / 128) + (x : ℕ) % 128 = x := by omega
  have h1 := count_at (left H) ⟨x / 128, by omega⟩ ⟨x % 128, by omega⟩
  have h2 := count_at (struck H) ⟨x / 128, by omega⟩ ⟨x % 128, by omega⟩
  simp only [hx] at h1 h2
  have h32 : (nv1032 (F := Ideal) S (ix2 (⟨x / 128, by omega⟩ : Fin 16) (⟨x % 128, by omega⟩ : Fin 128)) : EReal)
      = ∑ y : Fin 128, @HMul.hMul EReal EReal EReal _ (nv1018 (F := Ideal) S (ix2 (⟨x / 128, by omega⟩ : Fin 16) y)) (nv1025 (F := Ideal) S (ix2 y (⟨x % 128, by omega⟩ : Fin 128))) := by
    pointwise [nv1032, k1_pay163]
    rfl
  rw [h32, hw, show (2000#32 : BitVec 32) = BitVec.ofNat 32 2000 from rfl, word_lt (by omega) (by omega), select_flag]
  simp only [kp_at hH S hS, sp_at hH S hS, slt_at S, row_at S, total_at hH S hS, half_lt, hx]
  rw [h1, h2, pad_place]
  unfold sent
  by_cases hlt : (x : ℕ) < 2000
  · simp only [hlt, decide_true, if_true]
    split_ifs
    · rfl
    · rw [Nat.cast_add]
  · simp only [hlt, decide_false, if_false, Bool.false_eq_true]

theorem cnt_left_all (f : ℕ → Bool) (hf : ∀ x, x < 2000 → f x = kp H 2048 x) : cnt (left H) 2048 = cnt f 2000 := by
  have h : cnt (left H) 2048 = cnt (left H) 2000 := by
    unfold cnt
    rw [show 2048 = 2000 + 48 from rfl, Finset.sum_range_add]
    refine (congrArg _ (Finset.sum_eq_zero fun i _ => ?_)).trans (Nat.add_zero _)
    have : left H (2000 + i) = false := by simp [left]
    rw [this]; rfl
  rw [h]
  exact cnt_congr fun i hi => by rw [hf i hi]; simp [left, hi]

theorem sent_eq_dest (f : ℕ → Bool) (hf : ∀ x, x < 2000 → f x = kp H 2048 x) {x : ℕ} (hx : x < 2000) :
    sent H x = dest f 2000 x := by
  have hl : ∀ i, i < 2000 → left H i = f i := fun i hi => by rw [hf i hi]; simp [left, hi]
  have hs : ∀ i, i < 2000 → struck H i = !f i := fun i hi => by rw [hf i hi]; simp [struck, hi]
  rw [sent, if_pos hx, dest, hl x hx, cnt_left_all f hf, cnt_congr fun i hi => hl i (by omega),
    cnt_congr (f := struck H) fun i hi => hs i (by omega)]

include hH hS in
/-- What the kernel writes in row `r`. -/
theorem nmsVal_at (x0 : Vec Ideal S2048x8 .f32) (f : ℕ → Bool) (hf : ∀ x, x < 2000 → f x = kp H 2048 x) (r : Fin 2048) (hr : (r : ℕ) < 2000) (k : Fin 8) :
    (nmsVal (F := Ideal) S x0 : FVec Ideal S2048x8 .f32) (ix2 r k)
      = if (k : ℕ) = 4 ∧ cnt f 2000 ≤ r then Ideal.ofBits FTy.f32 3463342888#32
        else x0 (ix2 (⟨(order f 2000)[(r : ℕ)]'(by rw [order_length]; exact hr),
          lt_of_lt_of_le ((mem_order f).1 (List.getElem_mem (by rw [order_length]; exact hr))) (by omega)⟩ : Fin 2048) k) := by
  obtain ⟨R, hR⟩ : ∃ R : EReal, R = if (k : ℕ) = 4 ∧ cnt f 2000 ≤ r then Ideal.ofBits FTy.f32 3463342888#32
        else x0 (ix2 (⟨(order f 2000)[(r : ℕ)]'(by rw [order_length]; exact hr),
          lt_of_lt_of_le ((mem_order f).1 (List.getElem_mem (by rw [order_length]; exact hr))) (by omega)⟩ : Fin 2048) k) := ⟨_, rfl⟩
  refine Eq.trans ?_ hR
  pointwise [nmsVal, k1_pay1, k1_pay165, k1_pay166, k1_pay164]
  have hsum : ∀ x : Fin 2048, ∀ z : EReal, @Eq EReal z ((sent H x : ℕ) : EReal) →
      (if @Eq EReal (FloatOps.sitofp (F := Ideal) FTy.f32 (BitVec.ofNat 32 ↑r)) z then (1 : EReal) else 0) * (x0 (ix2 x k) : EReal)
        = if x = (⟨(order f 2000)[(r : ℕ)]'(by rw [order_length]; exact hr),
          lt_of_lt_of_le ((mem_order f).1 (List.getElem_mem (by rw [order_length]; exact hr))) (by omega)⟩ : Fin 2048)
          then (x0 (ix2 x k) : EReal) else 0 := by
    rintro x _ rfl
    rw [sitofp_small (by omega)]
    have hiff : (((r : ℕ) : EReal) = ((sent H x : ℕ) : EReal)) ↔ x = (⟨(order f 2000)[(r : ℕ)]'(by rw [order_length]; exact hr),
          lt_of_lt_of_le ((mem_order f).1 (List.getElem_mem (by rw [order_length]; exact hr))) (by omega)⟩ : Fin 2048) := by
      rw [EReal.natCast_eq_iff]
      by_cases hx : (x : ℕ) < 2000
      · rw [sent_eq_dest f hf hx, eq_comm, dest_eq_iff f hx (by rw [order_length]; exact hr)]
        exact ⟨fun h => Fin.ext h, fun h => congrArg Fin.val h⟩
      · constructor
        · intro h
          rw [sent, if_neg hx] at h
          omega
        · intro h
          exact absurd (h ▸ (mem_order f).1 (List.getElem_mem (by rw [order_length]; exact hr))) hx
    by_cases h : x = (⟨(order f 2000)[(r : ℕ)]'(by rw [order_length]; exact hr),
          lt_of_lt_of_le ((mem_order f).1 (List.getElem_mem (by rw [order_length]; exact hr))) (by omega)⟩ : Fin 2048)
    · rw [if_pos (hiff.2 h), if_pos h, one_mul]
    · rw [if_neg (fun e => h (hiff.1 e)), if_neg h, zero_mul]
  rw [Finset.sum_congr rfl fun x _ => hsum x _ (sent_at hH S hS x), Finset.sum_ite_eq' Finset.univ _ _, if_pos (Finset.mem_univ _)]
  rw [show (4#32 : BitVec 32) = BitVec.ofNat 32 4 from rfl, word_eq (by omega) (by omega), andi_flags, select_flag,
    sitofp_small (by omega), total_at hH S hS, cnt_left_all f hf]
  rw [hR]
  refine if_congr ?_ rfl rfl
  rw [Bool.and_eq_true, decide_eq_true_eq, decide_eq_true_eq]
  exact and_congr Iff.rfl EReal.natCast_le_iff

end Cert.KernelIdeal.Val
-- ==== Proof.Value.Tops.lean ====
/- The greatest few of a list: which they are, and in what order. -/
module

public import Idealize.ShloMosaic.PureOps.Ideal
public import Idealize.ShloMosaic.Lib.IdealHost
public import Idealize.ShloMosaic.Lib.Pointwise
public import Idealize.ShloMosaic.Lib.SortFacts

@[expose] public section

noncomputable section

namespace Cert.Tops

open Idealize.ShloMosaic

/-- Does position `a` come strictly before position `b`, the greater first? -/
def ahead {n : ℕ} (x : (⟨1, ![n]⟩ : Shape).Idx → EReal) (a b : Fin n) : Bool := decide (x (ix1 b) < x (ix1 a))

/-- The position of the `r`-th greatest. -/
def pos {n : ℕ} (x : (⟨1, ![n]⟩ : Shape).Idx → EReal) (r : Fin n) : Fin n := sortedFrom (ahead x) r

theorem ofFin_ix1 {n : ℕ} (k : Fin n) : Shape.Idx.ofFin k = ix1 k := by
  rw [Shape.Idx.eq_ofFin (ix1 k)]; rfl

theorem gt_ahead {n : ℕ} (x : (⟨1, ![n]⟩ : Shape).Idx → Ideal .f32) (a b : Fin n) :
    (FloatOps.cmpfTotal (F := Ideal) (φ := .f32) .gt (x (ix1 a)) (x (ix1 b)) == 1#1) = ahead x a b := by
  show (BitVec.ofBool (decide (_ < _)) == 1#1) = _
  unfold ahead
  by_cases h : (x (ix1 b) : EReal) < x (ix1 a)
  · rw [decide_eq_true h]; rfl
  · rw [decide_eq_false h]; rfl

theorem along_one {n : ℕ} (j : (⟨1, ![n]⟩ : Shape).Idx) (a : Fin 1) (k : Fin n) : j.along (a : Fin (⟨1, ![n]⟩ : Shape).rank) (k.cast (by rw [Subsingleton.elim a 0]; rfl)) = ix1 k := by
  obtain rfl : a = 0 := Subsingleton.elim _ _
  exact (Shape.Idx.along_rank1 j k).trans (ofFin_ix1 k)

theorem slice_ix1 {n k : ℕ} (hk : k ≤ n) {α : Type} (v : (⟨1, ![n]⟩ : Shape).Idx → α)
    (h : (⟨1, ![n]⟩ : Shape).Slices (fun _ => 0) ⟨1, ![k]⟩) (r : Fin k) :
    extractStridedSlice ⟨1, ![k]⟩ (fun _ => 0) v h (ix1 r) = v (ix1 (⟨r, by omega⟩ : Fin n)) := by
  unfold extractStridedSlice
  refine congrArg v (funext fun a => ?_)
  have : a = 0 := Subsingleton.elim _ _
  subst this
  exact Fin.ext (Nat.zero_add _)

theorem topK_fst {n k : ℕ} (hk : k ≤ n) (x : (⟨1, ![n]⟩ : Shape).Idx → Ideal .f32)
    (h : (⟨1, ![n]⟩ : Shape).Slices (fun _ => 0) ⟨1, ![k]⟩) (r : Fin k) :
    (Host.topK ⟨1, ![k]⟩ 0 (FloatOps.cmpfTotal (F := Ideal) (φ := .f32) .gt) x h).1 (ix1 r) = x (ix1 (pos x ⟨r, by omega⟩)) := by
  unfold Host.topK
  dsimp only
  rw [slice_ix1 hk]
  unfold Host.sort2
  simp only [dif_pos, Nat.lt_one_iff, Fin.zero_eta]
  refine (congrArg x (along_one _ 0 _)).trans (congrArg (fun z => x (ix1 z)) ?_)
  unfold pos
  refine congrArg (fun R => sortedFrom R _) (funext fun a => funext fun b => ?_)
  refine Eq.trans ?_ (gt_ahead x a b)
  exact congrArg₂ (fun p q => FloatOps.cmpfTotal (F := Ideal) (φ := .f32) .gt (x p) (x q) == 1#1) (along_one _ 0 a) (along_one _ 0 b)

theorem topK_snd {n k : ℕ} (hk : k ≤ n) (x : (⟨1, ![n]⟩ : Shape).Idx → Ideal .f32)
    (h : (⟨1, ![n]⟩ : Shape).Slices (fun _ => 0) ⟨1, ![k]⟩) (r : Fin k) :
    (Host.topK ⟨1, ![k]⟩ 0 (FloatOps.cmpfTotal (F := Ideal) (φ := .f32) .gt) x h).2 (ix1 r)
      = BitVec.ofNat 32 (pos x ⟨r, by omega⟩ : Fin n) := by
  unfold Host.topK
  dsimp only
  rw [slice_ix1 hk]
  unfold Host.sort2
  simp only [dif_pos, Nat.lt_one_iff, Fin.zero_eta]
  refine (congrArg (iotaInDim (⟨1, ![n]⟩ : Shape) 32 0) (along_one _ 0 _)).trans (congrArg (fun z : Fin n => BitVec.ofNat 32 (z : ℕ)) ?_)
  unfold pos
  refine congrArg (fun R => sortedFrom R _) (funext fun a => funext fun b => ?_)
  refine Eq.trans ?_ (gt_ahead x a b)
  exact congrArg₂ (fun p q => FloatOps.cmpfTotal (F := Ideal) (φ := .f32) .gt (x p) (x q) == 1#1) (along_one _ 0 a) (along_one _ 0 b)

/-- Later places hold no greater values. -/
theorem pos_sorted {n : ℕ} (x : (⟨1, ![n]⟩ : Shape).Idx → EReal) {a b : Fin n} (hab : a < b) :
    x (ix1 (pos x b)) ≤ x (ix1 (pos x a)) := by
  have h := sortedFrom_noInversion (ahead x) (ahead x)
    (fun a b h => by
      simp only [ahead, decide_eq_true_eq, decide_eq_false_iff_not, not_lt] at h ⊢
      exact h.le)
    (fun a b h => h)
    (fun a b c h1 h2 => by
      simp only [ahead, decide_eq_false_iff_not, not_lt] at h1 h2 ⊢
      exact h1.trans h2) a b hab
  exact not_lt.1 (of_decide_eq_false h)

end Cert.Tops
-- ==== Proof.Value.KerEnd.lean ====
/- What the kernel returns, as the kept boxes in order and then the struck ones. -/
module

public import proofs.«01_k».proof.Proof.Run.Segments
public import Idealize.ShloMosaic.Lib.Pointwise
public import proofs.«01_k».proof.Proof.Value.KerHost
public import proofs.«01_k».proof.Proof.Value.Region1
public import proofs.«01_k».proof.Proof.Value.Place
public import proofs.«01_k».proof.Proof.Value.Tops

@[expose] public section

set_option maxRecDepth 16384

noncomputable section

/-- The greedy pass over boxes below `N` sees only the table's entries below `N`. -/
theorem Cert.Greedy.kp_congr {H H' : ℕ → ℕ → Bool} {N : ℕ} (h : ∀ i j, i < N → j < N → H i j = H' i j) :
    ∀ n j : ℕ, n ≤ N → j < N → Cert.Greedy.kp H n j = Cert.Greedy.kp H' n j
  | 0, j, _, _ => rfl
  | n + 1, j, hn, hj => by
    show (Cert.Greedy.kp H n j && !(Cert.Greedy.kp H n n && H n j)) = (Cert.Greedy.kp H' n j && !(Cert.Greedy.kp H' n n && H' n j))
    rw [Cert.Greedy.kp_congr h n j (by omega) hj, Cert.Greedy.kp_congr h n n (by omega) (by omega), h n j (by omega) hj]

namespace Cert.KernelIdeal.Val

open Cert.KernelIdeal Cert.KernelIdeal.Gen Cert.KernelIdeal.Hand
open Idealize.ShloMosaic Idealize.ShloMosaic.TcCoe Idealize.SL.Sem Idealize.ShloMosaic.StableHlo

variable (m : (ℓ : Loc nD τ sig) → Buf (Elt Ideal) ℓ) (c : Dev nD)

/-- The chosen boxes. -/
def G : FVec Ideal S2000x4 .f32 := chosen (V25 m (outs m) c (Proc.devRef .tc main_v29)) (V25 m (outs m) c (Proc.devRef .tc main_v35))

/-- The chosen scores, the greatest first. -/
def tops : FVec Ideal S2000 .f32 := (Host.topK S2000 0 (FloatOps.cmpfTotal (F := Ideal) (φ := .f32) .gt) (V25 m (outs m) c (Proc.devRef .tc main_v29) : FVec Ideal S37500 .f32) sliceFits_S37500_S2000).1

/-- The two operands of the suppression call. -/
abbrev X0 : FVec Ideal S2048x8 .f32 := V27 m (outs0 m) c (Proc.devRef .tc main_v46)
abbrev X1 : FVec Ideal S4x2048 .f32 := V27 m (outs0 m) c (Proc.devRef .tc main_v48)

theorem X0_at (i : Fin 2048) (hi : (i : ℕ) < 2000) (k : Fin 8) : X0 m c (ix2 i k)
    = if h : (k : ℕ) < 4 then G m c (ix2 ⟨i, hi⟩ ⟨k, h⟩) else if (k : ℕ) = 4 then tops m c (ix1 ⟨i, hi⟩) else (0 : EReal) := by
  have e : X0 m c = V26 m (outs m) c (Proc.devRef .tc main_v46) := V27_of m (outs m) c main_v46 (by decide)
  rw [e]
  refine (v46_at (V25 m (outs m) c) (c14_eq (V24 m (outs m) c)) i k).trans ?_
  rw [dif_pos hi]
  refine (v45_at (V24 m (outs m) c) ⟨i, hi⟩ k).trans ?_
  rw [v42_eq, values_eq]
  rfl

theorem turned : Turned (X0 m c) (X1 m c) := fun k j => by
  have e : X0 m c = V26 m (outs m) c (Proc.devRef .tc main_v46) := V27_of m (outs m) c main_v46 (by decide)
  rw [e]
  exact v48_at (V26 m (outs m) c) k j

/-- The kernel's rows. -/
theorem result_at (D : ℕ → Fin 4 → EReal) (hD : ∀ (i : Fin 2000) (k : Fin 4), D i k = G m c (ix2 i k)) (y : Fin 1000) (k : Fin 5) (p : Fin 2000)
    (hp : (p : ℕ) = (Greedy.order (Greedy.kp (Spec.strikes D) 2000) 2000)[(y : ℕ)]'(by rw [Greedy.order_length]; omega)) :
    (V29 m (outs m) c (Proc.devRef .tc main_v50) : FVec Ideal S1000x5 .f32) (ix2 y k)
      = if h : (k : ℕ) < 4 then G m c (ix2 p ⟨k, h⟩) else if Greedy.kp (Spec.strikes D) 2000 p then tops m c (ix1 p) else Ideal.ofBits FTy.f32 0xCE6E6B28#32 := by
  have hbox : ∀ (i : ℕ) (k : Fin 4), i < 2000 → rowBox (X0 m c) i k = D i k := fun i k hi => by
    unfold rowBox
    rw [dif_pos (show i < 2048 by omega)]
    refine (X0_at m c ⟨i, by omega⟩ hi _).trans ?_
    rw [dif_pos k.isLt]
    exact (hD ⟨i, hi⟩ k).symm
  have hS : ∀ i j : ℕ, i < 2000 → j < 2000 → Spec.strikes (rowBox (X0 m c)) i j = Spec.strikes D i j := fun i j hi hj => by
    unfold Spec.strikes
    simp only [hbox i _ hi, hbox j _ hj]
  have hf : ∀ x, x < 2000 → Greedy.kp (Spec.strikes D) 2000 x = Greedy.kp (Spec.strikes (rowBox (X0 m c))) 2048 x := fun x hx => by
    rw [Greedy.kp_of_le (Spec.strikes_lt _) (show x ≤ 2048 by omega), Greedy.kp_of_le (Spec.strikes_lt _) (show x ≤ 2000 by omega)]
    exact (Greedy.kp_congr hS x x (by omega) hx).symm
  refine (v50_at (V28 m (outs m) c) y k).trans ?_
  have e : V28 m (outs m) c (Proc.devRef .tc main_v49) = nmsVal (F := Ideal) (table (X0 m c) (X1 m c)) (X0 m c) :=
    (Function.update_self ..).trans (out1_2 m c)
  rw [e]
  refine (nmsVal_at (H := Spec.strikes (rowBox (X0 m c))) (Spec.strikes_lt _) (table (X0 m c) (X1 m c)) (fun i j => table_at (turned m c) i j) (X0 m c)
    (Greedy.kp (Spec.strikes D) 2000) hf ⟨y, by omega⟩ (show (y : ℕ) < 2000 by omega) ⟨k, by omega⟩).trans ?_
  have hpick := Greedy.order_picked (Greedy.kp (Spec.strikes D) 2000) (N := 2000) (r := (y : ℕ)) (by rw [Greedy.order_length]; omega)
  rw [← hp] at hpick
  have hi : ∀ q : Fin 2048, (q : ℕ) = p → X0 m c (ix2 q ⟨k, by omega⟩) = if h : (k : ℕ) < 4 then G m c (ix2 p ⟨k, h⟩) else if (k : ℕ) = 4 then tops m c (ix1 p) else (0 : EReal) := fun q hq => by
    have := X0_at m c q (by omega) ⟨k, by omega⟩
    rw [this]
    have e1 : (⟨(q : ℕ), by omega⟩ : Fin 2000) = p := Fin.ext hq
    rw [e1]
  show (if (k : ℕ) = 4 ∧ Greedy.cnt (Greedy.kp (Spec.strikes D) 2000) 2000 ≤ (y : ℕ) then _ else _) = _
  by_cases hk : (k : ℕ) < 4
  · rw [if_neg (by omega), hi _ hp.symm, dif_pos hk, dif_pos hk]
  · have hk4 : (k : ℕ) = 4 := by omega
    rw [dif_neg hk, hpick]
    by_cases hy : (y : ℕ) < Greedy.cnt (Greedy.kp (Spec.strikes D) 2000) 2000
    · rw [if_neg (by omega), hi _ hp.symm, dif_neg hk, if_pos hk4, if_pos (decide_eq_true hy)]
    · rw [if_pos ⟨hk4, by omega⟩, if_neg (by simpa using hy)]

end Cert.KernelIdeal.Val
-- ==== Proof.Value.RefRead.lean ====
/- The reference's operations read at an index. -/
module

public import proofs.«01_k».proof.Proof.Ref.Frame
public import Idealize.ShloMosaic.Lib.Pointwise
public import Idealize.ShloMosaic.Lib.StableHlo.ReadAt
public import proofs.«01_k».proof.Proof.Value.Spec

@[expose] public section

set_option maxRecDepth 16384

noncomputable section

namespace Cert.ReferenceIdeal.Val

open Cert.ReferenceIdeal Cert.ReferenceIdeal.Gen Cert.ReferenceIdeal.Value Cert.ReferenceIdeal.Hand
open Idealize.ShloMosaic Idealize.ShloMosaic.TcCoe Idealize.SL.Sem Idealize.ShloMosaic.StableHlo

variable (V : Valuation τ sig (Elt Ideal))

theorem v22_at0 (i : Fin 37500) : (after hostOps0 V (Proc.devRef .tc main_v22) : FVec Ideal S37500x4 .f32) (ix2 i 0) = Spec.centre (i / 15 % 50) + Ideal.ofBits .f32 (lit0 (S15x4.rowMajor (ix2 ⟨i % 15, by omega⟩ 0))) := by
  after_results_simp
  pointwise
  after_results_simp
  pointwise
  rfl
theorem v22_at1 (i : Fin 37500) : (after hostOps0 V (Proc.devRef .tc main_v22) : FVec Ideal S37500x4 .f32) (ix2 i 1) = Spec.centre (i / 750) + Ideal.ofBits .f32 (lit0 (S15x4.rowMajor (ix2 ⟨i % 15, by omega⟩ 1))) := by
  after_results_simp
  pointwise
  after_results_simp
  pointwise
  rfl
theorem v22_at2 (i : Fin 37500) : (after hostOps0 V (Proc.devRef .tc main_v22) : FVec Ideal S37500x4 .f32) (ix2 i 2) = Spec.centre (i / 15 % 50) + Ideal.ofBits .f32 (lit0 (S15x4.rowMajor (ix2 ⟨i % 15, by omega⟩ 2))) := by
  after_results_simp
  pointwise
  after_results_simp
  pointwise
  rfl
theorem v22_at3 (i : Fin 37500) : (after hostOps0 V (Proc.devRef .tc main_v22) : FVec Ideal S37500x4 .f32) (ix2 i 3) = Spec.centre (i / 750) + Ideal.ofBits .f32 (lit0 (S15x4.rowMajor (ix2 ⟨i % 15, by omega⟩ 3))) := by
  after_results_simp
  pointwise
  after_results_simp
  pointwise
  rfl

theorem v73_at (y x : Fin 50) (d : Fin 256) : (after hostOps0_3 V (Proc.devRef .tc main_v73) : FVec Ideal S1x50x50x256 .f32) (ix4 0 y x d) = @max EReal _ ((V (Proc.devRef .tc main_v72) : FVec Ideal S1x50x50x256 .f32) (ix4 0 y x d)) 0 := by
  after_reads_at

theorem v144_at (h1 : ∀ i, V (Proc.devRef .tc main_cst_11) i = Ideal.ofBits .f32 0#32) (h2 : ∀ i, V (Proc.devRef .tc main_cst_12) i = Ideal.ofBits .f32 1145569280#32) (i : Fin 37500) (k : Fin 4) : (after hostOps0_5 V (Proc.devRef .tc main_v144) : FVec Ideal S37500x4 .f32) (ix2 i k) = min (Ideal.ofBits .f32 1145569280#32) (max 0 ((V (Proc.devRef .tc main_v143) : FVec Ideal S37500x4 .f32) (ix2 i k))) := by
  after_reads_at
  pointwise
  simp only [id, h1, h2, Ideal.ofBits_zero_f32]

theorem c_at (i) : after hostOps0 V (Proc.devRef .tc main_c) i = 0#32 := by
  after_results_simp
  rfl
theorem cst_11_at (i) : after hostOps0_4 V (Proc.devRef .tc main_cst_11) i = Ideal.ofBits .f32 0#32 := by
  after_results_simp
  rfl
theorem cst_12_at (i) : after hostOps0_4 V (Proc.devRef .tc main_cst_12) i = Ideal.ofBits .f32 1145569280#32 := by
  after_results_simp
  rfl

theorem v23_at (hc : ∀ i, V (Proc.devRef .tc main_c) i = 0#32) (r s : Fin 52) (k : Fin 256) : (after hostOps0_1 V (Proc.devRef .tc main_v23) : FVec Ideal S1x52x52x256 .f32) (ix4 0 r s k) = Spec.padded (fun y x k => (V (Proc.devRef .tc main_arg0) : FVec Ideal S1x50x50x256 .f32) (ix4 0 y x k)) r s k := by
  after_reads_at
  pointwise
  rw [hc]
  rfl

theorem v72_at (P : ℕ → ℕ → Fin 256 → EReal) (hP : ∀ (r s : ℕ) (hr : r < 52) (hs : s < 52) (k : Fin 256), (V (Proc.devRef .tc main_v23) : FVec Ideal S1x52x52x256 .f32) (ix4 0 ⟨r, hr⟩ ⟨s, hs⟩ k) = P r s k)
   (y x : Fin 50) (d : Fin 256) : @max EReal _ ((after hostOps0_2 V (Proc.devRef .tc main_v72) : FVec Ideal S1x50x50x256 .f32) (ix4 0 y x d)) 0 = Spec.feat P (fun t k d => (V (Proc.devRef .tc main_arg1) : FVec Ideal S3x3x256x256 .f32) (ix4 ⟨t.val / 3, by omega⟩ ⟨t.val % 3, by omega⟩ k d)) (fun d => (V (Proc.devRef .tc main_arg2) : FVec Ideal S256 .f32) (ix1 d)) y x d := by
  after_results_simp
  pointwise
  simp only [hP]
  rfl

theorem v79_at (i : Fin 37500) : (after hostOps0_4 V (Proc.devRef .tc main_v79) : FVec Ideal S37500 .f32) (ix1 i) =
    (∑ x : Fin 256, @HMul.hMul EReal EReal EReal _ ((V (Proc.devRef .tc main_v73) : FVec Ideal S1x50x50x256 .f32) (ix4 0 ⟨i / 750, by omega⟩ ⟨i / 15 % 50, by omega⟩ x)) ((V (Proc.devRef .tc main_arg3) : FVec Ideal S1x1x256x15 .f32) (ix4 0 0 x ⟨i % 15, by omega⟩))) + (V (Proc.devRef .tc main_arg4) : FVec Ideal S15 .f32) (ix1 ⟨i % 15, by omega⟩) := by
  after_results_simp
  pointwise

/-- A box offset of the reference at an anchor. -/
def delta (i : Fin 37500) (j : ℕ) (hj : j < 4) : EReal :=
    (∑ x : Fin 256, @HMul.hMul EReal EReal EReal _ ((V (Proc.devRef .tc main_v73) : FVec Ideal S1x50x50x256 .f32) (ix4 0 ⟨i / 750, by omega⟩ ⟨i / 15 % 50, by omega⟩ x)) ((V (Proc.devRef .tc main_arg5) : FVec Ideal S1x1x256x60 .f32) (ix4 0 0 x ⟨i % 15 * 4 + j, by omega⟩))) + (V (Proc.devRef .tc main_arg6) : FVec Ideal S60 .f32) (ix1 ⟨i % 15 * 4 + j, by omega⟩)

/-- An anchor edge of the reference. -/
def edge (i : Fin 37500) (j : Fin 4) : EReal := (V (Proc.devRef .tc main_v22) : FVec Ideal S37500x4 .f32) (ix2 i j)

theorem v143_at0 (i : Fin 37500) : (after hostOps0_4 V (Proc.devRef .tc main_v143) : FVec Ideal S37500x4 .f32) (ix2 i 0) =
    delta V i 0 (by omega) * (edge V i 2 - edge V i 0) + (edge V i 0 + Ideal.ofBits .f32 1056964608#32 * (edge V i 2 - edge V i 0)) - Spec.extent (delta V i 2 (by omega)) (edge V i 2 - edge V i 0) := by
  after_results_simp
  pointwise
  after_results_simp
  pointwise
  simp only [delta, edge, Spec.extent]
  try rfl
theorem v143_at1 (i : Fin 37500) : (after hostOps0_4 V (Proc.devRef .tc main_v143) : FVec Ideal S37500x4 .f32) (ix2 i 1) =
    delta V i 1 (by omega) * (edge V i 3 - edge V i 1) + (edge V i 1 + Ideal.ofBits .f32 1056964608#32 * (edge V i 3 - edge V i 1)) - Spec.extent (delta V i 3 (by omega)) (edge V i 3 - edge V i 1) := by
  after_results_simp
  pointwise
  after_results_simp
  pointwise
  simp only [delta, edge, Spec.extent]
  try rfl
theorem v143_at2 (i : Fin 37500) : (after hostOps0_4 V (Proc.devRef .tc main_v143) : FVec Ideal S37500x4 .f32) (ix2 i 2) =
    delta V i 0 (by omega) * (edge V i 2 - edge V i 0) + (edge V i 0 + Ideal.ofBits .f32 1056964608#32 * (edge V i 2 - edge V i 0)) + Spec.extent (delta V i 2 (by omega)) (edge V i 2 - edge V i 0) := by
  after_results_simp
  pointwise
  after_results_simp
  pointwise
  simp only [delta, edge, Spec.extent]
  try rfl
theorem v143_at3 (i : Fin 37500) : (after hostOps0_4 V (Proc.devRef .tc main_v143) : FVec Ideal S37500x4 .f32) (ix2 i 3) =
    delta V i 1 (by omega) * (edge V i 3 - edge V i 1) + (edge V i 1 + Ideal.ofBits .f32 1056964608#32 * (edge V i 3 - edge V i 1)) + Spec.extent (delta V i 3 (by omega)) (edge V i 3 - edge V i 1) := by
  after_results_simp
  pointwise
  after_results_simp
  pointwise
  simp only [delta, edge, Spec.extent]
  try rfl

end Cert.ReferenceIdeal.Val
-- ==== Proof.Value.RefDense.lean ====
/- The reference's arrays before suppression, from the arguments. -/
module

public import proofs.«01_k».proof.Proof.Ref.Frame
public import proofs.«01_k».proof.Proof.Value.RefRead
public import proofs.«01_k».proof.Proof.Value.Lit
public import Idealize.ShloMosaic.Lib.Pointwise
public import proofs.«01_k».proof.Proof.Value.Spec

@[expose] public section

set_option maxRecDepth 16384

noncomputable section

namespace Cert.ReferenceIdeal.Val

open Cert.ReferenceIdeal Cert.ReferenceIdeal.Gen Cert.ReferenceIdeal.Value Cert.ReferenceIdeal.Hand
open Idealize.ShloMosaic Idealize.ShloMosaic.TcCoe Idealize.SL.Sem Idealize.ShloMosaic.StableHlo

variable (V : Valuation τ sig (Elt Ideal))

/-- The contents after the reference's first stretches. -/
def R0 : Valuation τ sig (Elt Ideal) := after hostOps0 V
def R1 : Valuation τ sig (Elt Ideal) := after hostOps0_1 (R0 V)
def R2 : Valuation τ sig (Elt Ideal) := after hostOps0_2 (R1 V)
def R3 : Valuation τ sig (Elt Ideal) := after hostOps0_3 (R2 V)
def R4 : Valuation τ sig (Elt Ideal) := after hostOps0_4 (R3 V)
def R5 : Valuation τ sig (Elt Ideal) := after hostOps0_5 (R4 V)

theorem R0_of (r : Ref sig .tc) (h : r ∉ hostOps0_W) : R0 V (Proc.devRef .tc r) = V (Proc.devRef .tc r) := after_of_writes_sub hostOps0 _ hostOps0_writes h
theorem R1_of (r : Ref sig .tc) (h : r ∉ hostOps0_1_W) : R1 V (Proc.devRef .tc r) = R0 V (Proc.devRef .tc r) := after_of_writes_sub hostOps0_1 _ hostOps0_1_writes h
theorem R2_of (r : Ref sig .tc) (h : r ∉ hostOps0_2_W) : R2 V (Proc.devRef .tc r) = R1 V (Proc.devRef .tc r) := after_of_writes_sub hostOps0_2 _ hostOps0_2_writes h
theorem R3_of (r : Ref sig .tc) (h : r ∉ hostOps0_3_W) : R3 V (Proc.devRef .tc r) = R2 V (Proc.devRef .tc r) := after_of_writes_sub hostOps0_3 _ hostOps0_3_writes h
theorem R4_of (r : Ref sig .tc) (h : r ∉ hostOps0_4_W) : R4 V (Proc.devRef .tc r) = R3 V (Proc.devRef .tc r) := after_of_writes_sub hostOps0_4 _ hostOps0_4_writes h
theorem R5_of (r : Ref sig .tc) (h : r ∉ hostOps0_5_W) : R5 V (Proc.devRef .tc r) = R4 V (Proc.devRef .tc r) := after_of_writes_sub hostOps0_5 _ hostOps0_5_writes h
theorem k_arg0 : R0 V (Proc.devRef .tc main_arg0) = V (Proc.devRef .tc main_arg0) := by
  rw [R0_of V main_arg0 (by decide)]
theorem k_arg1 : R1 V (Proc.devRef .tc main_arg1) = V (Proc.devRef .tc main_arg1) := by
  rw [R1_of V main_arg1 (by decide), R0_of V main_arg1 (by decide)]
theorem k_arg2 : R1 V (Proc.devRef .tc main_arg2) = V (Proc.devRef .tc main_arg2) := by
  rw [R1_of V main_arg2 (by decide), R0_of V main_arg2 (by decide)]
theorem k_arg3 : R3 V (Proc.devRef .tc main_arg3) = V (Proc.devRef .tc main_arg3) := by
  rw [R3_of V main_arg3 (by decide), R2_of V main_arg3 (by decide), R1_of V main_arg3 (by decide), R0_of V main_arg3 (by decide)]
theorem k_arg4 : R3 V (Proc.devRef .tc main_arg4) = V (Proc.devRef .tc main_arg4) := by
  rw [R3_of V main_arg4 (by decide), R2_of V main_arg4 (by decide), R1_of V main_arg4 (by decide), R0_of V main_arg4 (by decide)]
theorem k_arg5 : R3 V (Proc.devRef .tc main_arg5) = V (Proc.devRef .tc main_arg5) := by
  rw [R3_of V main_arg5 (by decide), R2_of V main_arg5 (by decide), R1_of V main_arg5 (by decide), R0_of V main_arg5 (by decide)]
theorem k_arg6 : R3 V (Proc.devRef .tc main_arg6) = V (Proc.devRef .tc main_arg6) := by
  rw [R3_of V main_arg6 (by decide), R2_of V main_arg6 (by decide), R1_of V main_arg6 (by decide), R0_of V main_arg6 (by decide)]
theorem k_v22 : R3 V (Proc.devRef .tc main_v22) = R0 V (Proc.devRef .tc main_v22) := by
  rw [R3_of V main_v22 (by decide), R2_of V main_v22 (by decide), R1_of V main_v22 (by decide)]
theorem k_v79 : R5 V (Proc.devRef .tc main_v79) = R4 V (Proc.devRef .tc main_v79) := by
  rw [R5_of V main_v79 (by decide)]

/-- The padded map, the taps, the biases, and a head's column, of the arguments. -/
def P : ℕ → ℕ → Fin 256 → EReal := Spec.padded (fun y x k => (V (Proc.devRef .tc main_arg0) : FVec Ideal S1x50x50x256 .f32) (ix4 0 y x k))
def W : Fin 9 → Fin 256 → Fin 256 → EReal := fun t k d => (V (Proc.devRef .tc main_arg1) : FVec Ideal S3x3x256x256 .f32) (ix4 ⟨t.val / 3, by omega⟩ ⟨t.val % 3, by omega⟩ k d)
def B : Fin 256 → EReal := fun d => (V (Proc.devRef .tc main_arg2) : FVec Ideal S256 .f32) (ix1 d)
def cls (a : Fin 15) (y x : ℕ) : EReal := Spec.head (P V) (W V) (B V) (fun d => (V (Proc.devRef .tc main_arg3) : FVec Ideal S1x1x256x15 .f32) (ix4 0 0 d a)) ((V (Proc.devRef .tc main_arg4) : FVec Ideal S15 .f32) (ix1 a)) y x
def box (a : Fin 60) (y x : ℕ) : EReal := Spec.head (P V) (W V) (B V) (fun d => (V (Proc.devRef .tc main_arg5) : FVec Ideal S1x1x256x60 .f32) (ix4 0 0 d a)) ((V (Proc.devRef .tc main_arg6) : FVec Ideal S60 .f32) (ix1 a)) y x

theorem R1_v23 (r s : ℕ) (hr : r < 52) (hs : s < 52) (k : Fin 256) : (R1 V (Proc.devRef .tc main_v23) : FVec Ideal S1x52x52x256 .f32) (ix4 0 ⟨r, hr⟩ ⟨s, hs⟩ k) = P V r s k := by
  refine (v23_at (R0 V) (fun i => c_at V i) ⟨r, hr⟩ ⟨s, hs⟩ k).trans ?_
  rw [k_arg0]
  rfl

theorem R3_v73 (y x : Fin 50) (d : Fin 256) : (R3 V (Proc.devRef .tc main_v73) : FVec Ideal S1x50x50x256 .f32) (ix4 0 y x d) = Spec.feat (P V) (W V) (B V) y x d := by
  refine (v73_at (R2 V) y x d).trans ((v72_at (R1 V) (P V) (R1_v23 V) y x d).trans ?_)
  rw [k_arg1, k_arg2]
  rfl

/-- The scores the reference sorts. -/
theorem R5_v79 (i : Fin 37500) : (R5 V (Proc.devRef .tc main_v79) : FVec Ideal S37500 .f32) (ix1 i) = cls V ⟨i.val % 15, by omega⟩ (i.val / 750) (i.val / 15 % 50) := by
  rw [k_v79]
  refine (v79_at (R3 V) i).trans ?_
  rw [k_arg3, k_arg4]
  exact congrArg (fun z : EReal => z + _) (Finset.sum_congr rfl fun x _ => congrArg (fun z : EReal => z * _) (R3_v73 V _ _ x))

theorem delta_eq (i : Fin 37500) (j : ℕ) (hj : j < 4) : delta (R3 V) i j hj = box V ⟨i.val % 15 * 4 + j, by omega⟩ (i.val / 750) (i.val / 15 % 50) := by
  unfold delta
  rw [k_arg5, k_arg6]
  exact congrArg (fun z : EReal => z + _) (Finset.sum_congr rfl fun x _ => congrArg (fun z : EReal => z * _) (R3_v73 V _ _ x))

theorem centre_real (n : ℕ) : ∃ q : ℝ, Spec.centre n = (q : EReal) := by
  obtain ⟨r, hr⟩ := Lit.sixteen_real
  refine ⟨((BitVec.ofNat 32 n).toInt : ℝ) * r, ?_⟩
  unfold Spec.centre
  rw [hr, EReal.coe_mul]
  rfl

/-- The width and the height of an anchor, as the words the kernel carries. -/
def wid (a : Fin 15) : EReal := Ideal.ofBits .f32 (Cert.KernelIdeal.lit0 (Cert.KernelIdeal.S1x16.rowMajor (ix2 0 ⟨a.val, by omega⟩)))
def hei (a : Fin 15) : EReal := Ideal.ofBits .f32 (Cert.KernelIdeal.lit1 (Cert.KernelIdeal.S1x16.rowMajor (ix2 0 ⟨a.val, by omega⟩)))

theorem edge_x (i : Fin 37500) : edge (R3 V) i 2 - edge (R3 V) i 0 = wid ⟨i.val % 15, by omega⟩ ∧
    edge (R3 V) i 0 + Ideal.ofBits .f32 1056964608#32 * wid ⟨i.val % 15, by omega⟩ = Spec.centre (i.val / 15 % 50) := by
  unfold edge
  rw [k_v22]
  unfold R0
  rw [v22_at0 V i, v22_at2 V i]
  exact Lit.anchor_edges _ (centre_real _) _ _ _ (Lit.anchor_x ⟨i.val % 15, by omega⟩)

theorem edge_y (i : Fin 37500) : edge (R3 V) i 3 - edge (R3 V) i 1 = hei ⟨i.val % 15, by omega⟩ ∧
    edge (R3 V) i 1 + Ideal.ofBits .f32 1056964608#32 * hei ⟨i.val % 15, by omega⟩ = Spec.centre (i.val / 750) := by
  unfold edge
  rw [k_v22]
  unfold R0
  rw [v22_at1 V i, v22_at3 V i]
  exact Lit.anchor_edges _ (centre_real _) _ _ _ (Lit.anchor_y ⟨i.val % 15, by omega⟩)

theorem R5_v144 (i : Fin 37500) (k : Fin 4) : (R5 V (Proc.devRef .tc main_v144) : FVec Ideal S37500x4 .f32) (ix2 i k) = min (Ideal.ofBits .f32 1145569280#32) (max 0 ((R4 V (Proc.devRef .tc main_v143) : FVec Ideal S37500x4 .f32) (ix2 i k))) :=
  v144_at (R4 V) (fun i => cst_11_at (R3 V) i) (fun i => cst_12_at (R3 V) i) i k

theorem R5_v144_0 (i : Fin 37500) : (R5 V (Proc.devRef .tc main_v144) : FVec Ideal S37500x4 .f32) (ix2 i 0) =
    Spec.lo (box V ⟨i.val % 15 * 4 + 0, by omega⟩ (i.val / 750) (i.val / 15 % 50)) (box V ⟨i.val % 15 * 4 + 2, by omega⟩ (i.val / 750) (i.val / 15 % 50)) (wid ⟨i.val % 15, by omega⟩) (Spec.centre (i.val / 15 % 50)) := by
  rw [R5_v144]
  unfold R4
  rw [v143_at0 (R3 V) i, (edge_x V i).1, (edge_x V i).2, delta_eq, delta_eq]
  rfl

theorem R5_v144_1 (i : Fin 37500) : (R5 V (Proc.devRef .tc main_v144) : FVec Ideal S37500x4 .f32) (ix2 i 1) =
    Spec.lo (box V ⟨i.val % 15 * 4 + 1, by omega⟩ (i.val / 750) (i.val / 15 % 50)) (box V ⟨i.val % 15 * 4 + 3, by omega⟩ (i.val / 750) (i.val / 15 % 50)) (hei ⟨i.val % 15, by omega⟩) (Spec.centre (i.val / 750)) := by
  rw [R5_v144]
  unfold R4
  rw [v143_at1 (R3 V) i, (edge_y V i).1, (edge_y V i).2, delta_eq, delta_eq]
  rfl

theorem R5_v144_2 (i : Fin 37500) : (R5 V (Proc.devRef .tc main_v144) : FVec Ideal S37500x4 .f32) (ix2 i 2) =
    Spec.hi (box V ⟨i.val % 15 * 4 + 0, by omega⟩ (i.val / 750) (i.val / 15 % 50)) (box V ⟨i.val % 15 * 4 + 2, by omega⟩ (i.val / 750) (i.val / 15 % 50)) (wid ⟨i.val % 15, by omega⟩) (Spec.centre (i.val / 15 % 50)) := by
  rw [R5_v144]
  unfold R4
  rw [v143_at2 (R3 V) i, (edge_x V i).1, (edge_x V i).2, delta_eq, delta_eq]
  rfl

theorem R5_v144_3 (i : Fin 37500) : (R5 V (Proc.devRef .tc main_v144) : FVec Ideal S37500x4 .f32) (ix2 i 3) =
    Spec.hi (box V ⟨i.val % 15 * 4 + 1, by omega⟩ (i.val / 750) (i.val / 15 % 50)) (box V ⟨i.val % 15 * 4 + 3, by omega⟩ (i.val / 750) (i.val / 15 % 50)) (hei ⟨i.val % 15, by omega⟩) (Spec.centre (i.val / 750)) := by
  rw [R5_v144]
  unfold R4
  rw [v143_at3 (R3 V) i, (edge_y V i).1, (edge_y V i).2, delta_eq, delta_eq]
  rfl

end Cert.ReferenceIdeal.Val
-- ==== Proof.Value.RefNms.lean ====
/- The reference's operations read at an index. -/
module

public import proofs.«01_k».proof.Proof.Ref.Frame
public import Idealize.ShloMosaic.Lib.Pointwise
public import Idealize.ShloMosaic.Lib.IdealHost
public import Idealize.ShloMosaic.Lib.StableHlo.ReadAt
public import proofs.«01_k».proof.Proof.Value.Words
public import proofs.«01_k».proof.Proof.Value.Spec

@[expose] public section

set_option maxRecDepth 16384

noncomputable section

namespace Cert.ReferenceIdeal.Val

open Cert.ReferenceIdeal Cert.ReferenceIdeal.Gen Cert.ReferenceIdeal.Value Cert.ReferenceIdeal.Hand
open Idealize.ShloMosaic Idealize.ShloMosaic.TcCoe Idealize.SL.Sem Idealize.ShloMosaic.StableHlo

variable (V : Valuation τ sig (Elt Ideal))

/-- The boxes of the chosen positions, from the scores and every box. -/
def chosen (T : FVec Ideal S37500 .f32) (D : FVec Ideal S37500x4 .f32) : FVec Ideal S2000x4 .f32 :=
  Host.gather gather_S37500x4_S2000x1_S2000x4_1_0_n_n_0_1_14 D
    (broadcastInDim S2000x1 ![0] bcast_S2000_S2000x1_0
      (select (cmpi .slt (Host.topK S2000 0 (FloatOps.cmpfTotal (F := Ideal) (φ := .f32) .gt) T sliceFits_S37500_S2000).2 (broadcastInDim S2000 ![] bcast_S_S2000 (constantI S_ 32 0#32)))
        (addi (Host.topK S2000 0 (FloatOps.cmpfTotal (F := Ideal) (φ := .f32) .gt) T sliceFits_S37500_S2000).2 (broadcastInDim S2000 ![] bcast_S_S2000 (constantI S_ 32 37500#32)))
        (Host.topK S2000 0 (FloatOps.cmpfTotal (F := Ideal) (φ := .f32) .gt) T sliceFits_S37500_S2000).2))

theorem v151_eq : (after hostOps0_6 V (Proc.devRef .tc main_v151) : FVec Ideal S2000x4 .f32) = chosen (V (Proc.devRef .tc main_v79)) (V (Proc.devRef .tc main_v144)) := by
  after_results_simp
  rfl

theorem values_eq : (after hostOps0_6 V (Proc.devRef .tc main_values) : FVec Ideal S2000 .f32) = (Host.topK S2000 0 (FloatOps.cmpfTotal (F := Ideal) (φ := .f32) .gt) (V (Proc.devRef .tc main_v79) : FVec Ideal S37500 .f32) sliceFits_S37500_S2000).1 := by
  after_results_simp
  try rfl

theorem v183_at (D : FVec Ideal S2000x4 .f32) (hD : chosen (V (Proc.devRef .tc main_v79)) (V (Proc.devRef .tc main_v144)) = D) (i j : Fin 2000) : (after hostOps0_6 V (Proc.devRef .tc main_v183) : FVec Ideal S2000x2000 .f32) (ix2 i j) = @min EReal _ (D (ix2 i 2)) (D (ix2 j 2)) - @max EReal _ (D (ix2 i 0)) (D (ix2 j 0)) := by
  unfold chosen at hD
  after_results_simp
  rw [hD]
  clear hD
  pointwise
  try rfl

theorem v182_at (D : FVec Ideal S2000x4 .f32) (hD : chosen (V (Proc.devRef .tc main_v79)) (V (Proc.devRef .tc main_v144)) = D) (i j : Fin 2000) : (after hostOps0_6 V (Proc.devRef .tc main_v182) : FVec Ideal S2000x2000 .f32) (ix2 i j) = @min EReal _ (D (ix2 i 3)) (D (ix2 j 3)) := by
  unfold chosen at hD
  after_results_simp
  rw [hD]
  clear hD
  pointwise
  try rfl

theorem v172_at (D : FVec Ideal S2000x4 .f32) (hD : chosen (V (Proc.devRef .tc main_v79)) (V (Proc.devRef .tc main_v144)) = D) (i j : Fin 2000) : (after hostOps0_6 V (Proc.devRef .tc main_v172) : FVec Ideal S2000x2000 .f32) (ix2 i j) = @max EReal _ (D (ix2 i 1)) (D (ix2 j 1)) := by
  unfold chosen at hD
  after_results_simp
  rw [hD]
  clear hD
  pointwise
  try rfl

theorem v162_at (D : FVec Ideal S2000x4 .f32) (hD : chosen (V (Proc.devRef .tc main_v79)) (V (Proc.devRef .tc main_v144)) = D) (i : Fin 2000) : (after hostOps0_6 V (Proc.devRef .tc main_v162) : FVec Ideal S2000 .f32) (ix1 i) = @HMul.hMul EReal EReal EReal _ (D (ix2 i 2) - D (ix2 i 0)) (D (ix2 i 3) - D (ix2 i 1)) := by
  unfold chosen at hD
  after_results_simp
  rw [hD]
  clear hD
  pointwise
  try rfl

theorem cst15_at : (after hostOps0_6 V (Proc.devRef .tc main_cst_15) : FVec Ideal S_ .f32) = constant (F := Ideal) S_ .f32 0x00000000#32 := by
  after_results_simp
  try rfl

theorem v184_at (i j : Fin 2000) : (after hostOps0_7 V (Proc.devRef .tc main_v184) : FVec Ideal S2000x2000 .f32) (ix2 i j) = @max EReal _ ((V (Proc.devRef .tc main_cst_15) : FVec Ideal S_ .f32) ix0) ((V (Proc.devRef .tc main_v183) : FVec Ideal S2000x2000 .f32) (ix2 i j)) := by
  after_reads_at
  try pointwise
  try rfl

theorem v185_at (i j : Fin 2000) : (after hostOps0_8 V (Proc.devRef .tc main_v185) : FVec Ideal S2000x2000 .f32) (ix2 i j) = @HSub.hSub EReal EReal EReal _ ((V (Proc.devRef .tc main_v182) : FVec Ideal S2000x2000 .f32) (ix2 i j)) ((V (Proc.devRef .tc main_v172) : FVec Ideal S2000x2000 .f32) (ix2 i j)) := by
  after_results_simp
  pointwise
  try rfl

theorem cst16_at : (after hostOps0_8 V (Proc.devRef .tc main_cst_16) : FVec Ideal S_ .f32) = constant (F := Ideal) S_ .f32 0x00000000#32 := by
  after_results_simp
  try rfl

theorem v186_at (i j : Fin 2000) : (after hostOps0_9 V (Proc.devRef .tc main_v186) : FVec Ideal S2000x2000 .f32) (ix2 i j) = @max EReal _ ((V (Proc.devRef .tc main_cst_16) : FVec Ideal S_ .f32) ix0) ((V (Proc.devRef .tc main_v185) : FVec Ideal S2000x2000 .f32) (ix2 i j)) := by
  after_reads_at
  try pointwise
  try rfl

theorem v199_0_at (i j : Fin 2000) : (after hostOps0_10 V (Proc.devRef .tc main_v199_0) : FVec Ideal S2000x2000 .f32) (ix2 i j)
    = Ideal.div (@HMul.hMul EReal EReal EReal _ ((V (Proc.devRef .tc main_v184) : FVec Ideal S2000x2000 .f32) (ix2 i j)) ((V (Proc.devRef .tc main_v186) : FVec Ideal S2000x2000 .f32) (ix2 i j)))
      (@HAdd.hAdd EReal EReal EReal _ (@HSub.hSub EReal EReal EReal _ (@HAdd.hAdd EReal EReal EReal _ ((V (Proc.devRef .tc main_v162) : FVec Ideal S2000 .f32) (ix1 i)) ((V (Proc.devRef .tc main_v162) : FVec Ideal S2000 .f32) (ix1 j)))
        (@HMul.hMul EReal EReal EReal _ ((V (Proc.devRef .tc main_v184) : FVec Ideal S2000x2000 .f32) (ix2 i j)) ((V (Proc.devRef .tc main_v186) : FVec Ideal S2000x2000 .f32) (ix2 i j)))) (Ideal.ofBits .f32 0x3089705F#32)) := by
  after_results_simp
  refine (ValueIdx.hostDivf_apply (φ := .f32) _ _ (ix2 i j)).trans (congrArg₂ Ideal.div ?_ ?_) <;> pointwise <;> rfl

theorem v199_1_at (j : Fin 2000) : (after hostOps0_10 V (Proc.devRef .tc main_v199_1) : IVec S2000 32) (ix1 j) = BitVec.ofNat 32 j := by
  after_results_simp
  try pointwise
  try rfl

theorem v199_3_at : (after hostOps0_10 V (Proc.devRef .tc main_v199_3) : IVec S_ 32) = constantI S_ 32 0#32 := by
  after_results_simp
  try rfl

theorem v199_4_at (j : Fin 2000) : (after hostOps0_10 V (Proc.devRef .tc main_v199_4) : IVec S2000 1) (ix1 j) = 1#1 := by
  after_results_simp
  try pointwise
  try rfl

end Cert.ReferenceIdeal.Val
-- ==== Proof.Value.RefLoop.lean ====
/- The reference's operations read at an index. -/
module

public import proofs.«01_k».proof.Proof.Ref.Frame
public import Idealize.ShloMosaic.Lib.Pointwise
public import Idealize.ShloMosaic.Lib.StableHlo.ReadAt
public import Idealize.ShloMosaic.Lib.DynamicIndex
public import Idealize.ShloMosaic.Lib.WordCmp
public import proofs.«01_k».proof.Proof.Value.Words
public import proofs.«01_k».proof.Proof.Value.Spec

@[expose] public section

set_option maxRecDepth 16384

noncomputable section

namespace Cert.ReferenceIdeal.Val

open Cert.ReferenceIdeal Cert.ReferenceIdeal.Gen Cert.ReferenceIdeal.Value Cert.ReferenceIdeal.Hand
open Idealize.ShloMosaic Idealize.ShloMosaic.TcCoe Idealize.SL.Sem Idealize.ShloMosaic.StableHlo

variable (V : Valuation τ sig (Elt Ideal))

/-- One trip's flags, read at a box. -/
theorem new_flags (F4 : IVec S2000 1) (U0 : FVec Ideal S2000x2000 .f32) (I : IVec S2000 32) (k : ℕ) (hk : k < 2000) (U : Fin 2000 → Fin 2000 → EReal) (a : Fin 2000 → Bool)
    (hs1 : S2000.Slices ![k] S1) (hs2 : S2000x2000.Slices ![k, 0] S1x2000)
    (h0 : ∀ i j, U0 (ix2 i j) = U i j) (h1 : ∀ j : Fin 2000, I (ix1 j) = BitVec.ofNat 32 j) (h4 : ∀ j : Fin 2000, F4 (ix1 j) = BitVec.ofBool (a j)) (j : Fin 2000) :
    (select (broadcastInDim S2000 ![] bcast_S_S2000 (shapeCast S_ (extractStridedSlice S1 ![k] F4 hs1) shapeCasts_S1_S_))
      (andi F4 (noti (andi (cmpf .ogt (shapeCast S2000 (extractStridedSlice S1x2000 ![k, 0] U0 hs2) shapeCasts_S1x2000_S2000) (broadcastInDim S2000 ![] bcast_S_S2000 (constant (F := Ideal) S_ .f32 0x3F333333#32)))
        (cmpi .sgt I (broadcastInDim S2000 ![] bcast_S_S2000 (constantI S_ 32 (BitVec.ofNat 32 k))))))) F4 : IVec S2000 1) (ix1 j)
    = BitVec.ofBool (a j && !(a ⟨k, hk⟩ && (decide (Ideal.ofBits FTy.f32 0x3F333333#32 < U ⟨k, hk⟩ j) && decide (k < (j : ℕ))))) := by
  pointwise
  rw [h4, h4, h1, h0, Spec.word_gt (by omega) (by omega)]
  cases a ⟨k, hk⟩ <;> cases a j <;> cases decide (Ideal.ofBits FTy.f32 0x3F333333#32 < U ⟨k, hk⟩ j) <;> cases decide (k < (j : ℕ)) <;> rfl

/-- One trip, from the carried arrays. -/
theorem step_flags (k : ℕ) (hk : k < 2000) (U : Fin 2000 → Fin 2000 → EReal) (a : Fin 2000 → Bool)
    (h0 : ∀ i j, (V (Proc.devRef .tc main_v199_0) : FVec Ideal S2000x2000 .f32) (ix2 i j) = U i j)
    (h1 : ∀ j : Fin 2000, (V (Proc.devRef .tc main_v199_1) : IVec S2000 32) (ix1 j) = BitVec.ofNat 32 j)
    (h3 : (V (Proc.devRef .tc main_v199_3) : IVec S_ 32) = constantI S_ 32 (BitVec.ofNat 32 k))
    (h4 : ∀ j : Fin 2000, (V (Proc.devRef .tc main_v199_4) : IVec S2000 1) (ix1 j) = BitVec.ofBool (a j)) (j : Fin 2000) :
    (step_main_v199_4 V : IVec S2000 1) (ix1 j) = BitVec.ofBool (a j && !(a ⟨k, hk⟩ && (decide (Ideal.ofBits FTy.f32 0x3F333333#32 < U ⟨k, hk⟩ j) && decide (k < (j : ℕ))))) := by
  have hs1 : S2000.Slices ![k] S1 := ⟨rfl, fun a => by obtain rfl : a = 0 := Subsingleton.elim _ _; show k + 1 ≤ 2000; omega⟩
  have hs2 : S2000x2000.Slices ![k, 0] S1x2000 := ⟨rfl, fun a => by
    match a with
    | ⟨0, _⟩ => show k + 1 ≤ 2000; omega
    | ⟨1, _⟩ => show 0 + 2000 ≤ 2000; omega⟩
  refine Eq.trans ?_ (new_flags _ _ _ k hk U a hs1 hs2 h0 h1 h4 j)
  unfold step_main_v199_4 res_main_while0b_v217
  rw [h3]
  rw [Host.dynamicSlice_eq_extractStridedSlice S1 _ _ ![k] _ hs1 (fun a => ?_), Host.dynamicSlice_eq_extractStridedSlice S1x2000 _ _ ![k, 0] _ hs2 (fun a => ?_)]
  · rfl
  · match a with
    | ⟨0, _⟩ => exact toInt_wrap_ofNat k (by omega)
    | ⟨1, _⟩ => rfl
  · match a with
    | ⟨0, _⟩ => exact toInt_wrap_ofNat k (by omega)

/-- The place moves on by one. -/
theorem step_place (k : ℕ) (h3 : (V (Proc.devRef .tc main_v199_3) : IVec S_ 32) = constantI S_ 32 (BitVec.ofNat 32 k)) :
    (step_main_v199_3 V : IVec S_ 32) = constantI S_ 32 (BitVec.ofNat 32 (k + 1)) := by
  unfold step_main_v199_3
  rw [h3]
  funext i
  show BitVec.ofNat 32 k + 1#32 = BitVec.ofNat 32 (k + 1)
  rw [BitVec.ofNat_add]

/-- After `k` trips the flags are those of the greedy pass over the first `k` boxes. -/
theorem steps_flags (D : ℕ → Fin 4 → EReal)
    (h0 : ∀ i j : Fin 2000, (V (Proc.devRef .tc main_v199_0) : FVec Ideal S2000x2000 .f32) (ix2 i j) = Spec.iou (D i 0) (D i 1) (D i 2) (D i 3) (D j 0) (D j 1) (D j 2) (D j 3))
    (h1 : ∀ j : Fin 2000, (V (Proc.devRef .tc main_v199_1) : IVec S2000 32) (ix1 j) = BitVec.ofNat 32 j)
    (h3 : (V (Proc.devRef .tc main_v199_3) : IVec S_ 32) = constantI S_ 32 0#32)
    (h4 : ∀ j : Fin 2000, (V (Proc.devRef .tc main_v199_4) : IVec S2000 1) (ix1 j) = 1#1) :
    ∀ k : ℕ, k ≤ 2000 →
      (∀ i j : Fin 2000, ((STEP^[k] V) (Proc.devRef .tc main_v199_0) : FVec Ideal S2000x2000 .f32) (ix2 i j) = Spec.iou (D i 0) (D i 1) (D i 2) (D i 3) (D j 0) (D j 1) (D j 2) (D j 3))
      ∧ (∀ j : Fin 2000, ((STEP^[k] V) (Proc.devRef .tc main_v199_1) : IVec S2000 32) (ix1 j) = BitVec.ofNat 32 j)
      ∧ ((STEP^[k] V) (Proc.devRef .tc main_v199_3) : IVec S_ 32) = constantI S_ 32 (BitVec.ofNat 32 k)
      ∧ (∀ j : Fin 2000, ((STEP^[k] V) (Proc.devRef .tc main_v199_4) : IVec S2000 1) (ix1 j) = BitVec.ofBool (Greedy.kp (Spec.strikes D) k j))
  | 0, _ => ⟨h0, h1, h3, h4⟩
  | k + 1, hk => by
    obtain ⟨i0, i1, i3, i4⟩ := steps_flags D h0 h1 h3 h4 k (by omega)
    rw [Function.iterate_succ_apply', STEP_main_v199_0, STEP_main_v199_1, STEP_main_v199_3, STEP_main_v199_4]
    exact ⟨i0, i1, step_place _ k i3, fun j => step_flags _ k (by omega) _ (fun j => Greedy.kp (Spec.strikes D) k j) i0 i1 i3 i4 j⟩

/-- The flags when the loop is done. -/
theorem end_flags (m : (ℓ : Loc nD τ sig) → Buf (Elt Ideal) ℓ) (c : Dev nD) (D : ℕ → Fin 4 → EReal)
    (h0 : ∀ i j : Fin 2000, (entryContents preI m c (Proc.devRef .tc main_v199_0) : FVec Ideal S2000x2000 .f32) (ix2 i j) = Spec.iou (D i 0) (D i 1) (D i 2) (D i 3) (D j 0) (D j 1) (D j 2) (D j 3))
    (h1 : ∀ j : Fin 2000, (entryContents preI m c (Proc.devRef .tc main_v199_1) : IVec S2000 32) (ix1 j) = BitVec.ofNat 32 j)
    (h3 : (entryContents preI m c (Proc.devRef .tc main_v199_3) : IVec S_ 32) = constantI S_ 32 0#32)
    (h4 : ∀ j : Fin 2000, (entryContents preI m c (Proc.devRef .tc main_v199_4) : IVec S2000 1) (ix1 j) = 1#1) (j : Fin 2000) :
    (atEnd m c (Proc.devRef .tc main_v199_4) : IVec S2000 1) (ix1 j) = BitVec.ofBool (Greedy.kp (Spec.strikes D) 2000 j) := by
  unfold atEnd
  rw [cond_keeps _ main_v199_4 (by decide)]
  refine (congrFun (atK_agree m c 2000 main_v199_4 (by decide)) (ix1 j)).trans ?_
  exact (steps_flags _ D h0 h1 h3 h4 2000 le_rfl).2.2.2 j

end Cert.ReferenceIdeal.Val
-- ==== Proof.Value.RefNmsEnd.lean ====
/- The reference's suppression, from the scores and boxes to the flags. -/
module

public import proofs.«01_k».proof.Proof.Ref.Frame
public import proofs.«01_k».proof.Proof.Value.RefDense
public import proofs.«01_k».proof.Proof.Value.RefNms
public import proofs.«01_k».proof.Proof.Value.RefLoop
public import proofs.«01_k».proof.Proof.Value.Lit

@[expose] public section

set_option maxRecDepth 16384

noncomputable section

namespace Cert.ReferenceIdeal.Val

open Cert.ReferenceIdeal Cert.ReferenceIdeal.Gen Cert.ReferenceIdeal.Value Cert.ReferenceIdeal.Hand
open Idealize.ShloMosaic Idealize.ShloMosaic.TcCoe Idealize.SL.Sem Idealize.ShloMosaic.StableHlo

variable (V : Valuation τ sig (Elt Ideal))

/-- The contents after the stretches of the suppression. -/
def R6 : Valuation τ sig (Elt Ideal) := after hostOps0_6 (R5 V)
def R7 : Valuation τ sig (Elt Ideal) := after hostOps0_7 (R6 V)
def R8 : Valuation τ sig (Elt Ideal) := after hostOps0_8 (R7 V)
def R9 : Valuation τ sig (Elt Ideal) := after hostOps0_9 (R8 V)
def R10 : Valuation τ sig (Elt Ideal) := after hostOps0_10 (R9 V)

theorem R7_of (r : Ref sig .tc) (h : r ∉ hostOps0_7_W) : R7 V (Proc.devRef .tc r) = R6 V (Proc.devRef .tc r) := after_of_writes_sub hostOps0_7 _ hostOps0_7_writes h
theorem R8_of (r : Ref sig .tc) (h : r ∉ hostOps0_8_W) : R8 V (Proc.devRef .tc r) = R7 V (Proc.devRef .tc r) := after_of_writes_sub hostOps0_8 _ hostOps0_8_writes h
theorem R9_of (r : Ref sig .tc) (h : r ∉ hostOps0_9_W) : R9 V (Proc.devRef .tc r) = R8 V (Proc.devRef .tc r) := after_of_writes_sub hostOps0_9 _ hostOps0_9_writes h
theorem R10_of (r : Ref sig .tc) (h : r ∉ hostOps0_10_W) : R10 V (Proc.devRef .tc r) = R9 V (Proc.devRef .tc r) := after_of_writes_sub hostOps0_10 _ hostOps0_10_writes h

theorem entry_eq (m : (ℓ : Loc nD τ sig) → Buf (Elt Ideal) ℓ) (c : Dev nD) : entryContents preI m c = R10 (fun b => m (c, b)) := by
  simp only [entryContents, afterL_cons, afterL_nil]
  rfl

/-- The chosen boxes. -/
def G : FVec Ideal S2000x4 .f32 := chosen (R5 V (Proc.devRef .tc main_v79)) (R5 V (Proc.devRef .tc main_v144))

theorem R10_v151 : (R10 V (Proc.devRef .tc main_v151) : FVec Ideal S2000x4 .f32) = G V := by
  rw [R10_of V main_v151 (by decide), R9_of V main_v151 (by decide), R8_of V main_v151 (by decide), R7_of V main_v151 (by decide)]
  exact v151_eq (R5 V)

theorem R10_values : (R10 V (Proc.devRef .tc main_values) : FVec Ideal S2000 .f32) = (Host.topK S2000 0 (FloatOps.cmpfTotal (F := Ideal) (φ := .f32) .gt) (R5 V (Proc.devRef .tc main_v79) : FVec Ideal S37500 .f32) sliceFits_S37500_S2000).1 := by
  rw [R10_of V main_values (by decide), R9_of V main_values (by decide), R8_of V main_values (by decide), R7_of V main_values (by decide)]
  exact values_eq (R5 V)

theorem R9_v184 (i j : Fin 2000) : (R9 V (Proc.devRef .tc main_v184) : FVec Ideal S2000x2000 .f32) (ix2 i j) = @max EReal _ 0 (@min EReal _ (G V (ix2 i 2)) (G V (ix2 j 2)) - @max EReal _ (G V (ix2 i 0)) (G V (ix2 j 0))) := by
  rw [R9_of V main_v184 (by decide), R8_of V main_v184 (by decide)]
  refine (v184_at (R6 V) i j).trans ?_
  have h1 : (R6 V (Proc.devRef .tc main_cst_15) : FVec Ideal S_ .f32) ix0 = (0 : EReal) := (congrFun (cst15_at (R5 V)) ix0).trans (Ideal.ofBits_zero .f32)
  have h2 := v183_at (R5 V) (G V) rfl i j
  exact congrArg₂ (fun a b : EReal => max a b) h1 h2

theorem R9_v186 (i j : Fin 2000) : (R9 V (Proc.devRef .tc main_v186) : FVec Ideal S2000x2000 .f32) (ix2 i j) = @max EReal _ 0 (@min EReal _ (G V (ix2 i 3)) (G V (ix2 j 3)) - @max EReal _ (G V (ix2 i 1)) (G V (ix2 j 1))) := by
  refine (v186_at (R8 V) i j).trans ?_
  have h1 : (R8 V (Proc.devRef .tc main_cst_16) : FVec Ideal S_ .f32) ix0 = (0 : EReal) := (congrFun (cst16_at (R7 V)) ix0).trans (Ideal.ofBits_zero .f32)
  have h2 := v185_at (R7 V) i j
  have h3 : (R7 V (Proc.devRef .tc main_v182) : FVec Ideal S2000x2000 .f32) (ix2 i j) = _ := (congrFun (R7_of V main_v182 (by decide)) (ix2 i j)).trans (v182_at (R5 V) (G V) rfl i j)
  have h4 : (R7 V (Proc.devRef .tc main_v172) : FVec Ideal S2000x2000 .f32) (ix2 i j) = _ := (congrFun (R7_of V main_v172 (by decide)) (ix2 i j)).trans (v172_at (R5 V) (G V) rfl i j)
  exact congrArg₂ (fun a b : EReal => max a b) h1 (h2.trans (congrArg₂ (fun a b : EReal => a - b) h3 h4))

theorem R9_v162 (i : Fin 2000) : (R9 V (Proc.devRef .tc main_v162) : FVec Ideal S2000 .f32) (ix1 i) = @HMul.hMul EReal EReal EReal _ (G V (ix2 i 2) - G V (ix2 i 0)) (G V (ix2 i 3) - G V (ix2 i 1)) := by
  rw [R9_of V main_v162 (by decide), R8_of V main_v162 (by decide), R7_of V main_v162 (by decide)]
  exact v162_at (R5 V) (G V) rfl i

/-- A chosen box's corner, zero past the end. -/
def corner (i : ℕ) (k : Fin 4) : EReal := if h : i < 2000 then G V (ix2 ⟨i, h⟩ k) else 0

theorem corner_at (i : Fin 2000) (k : Fin 4) : corner V i k = G V (ix2 i k) := dif_pos i.isLt

theorem R10_v199_0 (i j : Fin 2000) : (R10 V (Proc.devRef .tc main_v199_0) : FVec Ideal S2000x2000 .f32) (ix2 i j)
    = Spec.iou (corner V i 0) (corner V i 1) (corner V i 2) (corner V i 3) (corner V j 0) (corner V j 1) (corner V j 2) (corner V j 3) := by
  simp only [corner_at]
  refine (v199_0_at (R9 V) i j).trans ?_
  unfold Spec.iou
  rw [R9_v184 V i j, R9_v186 V i j, R9_v162 V i, R9_v162 V j]

/-- The flags the reference's loop leaves. -/
theorem flags_at (m : (ℓ : Loc nD τ sig) → Buf (Elt Ideal) ℓ) (c : Dev nD) (j : Fin 2000) :
    (atEnd m c (Proc.devRef .tc main_v199_4) : IVec S2000 1) (ix1 j)
      = BitVec.ofBool (Greedy.kp (Spec.strikes (corner (fun b => m (c, b)))) 2000 j) := by
  refine end_flags m c _ ?_ ?_ ?_ ?_ j
  · rw [entry_eq]; exact R10_v199_0 _
  · rw [entry_eq]; exact v199_1_at _
  · rw [entry_eq]; exact v199_3_at _
  · rw [entry_eq]; exact v199_4_at _

end Cert.ReferenceIdeal.Val
-- ==== Proof.Value.RefTail.lean ====
/- The reference's operations read at an index. -/
module

public import proofs.«01_k».proof.Proof.Ref.Frame
public import Idealize.ShloMosaic.Lib.Pointwise
public import Idealize.ShloMosaic.Lib.StableHlo.ReadAt
public import Idealize.ShloMosaic.Lib.DynamicIndex
public import Idealize.ShloMosaic.Lib.WordCmp
public import proofs.«01_k».proof.Proof.Value.Words
public import proofs.«01_k».proof.Proof.Value.Tops
public import proofs.«01_k».proof.Proof.Value.Spec

@[expose] public section

set_option maxRecDepth 16384

noncomputable section

namespace Cert.ReferenceIdeal.Val

open Cert.ReferenceIdeal Cert.ReferenceIdeal.Gen Cert.ReferenceIdeal.Value Cert.ReferenceIdeal.Hand
open Idealize.ShloMosaic Idealize.ShloMosaic.TcCoe Idealize.SL.Sem Idealize.ShloMosaic.StableHlo

variable (V : Valuation τ sig (Elt Ideal))

/-- Rows of a table, each named by a word that is a number below the table's height. -/
theorem rows_at (G : FVec Ideal S2000x4 .f32) (idx : IVec S1000x1 32) (y : Fin 1000) (k : Fin 4) (n : ℕ) (hn : n < 2000)
    (h : idx (ix2 y 0) = BitVec.ofNat 32 n) :
    Host.gather gather_S2000x4_S1000x1_S1000x4_1_0_n_n_0_1_14 G idx (ix2 y k) = G (ix2 ⟨n, hn⟩ k) := by
  unfold Host.gather
  refine congrArg G (funext fun a => Fin.ext ?_)
  obtain rfl | rfl : a = 0 ∨ a = 1 := by
    match a with
    | ⟨0, _⟩ => exact Or.inl rfl
    | ⟨1, _⟩ => exact Or.inr rfl
  · show gather_S2000x4_S1000x1_S1000x4_1_0_n_n_0_1_14.start (ix2 y k) idx 0 + gather_S2000x4_S1000x1_S1000x4_1_0_n_n_0_1_14.batchCoord (ix2 y k) 0 + gather_S2000x4_S1000x1_S1000x4_1_0_n_n_0_1_14.offCoord (ix2 y k) 0 = n
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S2000x4_S1000x1_S1000x4_1_0_n_n_0_1_14.startIndexMap from List.mem_singleton.mpr rfl)]
    have hsi : gather_S2000x4_S1000x1_S1000x4_1_0_n_n_0_1_14.siIdx (ix2 y k) ⟨List.idxOf (0 : Fin 2) gather_S2000x4_S1000x1_S1000x4_1_0_n_n_0_1_14.startIndexMap,
        List.idxOf_lt_length_iff.2 (List.mem_singleton.mpr rfl)⟩ = ix2 y 0 := by
      funext b; refine Fin.ext ?_
      match b with
      | ⟨0, _⟩ => rfl
      | ⟨1, _⟩ => rfl
    rw [hsi, h, Spec.toInt_small (by omega)]
    show min (n : ℤ).toNat (2000 - 1) = n
    omega
  · show gather_S2000x4_S1000x1_S1000x4_1_0_n_n_0_1_14.start (ix2 y k) idx 1 + gather_S2000x4_S1000x1_S1000x4_1_0_n_n_0_1_14.batchCoord (ix2 y k) 1 + gather_S2000x4_S1000x1_S1000x4_1_0_n_n_0_1_14.offCoord (ix2 y k) 1 = k
    rw [GatherDims.batchCoord_eq_zero _ _ _ List.not_mem_nil]
    have hs : gather_S2000x4_S1000x1_S1000x4_1_0_n_n_0_1_14.start (ix2 y k) idx 1 = 0 := by
      unfold GatherDims.start
      rw [dif_neg (show ¬ (1 : Fin 2) ∈ gather_S2000x4_S1000x1_S1000x4_1_0_n_n_0_1_14.startIndexMap from fun h => absurd (List.mem_singleton.mp h) (by decide))]
    rw [hs]
    show 0 + 0 + gather_S2000x4_S1000x1_S1000x4_1_0_n_n_0_1_14.offCoord (ix2 y k) 1 = k
    rw [Nat.zero_add]
    rfl

/-- The scores with the struck ones lowered. -/
theorem v200_at (i : Fin 2000) : (after hostOps0_12 V (Proc.devRef .tc main_v200) : FVec Ideal S2000 .f32) (ix1 i) = Scalar.select ((V (Proc.devRef .tc main_v199_4) : IVec S2000 1) (ix1 i)) ((V (Proc.devRef .tc main_values) : FVec Ideal S2000 .f32) (ix1 i)) ((V (Proc.devRef .tc main_cst_21) : FVec Ideal S_ .f32) ix0) := by
  after_reads_at
  try pointwise
  try rfl

theorem cst21_at : (after hostOps0_11 V (Proc.devRef .tc main_cst_21) : FVec Ideal S_ .f32) = constant (F := Ideal) S_ .f32 0xCE6E6B28#32 := by
  after_results_simp
  try rfl

theorem wrap_small (n : ℕ) (hn : n < 2000) : Scalar.select (IntOp.cmpi CmpIPredicate.slt (BitVec.ofNat 32 n) 0#32) (BitVec.ofNat 32 n + 2000#32) (BitVec.ofNat 32 n) = BitVec.ofNat 32 n := by
  have h : IntOp.cmpi CmpIPredicate.slt (BitVec.ofNat 32 n) 0#32 = 0#1 := by
    show BitVec.ofBool (BitVec.slt _ _) = 0#1
    have : BitVec.slt (BitVec.ofNat 32 n) 0#32 = false := by
      rw [BitVec.slt_eq_decide, Spec.toInt_small (by omega)]
      exact decide_eq_false (by simp)
    rw [this]; rfl
  rw [h]; rfl

/-- The rows the reference returns, from the lowered scores and the chosen boxes. -/
def rows (T : FVec Ideal S2000 .f32) (G : FVec Ideal S2000x4 .f32) : FVec Ideal S1000x5 .f32 :=
  concatenate S1000x5 1 [⟨S1000x4, Host.gather gather_S2000x4_S1000x1_S1000x4_1_0_n_n_0_1_14 G
      (broadcastInDim S1000x1 ![0] bcast_S1000_S1000x1_0
        (select (cmpi .slt (Host.topK S1000 0 (FloatOps.cmpfTotal (F := Ideal) (φ := .f32) .gt) T sliceFits_S2000_S1000).2 (broadcastInDim S1000 ![] bcast_S_S1000 (constantI S_ 32 0#32)))
          (addi (Host.topK S1000 0 (FloatOps.cmpfTotal (F := Ideal) (φ := .f32) .gt) T sliceFits_S2000_S1000).2 (broadcastInDim S1000 ![] bcast_S_S1000 (constantI S_ 32 2000#32)))
          (Host.topK S1000 0 (FloatOps.cmpfTotal (F := Ideal) (φ := .f32) .gt) T sliceFits_S2000_S1000).2))⟩,
    ⟨S1000x1, broadcastInDim S1000x1 ![0] bcast_S1000_S1000x1_0 (Host.topK S1000 0 (FloatOps.cmpfTotal (F := Ideal) (φ := .f32) .gt) T sliceFits_S2000_S1000).1⟩]
    concatenates_S1000x4_S1000x1_S1000x5_d1

theorem v209_eq : (after hostOps0_13 V (Proc.devRef .tc main_v209) : FVec Ideal S1000x5 .f32) = rows (V (Proc.devRef .tc main_v200)) (V (Proc.devRef .tc main_v151)) := by
  unfold rows
  after_results_simp
  refine congrArg₂ (fun (a : FVec Ideal S1000x4 .f32) (b : FVec Ideal S1000x1 .f32) => concatenate S1000x5 1 [⟨S1000x4, a⟩, ⟨S1000x1, b⟩] concatenates_S1000x4_S1000x1_S1000x5_d1) ?_ ?_
  · after_results_simp
  · after_results_simp

/-- A row: the box at the position of the `y`-th greatest lowered score, and that score. -/
theorem rows_apply (T : FVec Ideal S2000 .f32) (G : FVec Ideal S2000x4 .f32) (y : Fin 1000) (k : Fin 5) : rows T G (ix2 y k)
    = if h : (k : ℕ) < 4 then G (ix2 (Tops.pos T ⟨y, by omega⟩) ⟨k, h⟩) else T (ix1 (Tops.pos T ⟨y, by omega⟩)) := by
  unfold rows
  have h1 := Tops.topK_fst (by decide : 1000 ≤ 2000) T sliceFits_S2000_S1000 y
  have h2 := Tops.topK_snd (by decide : 1000 ≤ 2000) T sliceFits_S2000_S1000 y
  generalize Host.topK S1000 0 (FloatOps.cmpfTotal (F := Ideal) (φ := .f32) .gt) T sliceFits_S2000_S1000 = K at h1 h2 ⊢
  have hg := fun k' => rows_at G (broadcastInDim S1000x1 ![0] bcast_S1000_S1000x1_0
      (select (cmpi .slt K.2 (broadcastInDim S1000 ![] bcast_S_S1000 (constantI S_ 32 0#32)))
        (addi K.2 (broadcastInDim S1000 ![] bcast_S_S1000 (constantI S_ 32 2000#32))) K.2)) y k' _ (Tops.pos T ⟨y, by omega⟩).isLt
      (by pointwise; rw [h2]; exact wrap_small _ (Tops.pos T ⟨y, by omega⟩).isLt)
  generalize Host.gather gather_S2000x4_S1000x1_S1000x4_1_0_n_n_0_1_14 G _ = Q at hg ⊢
  generalize Tops.pos T ⟨y, by omega⟩ = p at h1 hg ⊢
  obtain ⟨R, hR⟩ : ∃ R : EReal, R = if h : (k : ℕ) < 4 then G (ix2 p ⟨k, h⟩) else T (ix1 p) := ⟨_, rfl⟩
  refine Eq.trans ?_ hR
  pointwise
  rw [hR]
  split_ifs with hk
  · exact hg ⟨k, hk⟩
  · exact h1

end Cert.ReferenceIdeal.Val
-- ==== Proof.Value.RefEnd.lean ====
/- What the reference returns, as the kept boxes in order and then the struck ones. -/
module

public import proofs.«01_k».proof.Proof.Ref.Frame
public import proofs.«01_k».proof.Proof.Value.RefNmsEnd
public import proofs.«01_k».proof.Proof.Value.RefTail
public import proofs.«01_k».proof.Proof.Value.Rank
public import proofs.«01_k».proof.Proof.Value.Tops

@[expose] public section

set_option maxRecDepth 16384

noncomputable section

namespace Cert.ReferenceIdeal.Val

open Cert.ReferenceIdeal Cert.ReferenceIdeal.Gen Cert.ReferenceIdeal.Value Cert.ReferenceIdeal.Hand
open Idealize.ShloMosaic Idealize.ShloMosaic.TcCoe Idealize.SL.Sem Idealize.ShloMosaic.StableHlo

/-- What a struck box's score becomes. -/
abbrev low : EReal := Ideal.ofBits FTy.f32 0xCE6E6B28#32

/-- Sorting scores of which the struck ones were lowered below all others lists the kept ones first. -/
theorem pos_lowered (T v : FVec Ideal S2000 .f32) (f : ℕ → Bool)
    (hT : ∀ i : Fin 2000, T (ix1 i) = if f i then v (ix1 i) else low)
    (hv : ∀ i : Fin 2000, low < v (ix1 i)) (hs : ∀ i j : Fin 2000, i < j → @LE.le EReal _ (v (ix1 j)) (v (ix1 i))) (r : Fin 2000) :
    (Tops.pos T r : ℕ) = (Greedy.order f 2000)[(r : ℕ)]'(by rw [Greedy.order_length]; exact r.isLt) := by
  refine Greedy.sortedFrom_split (Tops.ahead T) f (fun a b hab ha => ?_) (fun a b ha => ?_) r
  · unfold Tops.ahead
    rw [hT, hT, ha, if_pos rfl]
    refine decide_eq_false (not_lt.2 ?_)
    split_ifs
    · exact hs a b hab
    · exact (hv a).le
  · unfold Tops.ahead
    rw [hT, hT, ha, if_neg (by decide)]
    cases f b
    · exact decide_eq_false (lt_irrefl _)
    · exact decide_eq_true (hv b)

variable (m : (ℓ : Loc nD τ sig) → Buf (Elt Ideal) ℓ) (c : Dev nD)

/-- The contents at the start. -/
abbrev start : Valuation τ sig (Elt Ideal) := fun b => m (c, b)

/-- Does a chosen box stay? -/
def stays (j : ℕ) : Bool := Greedy.kp (Spec.strikes (corner (start m c))) 2000 j

/-- The chosen scores, the greatest first. -/
def tops : FVec Ideal S2000 .f32 := (Host.topK S2000 0 (FloatOps.cmpfTotal (F := Ideal) (φ := .f32) .gt) (R5 (start m c) (Proc.devRef .tc main_v79) : FVec Ideal S37500 .f32) sliceFits_S37500_S2000).1

theorem end_values : (atEnd m c (Proc.devRef .tc main_values) : FVec Ideal S2000 .f32) = tops m c := by
  rw [atEnd_keep m c main_values (by decide), entry_eq]
  exact R10_values _

theorem end_v151 : (atEnd m c (Proc.devRef .tc main_v151) : FVec Ideal S2000x4 .f32) = G (start m c) := by
  rw [atEnd_keep m c main_v151 (by decide), entry_eq]
  exact R10_v151 _

theorem keep11 (V : Valuation τ sig (Elt Ideal)) : after hostOps0_11 V (Proc.devRef .tc main_v199_4) = V (Proc.devRef .tc main_v199_4) ∧ after hostOps0_11 V (Proc.devRef .tc main_values) = V (Proc.devRef .tc main_values) ∧ after hostOps0_11 V (Proc.devRef .tc main_v151) = V (Proc.devRef .tc main_v151) := by
  refine ⟨?_, ?_, ?_⟩ <;> after_results_simp

theorem keep12 (V : Valuation τ sig (Elt Ideal)) (i : Fin 2000) (k : Fin 4) : (after hostOps0_12 V (Proc.devRef .tc main_v151) : FVec Ideal S2000x4 .f32) (ix2 i k) = (V (Proc.devRef .tc main_v151) : FVec Ideal S2000x4 .f32) (ix2 i k) := by
  after_reads_at

/-- The contents when the scores are lowered. -/
abbrev L12 : Valuation τ sig (Elt Ideal) := after hostOps0_12 (after hostOps0_11 (atEnd m c))

theorem L12_v200 (i : Fin 2000) : (L12 m c (Proc.devRef .tc main_v200) : FVec Ideal S2000 .f32) (ix1 i) = if stays m c i then tops m c (ix1 i) else low := by
  refine (v200_at (after hostOps0_11 (atEnd m c)) i).trans ?_
  rw [(keep11 _).1, (keep11 _).2.1, flags_at, end_values, cst21_at, Spec.select_flag]
  rfl

theorem L12_v151 (i : Fin 2000) (k : Fin 4) : (L12 m c (Proc.devRef .tc main_v151) : FVec Ideal S2000x4 .f32) (ix2 i k) = G (start m c) (ix2 i k) := by
  refine (keep12 _ i k).trans ?_
  rw [(keep11 _).2.2, end_v151]

theorem tops_at (i : Fin 2000) : tops m c (ix1 i) = (R5 (start m c) (Proc.devRef .tc main_v79) : FVec Ideal S37500 .f32) (ix1 (Tops.pos (R5 (start m c) (Proc.devRef .tc main_v79) : FVec Ideal S37500 .f32) ⟨i, by omega⟩)) :=
  Tops.topK_fst (by decide : 2000 ≤ 37500) _ sliceFits_S37500_S2000 i

/-- The reference's rows. -/
theorem final_at (hv : ∀ i : Fin 37500, low < (R5 (start m c) (Proc.devRef .tc main_v79) : FVec Ideal S37500 .f32) (ix1 i)) (y : Fin 1000) (k : Fin 5) (p : Fin 2000)
    (hp : (p : ℕ) = (Greedy.order (stays m c) 2000)[(y : ℕ)]'(by rw [Greedy.order_length]; omega)) :
    (final m c (Proc.devRef .tc main_v209) : FVec Ideal S1000x5 .f32) (ix2 y k)
      = if h : (k : ℕ) < 4 then G (start m c) (ix2 p ⟨k, h⟩) else if stays m c p then tops m c (ix1 p) else low := by
  have e : final m c (Proc.devRef .tc main_v209) = after hostOps0_13 (L12 m c) (Proc.devRef .tc main_v209) := by
    unfold final
    rw [after_append, after_append]
  refine (congrFun e (ix2 y k)).trans ((congrFun (v209_eq (L12 m c)) (ix2 y k)).trans ((rows_apply _ _ y k).trans ?_))
  have hpos : Tops.pos (L12 m c (Proc.devRef .tc main_v200) : FVec Ideal S2000 .f32) ⟨y, by omega⟩ = p :=
    Fin.ext ((pos_lowered _ (tops m c) (stays m c) (L12_v200 m c)
      (fun i => by rw [tops_at]; exact hv _)
      (fun i j hij => by rw [tops_at, tops_at]; exact Tops.pos_sorted _ hij) ⟨y, by omega⟩).trans hp.symm)
  rw [hpos, L12_v200]
  split_ifs
  · exact L12_v151 m c p _
  · rfl
  · rfl

end Cert.ReferenceIdeal.Val
-- ==== Proof.Value.Join.lean ====
/- The two programs' results are equal: same scores and boxes, same choice, same pass over the chosen boxes, same order. -/
module

public import proofs.«01_k».proof.Proof.Value.KerDense
public import proofs.«01_k».proof.Proof.Value.KerEnd
public import proofs.«01_k».proof.Proof.Value.RefDense
public import proofs.«01_k».proof.Proof.Value.RefEnd

@[expose] public section

set_option maxRecDepth 16384

noncomputable section

namespace Cert.Join

open Idealize.ShloMosaic Idealize.ShloMosaic.TcCoe Idealize.SL.Sem Idealize.ShloMosaic.StableHlo

/-- Two results that list the same boxes and scores in the same order are equal. -/
theorem glue (A B : FVec Ideal Cert.KernelIdeal.S1000x5 .f32) (G G' : FVec Ideal Cert.KernelIdeal.S2000x4 .f32) (T T' : FVec Ideal Cert.KernelIdeal.S2000 .f32) (D : ℕ → Fin 4 → EReal)
    (hA : ∀ (y : Fin 1000) (k : Fin 5) (p : Fin 2000), (p : ℕ) = (Greedy.order (Greedy.kp (Spec.strikes D) 2000) 2000)[(y : ℕ)]'(by rw [Greedy.order_length]; omega) →
      A (ix2 y k) = if h : (k : ℕ) < 4 then G (ix2 p ⟨k, h⟩) else if Greedy.kp (Spec.strikes D) 2000 p then T (ix1 p) else Ideal.ofBits FTy.f32 0xCE6E6B28#32)
    (hB : (∀ (i : Fin 2000) (k : Fin 4), D i k = G' (ix2 i k)) → ∀ (y : Fin 1000) (k : Fin 5) (p : Fin 2000), (p : ℕ) = (Greedy.order (Greedy.kp (Spec.strikes D) 2000) 2000)[(y : ℕ)]'(by rw [Greedy.order_length]; omega) →
      B (ix2 y k) = if h : (k : ℕ) < 4 then G' (ix2 p ⟨k, h⟩) else if Greedy.kp (Spec.strikes D) 2000 p then T' (ix1 p) else Ideal.ofBits FTy.f32 0xCE6E6B28#32)
    (hD : ∀ (i : Fin 2000) (k : Fin 4), D i k = G (ix2 i k)) (hG : G = G') (hT : T = T') : A = B := by
  subst hG hT
  funext i
  rw [eq_ix2 i]
  obtain ⟨y, hy⟩ : ∃ y : Fin 1000, y = i 0 := ⟨_, rfl⟩
  obtain ⟨k, hk⟩ : ∃ k : Fin 5, k = i 1 := ⟨_, rfl⟩
  rw [← hy, ← hk]
  have hlen : (y : ℕ) < (Greedy.order (Greedy.kp (Spec.strikes D) 2000) 2000).length := by rw [Greedy.order_length]; omega
  have hp : (Greedy.order (Greedy.kp (Spec.strikes D) 2000) 2000)[(y : ℕ)]'hlen < 2000 := (Greedy.mem_order _).1 (List.getElem_mem hlen)
  exact (hA y k ⟨_, hp⟩ rfl).trans (hB hD y k ⟨_, hp⟩ rfl).symm

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The two programs start from the same arguments on a device. -/
def Same : Prop :=
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)

/-- One score, of any seven arrays. -/
def score (a0 : FVec Ideal Cert.KernelIdeal.S1x50x50x256 .f32) (a1 : FVec Ideal Cert.KernelIdeal.S3x3x256x256 .f32) (a2 : FVec Ideal Cert.KernelIdeal.S256 .f32)
    (h : Fin 256 → EReal) (q : EReal) (y x : ℕ) : EReal :=
  Spec.head (Spec.padded (fun y x k => a0 (ix4 0 y x k))) (fun t k d => a1 (ix4 ⟨t.val / 3, by omega⟩ ⟨t.val % 3, by omega⟩ k d)) (fun d => a2 (ix1 d)) h q y x

variable (hs : Same m m' c)
include hs

theorem cls_eq (a : Fin 15) (y x : ℕ) : Cert.ReferenceIdeal.Val.cls (Cert.ReferenceIdeal.Val.start m' c) a y x = Cert.KernelIdeal.Val.cls m c a y x := by
  obtain ⟨h0, h1, h2, h3, h4, h5, h6⟩ := hs
  have e : ∀ {a0 b0 a1 b1 a2 b2} {a3 b3 : FVec Ideal Cert.KernelIdeal.S1x1x256x15 .f32} {a4 b4 : FVec Ideal Cert.KernelIdeal.S15 .f32}, a0 = b0 → a1 = b1 → a2 = b2 → a3 = b3 → a4 = b4 →
      score a0 a1 a2 (fun d => a3 (ix4 0 0 d a)) (a4 (ix1 a)) y x = score b0 b1 b2 (fun d => b3 (ix4 0 0 d a)) (b4 (ix1 a)) y x := by
    rintro _ _ _ _ _ _ _ _ _ _ rfl rfl rfl rfl rfl; rfl
  exact e h0 h1 h2 h3 h4

theorem box_eq (a : Fin 60) (y x : ℕ) : Cert.ReferenceIdeal.Val.box (Cert.ReferenceIdeal.Val.start m' c) a y x = Cert.KernelIdeal.Val.box m c a y x := by
  obtain ⟨h0, h1, h2, h3, h4, h5, h6⟩ := hs
  have e : ∀ {a0 b0 a1 b1 a2 b2} {a3 b3 : FVec Ideal Cert.KernelIdeal.S1x1x256x60 .f32} {a4 b4 : FVec Ideal Cert.KernelIdeal.S60 .f32}, a0 = b0 → a1 = b1 → a2 = b2 → a3 = b3 → a4 = b4 →
      score a0 a1 a2 (fun d => a3 (ix4 0 0 d a)) (a4 (ix1 a)) y x = score b0 b1 b2 (fun d => b3 (ix4 0 0 d a)) (b4 (ix1 a)) y x := by
    rintro _ _ _ _ _ _ _ _ _ _ rfl rfl rfl rfl rfl; rfl
  exact e h0 h1 h2 h5 h6

/-- The score arrays are equal. -/
theorem scores_eq : (Cert.ReferenceIdeal.Val.R5 (Cert.ReferenceIdeal.Val.start m' c) (Proc.devRef .tc Cert.ReferenceIdeal.main_v79) : FVec Ideal Cert.KernelIdeal.S37500 .f32)
    = (Cert.KernelIdeal.Gen.V25 m (Cert.KernelIdeal.Hand.outs m) c (Proc.devRef .tc Cert.KernelIdeal.main_v29) : FVec Ideal Cert.KernelIdeal.S37500 .f32) := by
  funext i
  rw [eq_ix1 i]
  exact (Cert.ReferenceIdeal.Val.R5_v79 _ _).trans ((cls_eq m m' c hs _ _ _).trans (Cert.KernelIdeal.Val.v29_at m c _).symm)

/-- The box arrays are equal. -/
theorem boxes_eq : (Cert.ReferenceIdeal.Val.R5 (Cert.ReferenceIdeal.Val.start m' c) (Proc.devRef .tc Cert.ReferenceIdeal.main_v144) : FVec Ideal Cert.KernelIdeal.S37500x4 .f32)
    = (Cert.KernelIdeal.Gen.V25 m (Cert.KernelIdeal.Hand.outs m) c (Proc.devRef .tc Cert.KernelIdeal.main_v35) : FVec Ideal Cert.KernelIdeal.S37500x4 .f32) := by
  have hb := box_eq m m' c hs
  funext i
  rw [eq_ix2 i]
  obtain ⟨n, hn⟩ : ∃ n : Fin 37500, n = i 0 := ⟨_, rfl⟩
  obtain ⟨k, hk⟩ : ∃ k : Fin 4, k = i 1 := ⟨_, rfl⟩
  rw [← hn, ← hk]
  clear hn hk
  match k with
  | 0 => exact (Cert.ReferenceIdeal.Val.R5_v144_0 _ n).trans (((congrArg₂ (fun d l => Spec.lo d l _ _) (hb _ _ _) (hb _ _ _))).trans (Cert.KernelIdeal.Val.v35_at0 m c n).symm)
  | 1 => exact (Cert.ReferenceIdeal.Val.R5_v144_1 _ n).trans (((congrArg₂ (fun d l => Spec.lo d l _ _) (hb _ _ _) (hb _ _ _))).trans (Cert.KernelIdeal.Val.v35_at1 m c n).symm)
  | 2 => exact (Cert.ReferenceIdeal.Val.R5_v144_2 _ n).trans (((congrArg₂ (fun d l => Spec.hi d l _ _) (hb _ _ _) (hb _ _ _))).trans (Cert.KernelIdeal.Val.v35_at2 m c n).symm)
  | 3 => exact (Cert.ReferenceIdeal.Val.R5_v144_3 _ n).trans (((congrArg₂ (fun d l => Spec.hi d l _ _) (hb _ _ _) (hb _ _ _))).trans (Cert.KernelIdeal.Val.v35_at3 m c n).symm)

/-- The chosen boxes are equal. -/
theorem chosen_eq : (Cert.ReferenceIdeal.Val.G (Cert.ReferenceIdeal.Val.start m' c) : FVec Ideal Cert.KernelIdeal.S2000x4 .f32) = Cert.KernelIdeal.Val.G m c := by
  have e : ∀ {T T' : FVec Ideal Cert.KernelIdeal.S37500 .f32} {D D' : FVec Ideal Cert.KernelIdeal.S37500x4 .f32}, T = T' → D = D' →
      (Cert.ReferenceIdeal.Val.chosen T D : FVec Ideal Cert.KernelIdeal.S2000x4 .f32) = Cert.KernelIdeal.Val.chosen T' D' := by
    rintro _ _ _ _ rfl rfl; rfl
  exact e (scores_eq m m' c hs) (boxes_eq m m' c hs)

/-- The chosen scores are equal. -/
theorem tops_eq : (Cert.ReferenceIdeal.Val.tops m' c : FVec Ideal Cert.KernelIdeal.S2000 .f32) = Cert.KernelIdeal.Val.tops m c := by
  have e : ∀ {T T' : FVec Ideal Cert.KernelIdeal.S37500 .f32}, T = T' →
      ((Host.topK Cert.ReferenceIdeal.S2000 0 (FloatOps.cmpfTotal (F := Ideal) (φ := .f32) .gt) T Cert.ReferenceIdeal.Gen.sliceFits_S37500_S2000).1 : FVec Ideal Cert.KernelIdeal.S2000 .f32)
      = (Host.topK Cert.KernelIdeal.S2000 0 (FloatOps.cmpfTotal (F := Ideal) (φ := .f32) .gt) T' Cert.KernelIdeal.Gen.sliceFits_S37500_S2000).1 := by
    rintro _ _ rfl; rfl
  exact e (scores_eq m m' c hs)

/-- The results are equal, when every score is above the number that marks a struck box. -/
theorem result_eq (hv : ∀ (y x : ℕ), y < 50 → x < 50 → ∀ a : Fin 15, Cert.ReferenceIdeal.Val.low < Cert.KernelIdeal.Val.cls m c a y x) :
    (Cert.ReferenceIdeal.Hand.final m' c (Proc.devRef .tc Cert.ReferenceIdeal.main_v209) : FVec Ideal Cert.KernelIdeal.S1000x5 .f32)
      = (Cert.KernelIdeal.Gen.V29 m (Cert.KernelIdeal.Hand.outs m) c (Proc.devRef .tc Cert.KernelIdeal.main_v50) : FVec Ideal Cert.KernelIdeal.S1000x5 .f32) := by
  have hlow : ∀ i : Fin 37500, Cert.ReferenceIdeal.Val.low < (Cert.ReferenceIdeal.Val.R5 (Cert.ReferenceIdeal.Val.start m' c) (Proc.devRef .tc Cert.ReferenceIdeal.main_v79) : FVec Ideal Cert.KernelIdeal.S37500 .f32) (ix1 i) := by
    intro i
    refine lt_of_lt_of_eq (hv (i.val / 750) (i.val / 15 % 50) (by omega) (by omega) ⟨i.val % 15, by omega⟩) ?_
    exact ((Cert.ReferenceIdeal.Val.R5_v79 _ i).trans (cls_eq m m' c hs _ _ _)).symm
  exact glue _ _ _ _ _ _ (Cert.ReferenceIdeal.Val.corner (Cert.ReferenceIdeal.Val.start m' c))
    (fun y k p hp => Cert.ReferenceIdeal.Val.final_at m' c hlow y k p hp)
    (fun hD y k p hp => Cert.KernelIdeal.Val.result_at m c _ hD y k p hp)
    (Cert.ReferenceIdeal.Val.corner_at _) (chosen_eq m m' c hs) (tops_eq m m' c hs)

end

end Cert.Join
-- ==== Proof.Value.Above.lean ====
/- The precondition, read: every class score is above the number that marks a struck box. -/
module

public import proofs.«01_k».proof.Pre_scores_above_mask
public import proofs.«01_k».proof.Proof.Value.Spec
public import Idealize.ShloMosaic.Lib.IdealHost
public import Idealize.ShloMosaic.Lib.ReduceAll
public import Idealize.ShloMosaic.Lib.Pointwise
public import Idealize.ShloMosaic.Lib.StableHlo.ReadAt

@[expose] public section

set_option maxRecDepth 16384

noncomputable section

namespace Cert.Pre_scores_above_mask

open Idealize.ShloMosaic

/-- The side conditions of the predicate's operations hold. -/
theorem facts : Facts := by
  constructor <;> decide

section
variable [Facts]

/-- The padded map holds the feature map with a border of one zero. -/
theorem padded_at (a0 : FVec Ideal S1x50x50x256 .f32) (c : IVec S_ 32) (hc : ∀ i, c i = 0#32) (r s : Fin 52) (k : Fin 256) :
    fn_pad (F := Ideal) a0 c (ix4 0 r s k) = Spec.padded (fun y x k => a0 (ix4 0 y x k)) r s k := by
  unfold fn_pad
  pointwise
  rw [hc]
  rfl

/-- The last part of the predicate, as a bound on one score. -/
theorem last_part (a2 : FVec Ideal S256 .f32) (a3 : FVec Ideal S1x1x256x15 .f32) (a4 : FVec Ideal S15 .f32) (u v : FVec Ideal S1x50x50x256 .f32)
    (j : S_.Idx) (h : fn_part2 (F := Ideal) a2 a3 a4 u v j = 1#1) (y x : Fin 50) (a : Fin 15) :
    Ideal.ofBits FTy.f32 0xCE6E6B28#32 < (∑ d : Fin 256, @HMul.hMul EReal EReal EReal _ (@max EReal _ (@HAdd.hAdd EReal EReal EReal _ (@HAdd.hAdd EReal EReal EReal _ (u (ix4 0 y x d)) (v (ix4 0 y x d))) (a2 (ix1 d))) 0) (a3 (ix4 0 0 d a))) + a4 (ix1 a) := by
  unfold fn_part2 at h
  dsimp only at h
  have := Subsingleton.intro (fun (i k : S_.Idx) => by funext z; exact z.elim0)
  have e := Host.reduce_andi_all _ _ _ _ _ h (ix4 0 y x a)
  clear h
  revert e
  pointwise [fn_relu]
  intro e
  by_contra hn
  rw [decide_eq_false hn] at e
  exact absurd e (by decide)

/-- Under the precondition every class score is above the number that marks a struck box. -/
theorem scores_above (a0 : FVec Ideal S1x50x50x256 .f32) (a1 : FVec Ideal S3x3x256x256 .f32) (a2 : FVec Ideal S256 .f32) (a3 : FVec Ideal S1x1x256x15 .f32)
    (a4 : FVec Ideal S15 .f32) (a5 : FVec Ideal S1x1x256x60 .f32) (a6 : FVec Ideal S60 .f32)
    (j : S_.Idx) (h : fn (F := Ideal) a0 a1 a2 a3 a4 a5 a6 j = 1#1) (y x : Fin 50) (a : Fin 15) :
    Ideal.ofBits FTy.f32 0xCE6E6B28#32 < Spec.head (Spec.padded (fun y x k => a0 (ix4 0 y x k))) (fun t k d => a1 (ix4 ⟨t.val / 3, by omega⟩ ⟨t.val % 3, by omega⟩ k d))
      (fun d => a2 (ix1 d)) (fun d => a3 (ix4 0 0 d a)) (a4 (ix1 a)) y x := by
  have hP := padded_at a0 (constantI S_ 32 0#32) (fun _ => rfl)
  unfold fn at h
  dsimp only at h
  generalize fn_pad (F := Ideal) a0 (constantI S_ 32 0#32) = p at h hP
  generalize hQ : Spec.padded (fun y x k => a0 (ix4 0 y x k)) = Q at hP
  have hP' : ∀ (r s : ℕ) (hr : r < 52) (hs : s < 52) (k : Fin 256), p (ix4 0 ⟨r, hr⟩ ⟨s, hs⟩ k) = Q r s k := fun r s hr hs k => hP ⟨r, hr⟩ ⟨s, hs⟩ k
  unfold fn_part1 at h
  dsimp only at h
  refine lt_of_lt_of_eq (last_part a2 a3 a4 _ _ j h y x a) ?_
  refine congrArg (fun z : EReal => z + _) (Finset.sum_congr rfl fun d _ => congrArg (fun z : EReal => z * _) ?_)
  clear h
  obtain ⟨R, hR⟩ : ∃ R : EReal, R = Spec.feat Q (fun t k d => a1 (ix4 ⟨t.val / 3, by omega⟩ ⟨t.val % 3, by omega⟩ k d)) (fun d => a2 (ix1 d)) y x d := ⟨_, rfl⟩
  refine Eq.trans ?_ hR
  pointwise
  simp only [hP']
  rw [hR]
  rfl

end

end Cert.Pre_scores_above_mask
-- ==== Proof.lean ====
module

public import proofs.«01_k».proof.Defs
public import proofs.«01_k».proof.Proof.RunK.Total
public import proofs.«01_k».proof.Proof.Run.Total
public import proofs.«01_k».proof.Proof.Ref.Frame
public import proofs.«01_k».proof.Proof.Value.Join
public import proofs.«01_k».proof.Proof.Value.Above

@[expose] public section

noncomputable section

namespace Cert.Proof

open Idealize.ShloMosaic Idealize.SL.Sem

theorem frame_kernel : Cert.quiescent_Kernel (hKernel := Cert.Kernel.Gen.facts) := fun m g _ =>
  (θ_run _ _ _).mono (fun r h => ⟨fun c => ⟨(h.1 c).1, (h.1 c).2.1, (h.1 c).2.2.1, (h.1 c).2.2.2.1, (h.1 c).2.2.2.2.1, (h.1 c).2.2.2.2.2.1, (h.1 c).2.2.2.2.2.2.1⟩, h.2⟩)
    (Cert.Kernel.Hand.run_total m g)

theorem frame_kernel_ideal : Cert.quiescent_KernelIdeal (hKernelIdeal := Cert.KernelIdeal.Gen.facts) := fun m g _ =>
  (θ_run _ _ _).mono (fun r h => ⟨fun c => ⟨(h.1 c).1, (h.1 c).2.1, (h.1 c).2.2.1, (h.1 c).2.2.2.1, (h.1 c).2.2.2.2.1, (h.1 c).2.2.2.2.2.1, (h.1 c).2.2.2.2.2.2.1⟩, h.2⟩)
    (Cert.KernelIdeal.Hand.run_total m g)

theorem frame_reference : Cert.quiescent_ReferenceIdeal (hReferenceIdeal := Cert.ReferenceIdeal.Gen.facts) := fun m g _ =>
  (θ_run _ _ _).mono (fun r h => ⟨fun c => ⟨(h.1 c).1, (h.1 c).2.1, (h.1 c).2.2.1, (h.1 c).2.2.2.1, (h.1 c).2.2.2.2.1, (h.1 c).2.2.2.2.2.1, (h.1 c).2.2.2.2.2.2.1⟩, h.2⟩)
    (Cert.ReferenceIdeal.Hand.run_total m g)

theorem frame_kernel_ideal_pre : Cert.quiescent_KernelIdeal_pre_scores_above_mask (hKernelIdeal := Cert.KernelIdeal.Gen.facts) (hPre_scores_above_mask := Cert.Pre_scores_above_mask.facts) :=
  fun m g _ => frame_kernel_ideal m g trivial

theorem frame_reference_pre : Cert.quiescent_ReferenceIdeal_pre_scores_above_mask (hReferenceIdeal := Cert.ReferenceIdeal.Gen.facts) (hPre_scores_above_mask := Cert.Pre_scores_above_mask.facts) :=
  fun m g _ => frame_reference m g trivial

/-- Under the precondition every score of the kernel is above the number that marks a struck box. -/
theorem above (m : (ℓ : Loc Cert.KernelIdeal.nD Cert.KernelIdeal.τ Cert.KernelIdeal.sig) → Buf (Elt Ideal) ℓ)
    (hpre : Cert.Pre_KernelIdeal_scores_above_mask (hPre_scores_above_mask := Cert.Pre_scores_above_mask.facts) m) (c : Dev Cert.KernelIdeal.nD)
    (y x : ℕ) (hy : y < 50) (hx : x < 50) (a : Fin 15) : Cert.ReferenceIdeal.Val.low < Cert.KernelIdeal.Val.cls m c a y x :=
  letI := Cert.Pre_scores_above_mask.facts
  Cert.Pre_scores_above_mask.scores_above _ _ _ _ _ _ _ (fun i => i.elim0) (congrFun (hpre c) _) ⟨y, hy⟩ ⟨x, hx⟩ a

/-- The kernel and the reference return the same array on the same arguments. -/
theorem value : Cert.algebraic_KernelIdeal_ReferenceIdeal_pre_scores_above_mask (hKernelIdeal := Cert.KernelIdeal.Gen.facts) (hReferenceIdeal := Cert.ReferenceIdeal.Gen.facts) (hPre_scores_above_mask := Cert.Pre_scores_above_mask.facts) :=
  fun m g m' g' hpre hargs =>
  ⟨fun c => Cert.KernelIdeal.Gen.V29 m (Cert.KernelIdeal.Hand.outs m) c (Proc.devRef .tc Cert.KernelIdeal.main_v50),
   (θ_run _ _ _).mono (fun r h c => ⟨(h.1 c).2.2.2.2.2.2.2, (h.1 c).1, (h.1 c).2.1, (h.1 c).2.2.1, (h.1 c).2.2.2.1, (h.1 c).2.2.2.2.1, (h.1 c).2.2.2.2.2.1, (h.1 c).2.2.2.2.2.2.1⟩)
     (Cert.KernelIdeal.Hand.run_total m g),
   (θ_run _ _ _).mono (fun r h c => ⟨(h.1 c).2.2.2.2.2.2.2.trans (Cert.Join.result_eq m m' c (hargs c) (above m hpre c)), (h.1 c).1, (h.1 c).2.1, (h.1 c).2.2.1, (h.1 c).2.2.2.1, (h.1 c).2.2.2.2.1, (h.1 c).2.2.2.2.2.1, (h.1 c).2.2.2.2.2.2.1⟩)
     (Cert.ReferenceIdeal.Hand.run_total m' g')⟩

theorem claim : Cert.Claim := ⟨Cert.Kernel.Gen.facts, Cert.KernelIdeal.Gen.facts, Cert.ReferenceIdeal.Gen.facts, Cert.Pre_scores_above_mask.facts,
  frame_kernel, frame_kernel_ideal, frame_kernel_ideal_pre, frame_reference, frame_reference_pre, trivial, value⟩

end Cert.Proof

end
